-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_arguments2 [hPre_finite_arguments2 : Cert.Pre_finite_arguments2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_arguments2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_arguments2 [hPre_finite_arguments2 : Cert.Pre_finite_arguments2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_arguments2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_arguments3 [hPre_finite_arguments3 : Cert.Pre_finite_arguments3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_arguments3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_arguments3 [hPre_finite_arguments3 : Cert.Pre_finite_arguments3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_arguments3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_arguments4 [hPre_finite_arguments4 : Cert.Pre_finite_arguments4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_arguments4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_arguments4 [hPre_finite_arguments4 : Cert.Pre_finite_arguments4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_arguments4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_arguments6 [hPre_finite_arguments6 : Cert.Pre_finite_arguments6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_arguments6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_arguments6 [hPre_finite_arguments6 : Cert.Pre_finite_arguments6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_arguments6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_arguments7 [hPre_finite_arguments7 : Cert.Pre_finite_arguments7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_arguments7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_arguments7 [hPre_finite_arguments7 : Cert.Pre_finite_arguments7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_arguments7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_arguments2 [hKernel2Ideal : Cert.Kernel2Ideal.Facts] [hPre_finite_arguments2 : Cert.Pre_finite_arguments2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_arguments2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_arguments2 [hReference2Ideal : Cert.Reference2Ideal.Facts] [hPre_finite_arguments2 : Cert.Pre_finite_arguments2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_arguments2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_arguments3 [hKernel3Ideal : Cert.Kernel3Ideal.Facts] [hPre_finite_arguments3 : Cert.Pre_finite_arguments3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_arguments3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_arguments3 [hReference3Ideal : Cert.Reference3Ideal.Facts] [hPre_finite_arguments3 : Cert.Pre_finite_arguments3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_arguments3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_arguments4 [hKernel4Ideal : Cert.Kernel4Ideal.Facts] [hPre_finite_arguments4 : Cert.Pre_finite_arguments4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_arguments4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_arguments4 [hReference4Ideal : Cert.Reference4Ideal.Facts] [hPre_finite_arguments4 : Cert.Pre_finite_arguments4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_arguments4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_arguments6 [hKernel6Ideal : Cert.Kernel6Ideal.Facts] [hPre_finite_arguments6 : Cert.Pre_finite_arguments6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_arguments6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_arguments6 [hReference6Ideal : Cert.Reference6Ideal.Facts] [hPre_finite_arguments6 : Cert.Pre_finite_arguments6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_arguments6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_arguments7 [hKernel7Ideal : Cert.Kernel7Ideal.Facts] [hPre_finite_arguments7 : Cert.Pre_finite_arguments7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_arguments7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_arguments7 [hReference7Ideal : Cert.Reference7Ideal.Facts] [hPre_finite_arguments7 : Cert.Pre_finite_arguments7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_arguments7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "cubic" .f32 0x3D372713#32 ((8943 / 200000 : ℝ) : EReal)
  ∧ IdealRules.named_const.Statement Cert.KernelIdeal.κ "cubic3" .f32 0x3E095D4F#32 ((26829 / 200000 : ℝ) : EReal)

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v9_1)) (v4 : (c : Dev Cert.KernelIdeal.nD) → Buf (Elt Ideal) ((c.tc : Thread Cert.KernelIdeal.nD Cert.KernelIdeal.τ).loc Cert.KernelIdeal.main_v9_2)) (v5 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v9_1) = v3 c
          ∧ r.2.mem ((c.tc : Thread Cert.KernelIdeal.nD Cert.KernelIdeal.τ).loc Cert.KernelIdeal.main_v9_2) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v117) = v3 c
          ∧ r.2.mem ((c.tc : Thread Cert.ReferenceIdeal.nD Cert.ReferenceIdeal.τ).loc Cert.ReferenceIdeal.main_v118) = v4 c
          ∧ r.2.mem ((c.tc : Thread Cert.ReferenceIdeal.nD Cert.ReferenceIdeal.τ).loc Cert.ReferenceIdeal.main_v58) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_arguments2 [hKernel2Ideal : Cert.Kernel2Ideal.Facts] [hReference2Ideal : Cert.Reference2Ideal.Facts] [hPre_finite_arguments2 : Cert.Pre_finite_arguments2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_arguments2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v4_0)) (v3 : (c : Dev Cert.Kernel2Ideal.nD) → Buf (Elt Ideal) ((c.tc : Thread Cert.Kernel2Ideal.nD Cert.Kernel2Ideal.τ).loc Cert.Kernel2Ideal.main_v5)) (v4 : (c : Dev Cert.Kernel2Ideal.nD) → Buf (Elt Ideal) ((c.tc : Thread Cert.Kernel2Ideal.nD Cert.Kernel2Ideal.τ).loc Cert.Kernel2Ideal.main_v6)) (v5 : (c : Dev Cert.Kernel2Ideal.nD) → Buf (Elt Ideal) ((c.tc : Thread Cert.Kernel2Ideal.nD Cert.Kernel2Ideal.τ).loc Cert.Kernel2Ideal.main_v4_2)) (v6 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v4_0) = v2 c
          ∧ r.2.mem ((c.tc : Thread Cert.Kernel2Ideal.nD Cert.Kernel2Ideal.τ).loc Cert.Kernel2Ideal.main_v5) = v3 c
          ∧ r.2.mem ((c.tc : Thread Cert.Kernel2Ideal.nD Cert.Kernel2Ideal.τ).loc Cert.Kernel2Ideal.main_v6) = v4 c
          ∧ r.2.mem ((c.tc : Thread Cert.Kernel2Ideal.nD Cert.Kernel2Ideal.τ).loc Cert.Kernel2Ideal.main_v4_2) = v5 c
          ∧ r.2.mem ((c.tc : Thread Cert.Kernel2Ideal.nD Cert.Kernel2Ideal.τ).loc Cert.Kernel2Ideal.main_v4_3) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v81) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v80) = v3 c
          ∧ r.2.mem ((c.tc : Thread Cert.Reference2Ideal.nD Cert.Reference2Ideal.τ).loc Cert.Reference2Ideal.main_v79) = v4 c
          ∧ r.2.mem ((c.tc : Thread Cert.Reference2Ideal.nD Cert.Reference2Ideal.τ).loc Cert.Reference2Ideal.main_v82) = v5 c
          ∧ r.2.mem ((c.tc : Thread Cert.Reference2Ideal.nD Cert.Reference2Ideal.τ).loc Cert.Reference2Ideal.main_v83) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_arguments3 [hKernel3Ideal : Cert.Kernel3Ideal.Facts] [hReference3Ideal : Cert.Reference3Ideal.Facts] [hPre_finite_arguments3 : Cert.Pre_finite_arguments3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_arguments3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)) (v1 : (c : Dev Cert.Kernel3Ideal.nD) → Buf (Elt Ideal) ((c.tc : Thread Cert.Kernel3Ideal.nD Cert.Kernel3Ideal.τ).loc Cert.Kernel3Ideal.main_v6)) (v2 : (c : Dev Cert.Kernel3Ideal.nD) → Buf (Elt Ideal) ((c.tc : Thread Cert.Kernel3Ideal.nD Cert.Kernel3Ideal.τ).loc Cert.Kernel3Ideal.main_v8_0)) (v3 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_v6) = v1 c
          ∧ r.2.mem ((c.tc : Thread Cert.Kernel3Ideal.nD Cert.Kernel3Ideal.τ).loc Cert.Kernel3Ideal.main_v8_0) = v2 c
          ∧ r.2.mem ((c.tc : Thread Cert.Kernel3Ideal.nD Cert.Kernel3Ideal.τ).loc Cert.Kernel3Ideal.main_v8_1) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_v44) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_arguments4 [hKernel4Ideal : Cert.Kernel4Ideal.Facts] [hReference4Ideal : Cert.Reference4Ideal.Facts] [hPre_finite_arguments4 : Cert.Pre_finite_arguments4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_arguments4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v54) = v2 c
          ∧ r.2.mem ((c.tc : Thread Cert.Reference4Ideal.nD Cert.Reference4Ideal.τ).loc Cert.Reference4Ideal.main_v55) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v1_0)) (v4 : (c : Dev Cert.Kernel5Ideal.nD) → Buf (Elt Ideal) ((c.tc : Thread Cert.Kernel5Ideal.nD Cert.Kernel5Ideal.τ).loc Cert.Kernel5Ideal.main_v1_1)) (v5 : (c : Dev Cert.Kernel5Ideal.nD) → Buf (Elt Ideal) ((c.tc : Thread Cert.Kernel5Ideal.nD Cert.Kernel5Ideal.τ).loc Cert.Kernel5Ideal.main_v1_2)) (v6 : (c : Dev Cert.Kernel5Ideal.nD) → Buf (Elt Ideal) ((c.tc : Thread Cert.Kernel5Ideal.nD Cert.Kernel5Ideal.τ).loc Cert.Kernel5Ideal.main_v2_0)) (v7 : (c : Dev Cert.Kernel5Ideal.nD) → Buf (Elt Ideal) ((c.tc : Thread Cert.Kernel5Ideal.nD Cert.Kernel5Ideal.τ).loc Cert.Kernel5Ideal.main_v2_1)) (v8 : (c : Dev Cert.Kernel5Ideal.nD) → Buf (Elt Ideal) ((c.tc : Thread Cert.Kernel5Ideal.nD Cert.Kernel5Ideal.τ).loc Cert.Kernel5Ideal.main_v2_2)) (v9 : (c : Dev Cert.Kernel5Ideal.nD) → Buf (Elt Ideal) ((c.tc : Thread Cert.Kernel5Ideal.nD Cert.Kernel5Ideal.τ).loc Cert.Kernel5Ideal.main_v3_0)) (v10 : (c : Dev Cert.Kernel5Ideal.nD) → Buf (Elt Ideal) ((c.tc : Thread Cert.Kernel5Ideal.nD Cert.Kernel5Ideal.τ).loc Cert.Kernel5Ideal.main_v3_1)) (v11 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v1_0) = v3 c
          ∧ r.2.mem ((c.tc : Thread Cert.Kernel5Ideal.nD Cert.Kernel5Ideal.τ).loc Cert.Kernel5Ideal.main_v1_1) = v4 c
          ∧ r.2.mem ((c.tc : Thread Cert.Kernel5Ideal.nD Cert.Kernel5Ideal.τ).loc Cert.Kernel5Ideal.main_v1_2) = v5 c
          ∧ r.2.mem ((c.tc : Thread Cert.Kernel5Ideal.nD Cert.Kernel5Ideal.τ).loc Cert.Kernel5Ideal.main_v2_0) = v6 c
          ∧ r.2.mem ((c.tc : Thread Cert.Kernel5Ideal.nD Cert.Kernel5Ideal.τ).loc Cert.Kernel5Ideal.main_v2_1) = v7 c
          ∧ r.2.mem ((c.tc : Thread Cert.Kernel5Ideal.nD Cert.Kernel5Ideal.τ).loc Cert.Kernel5Ideal.main_v2_2) = v8 c
          ∧ r.2.mem ((c.tc : Thread Cert.Kernel5Ideal.nD Cert.Kernel5Ideal.τ).loc Cert.Kernel5Ideal.main_v3_0) = v9 c
          ∧ r.2.mem ((c.tc : Thread Cert.Kernel5Ideal.nD Cert.Kernel5Ideal.τ).loc Cert.Kernel5Ideal.main_v3_1) = v10 c
          ∧ r.2.mem ((c.tc : Thread Cert.Kernel5Ideal.nD Cert.Kernel5Ideal.τ).loc Cert.Kernel5Ideal.main_v3_2) = v11 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v47) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v34) = v5 c
          ∧ r.2.mem ((c.tc : Thread Cert.Reference5Ideal.nD Cert.Reference5Ideal.τ).loc Cert.Reference5Ideal.main_v71) = v6 c
          ∧ r.2.mem ((c.tc : Thread Cert.Reference5Ideal.nD Cert.Reference5Ideal.τ).loc Cert.Reference5Ideal.main_v52) = v7 c
          ∧ r.2.mem ((c.tc : Thread Cert.Reference5Ideal.nD Cert.Reference5Ideal.τ).loc Cert.Reference5Ideal.main_v58) = v8 c
          ∧ r.2.mem ((c.tc : Thread Cert.Reference5Ideal.nD Cert.Reference5Ideal.τ).loc Cert.Reference5Ideal.main_v95) = v9 c
          ∧ r.2.mem ((c.tc : Thread Cert.Reference5Ideal.nD Cert.Reference5Ideal.τ).loc Cert.Reference5Ideal.main_v76) = v10 c
          ∧ r.2.mem ((c.tc : Thread Cert.Reference5Ideal.nD Cert.Reference5Ideal.τ).loc Cert.Reference5Ideal.main_v82) = v11 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def preserves_Kernel6_Kernel6Ideal : Prop :=
  True

def algebraic_Kernel6Ideal_Reference6Ideal_pre_finite_arguments6 [hKernel6Ideal : Cert.Kernel6Ideal.Facts] [hReference6Ideal : Cert.Reference6Ideal.Facts] [hPre_finite_arguments6 : Cert.Pre_finite_arguments6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_arguments6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v7)) (v1 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_v9) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v13) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_arguments7 [hKernel7Ideal : Cert.Kernel7Ideal.Facts] [hReference7Ideal : Cert.Reference7Ideal.Facts] [hPre_finite_arguments7 : Cert.Pre_finite_arguments7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_arguments7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_arguments : Cert.Pre_finite_arguments.Facts) (hPre_finite_arguments2 : Cert.Pre_finite_arguments2.Facts) (hPre_finite_arguments3 : Cert.Pre_finite_arguments3.Facts) (hPre_finite_arguments4 : Cert.Pre_finite_arguments4.Facts) (hPre_finite_arguments6 : Cert.Pre_finite_arguments6.Facts) (hPre_finite_arguments7 : Cert.Pre_finite_arguments7.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Kernel2Ideal_pre_finite_arguments2 (hKernel2Ideal := hKernel2Ideal) (hPre_finite_arguments2 := hPre_finite_arguments2)
    ∧ quiescent_Reference2Ideal (hReference2Ideal := hReference2Ideal)
    ∧ quiescent_Reference2Ideal_pre_finite_arguments2 (hReference2Ideal := hReference2Ideal) (hPre_finite_arguments2 := hPre_finite_arguments2)
    ∧ quiescent_Kernel3 (hKernel3 := hKernel3)
    ∧ quiescent_Kernel3Ideal (hKernel3Ideal := hKernel3Ideal)
    ∧ quiescent_Kernel3Ideal_pre_finite_arguments3 (hKernel3Ideal := hKernel3Ideal) (hPre_finite_arguments3 := hPre_finite_arguments3)
    ∧ quiescent_Reference3Ideal (hReference3Ideal := hReference3Ideal)
    ∧ quiescent_Reference3Ideal_pre_finite_arguments3 (hReference3Ideal := hReference3Ideal) (hPre_finite_arguments3 := hPre_finite_arguments3)
    ∧ quiescent_Kernel4 (hKernel4 := hKernel4)
    ∧ quiescent_Kernel4Ideal (hKernel4Ideal := hKernel4Ideal)
    ∧ quiescent_Kernel4Ideal_pre_finite_arguments4 (hKernel4Ideal := hKernel4Ideal) (hPre_finite_arguments4 := hPre_finite_arguments4)
    ∧ quiescent_Reference4Ideal (hReference4Ideal := hReference4Ideal)
    ∧ quiescent_Reference4Ideal_pre_finite_arguments4 (hReference4Ideal := hReference4Ideal) (hPre_finite_arguments4 := hPre_finite_arguments4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_arguments6 (hKernel6Ideal := hKernel6Ideal) (hPre_finite_arguments6 := hPre_finite_arguments6)
    ∧ quiescent_Reference6Ideal (hReference6Ideal := hReference6Ideal)
    ∧ quiescent_Reference6Ideal_pre_finite_arguments6 (hReference6Ideal := hReference6Ideal) (hPre_finite_arguments6 := hPre_finite_arguments6)
    ∧ quiescent_Kernel7 (hKernel7 := hKernel7)
    ∧ quiescent_Kernel7Ideal (hKernel7Ideal := hKernel7Ideal)
    ∧ quiescent_Kernel7Ideal_pre_finite_arguments7 (hKernel7Ideal := hKernel7Ideal) (hPre_finite_arguments7 := hPre_finite_arguments7)
    ∧ quiescent_Reference7Ideal (hReference7Ideal := hReference7Ideal)
    ∧ quiescent_Reference7Ideal_pre_finite_arguments7 (hReference7Ideal := hReference7Ideal) (hPre_finite_arguments7 := hPre_finite_arguments7)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal_pre_finite_arguments2 (hKernel2Ideal := hKernel2Ideal) (hReference2Ideal := hReference2Ideal) (hPre_finite_arguments2 := hPre_finite_arguments2)
    ∧ preserves_Kernel3_Kernel3Ideal
    ∧ algebraic_Kernel3Ideal_Reference3Ideal_pre_finite_arguments3 (hKernel3Ideal := hKernel3Ideal) (hReference3Ideal := hReference3Ideal) (hPre_finite_arguments3 := hPre_finite_arguments3)
    ∧ preserves_Kernel4_Kernel4Ideal
    ∧ algebraic_Kernel4Ideal_Reference4Ideal_pre_finite_arguments4 (hKernel4Ideal := hKernel4Ideal) (hReference4Ideal := hReference4Ideal) (hPre_finite_arguments4 := hPre_finite_arguments4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_arguments6 (hKernel6Ideal := hKernel6Ideal) (hReference6Ideal := hReference6Ideal) (hPre_finite_arguments6 := hPre_finite_arguments6)
    ∧ preserves_Kernel7_Kernel7Ideal
    ∧ algebraic_Kernel7Ideal_Reference7Ideal_pre_finite_arguments7 (hKernel7Ideal := hKernel7Ideal) (hReference7Ideal := hReference7Ideal) (hPre_finite_arguments7 := hPre_finite_arguments7)
-- ==== Pre_finite_arguments.lean ====
abbrev S2048x1024 : Shape := ⟨2, ![2048, 1024]⟩
abbrev S1024x8192 : Shape := ⟨2, ![1024, 8192]⟩
abbrev S3x8192 : Shape := ⟨2, ![3, 8192]⟩
abbrev S1x8192 : Shape := ⟨2, ![1, 8192]⟩
abbrev S4096x1024 : Shape := ⟨2, ![4096, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S3x8192 : S_.BroadcastsInDim S3x8192 (![] : Fin 0 → Fin S3x8192.rank)
  reducesTo_S3x8192_S_d0_1 : S3x8192.ReducesTo [0, 1] S_
  bcast_S_S1x8192 : S_.BroadcastsInDim S1x8192 (![] : Fin 0 → Fin S1x8192.rank)
  reducesTo_S1x8192_S_d0_1 : S1x8192.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_arg5 : FVec F S2048x1024 .f32) (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  main_v28

def fn {F : FTy → Type} [FloatOps F] (main_arg0 : FVec F S2048x1024 .f32) (main_arg1 : FVec F S1024x8192 .f32) (main_arg2 : FVec F S3x8192 .f32) (main_arg3 : FVec F S1x8192 .f32) (main_arg4 : FVec F S4096x1024 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S3x8192 .f32 := Host.absf main_arg2
  let main_cst_2 : FVec F S_ .f32 := constant S_ .f32 0x7F800000#32
  let main_v10 : FVec F S3x8192 .f32 := broadcastInDim S3x8192 ![] bcast_S_S3x8192 main_cst_2
  let main_v11 : IVec S3x8192 1 := cmpf .olt main_v9 main_v10
  let main_c_3 : IVec S_ 1 := constantI S_ 1 1#1
  let main_v12 : IVec S_ 1 := (fun x v => Host.reduce IntOp.andi x v reducesTo_S3x8192_S_d0_1 h_S_) main_v11 main_c_3
  let main_v13 : IVec S_ 1 := andi main_v8 main_v12
  let main_v14 : FVec F S1x8192 .f32 := Host.absf main_arg3
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_arg4 main_arg5 main_v13 main_v16
-- ==== Pre_finite_arguments2.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S2048x1024 .f32) (main_arg6 : FVec F S2048x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S2048x1024 .f32) (main_arg1 : FVec F S1024x1024 .f32) (main_arg2 : FVec F S2048x1024 .f32) (main_arg3 : FVec F S1x1024 .f32) (main_arg4 : FVec F S1x1024 .f32) (main_arg5 : FVec F S2048x1024 .f32) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_finite_arguments3.lean ====
abbrev S2048x1024 : Shape := ⟨2, ![2048, 1024]⟩
abbrev S1x1024 : Shape := ⟨2, ![1, 1024]⟩
abbrev S1024x2560 : Shape := ⟨2, ![1024, 2560]⟩
abbrev S2048x2560 : Shape := ⟨2, ![2048, 2560]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2560 : S_.BroadcastsInDim S1024x2560 (![] : Fin 0 → Fin S1024x2560.rank)
  reducesTo_S1024x2560_S_d0_1 : S1024x2560.ReducesTo [0, 1] S_
  bcast_S_S2048x2560 : S_.BroadcastsInDim S2048x2560 (![] : Fin 0 → Fin S2048x2560.rank)
  reducesTo_S2048x2560_S_d0_1 : S2048x2560.ReducesTo [0, 1] S_

variable [Facts]

def fn_part1 {F : FTy → Type} [FloatOps F] (main_v13 : IVec S_ 1) (main_v16 : IVec S2048x2560 1) : IVec S_ 1 :=
  let main_c_5 : IVec S_ 1 := constantI S_ 1 1#1
  let main_v17 : IVec S_ 1 := (fun x v => Host.reduce IntOp.andi x v reducesTo_S2048x2560_S_d0_1 h_S_) main_v16 main_c_5
  let main_v18 : IVec S_ 1 := andi main_v13 main_v17
  main_v18

def fn {F : FTy → Type} [FloatOps F] (main_arg0 : FVec F S2048x1024 .f32) (main_arg1 : FVec F S1x1024 .f32) (main_arg2 : FVec F S1024x2560 .f32) (main_arg3 : FVec F S2048x1024 .f32) (main_arg4 : FVec F S2048x2560 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2560 .f32 := Host.absf main_arg2
  let main_cst_2 : FVec F S_ .f32 := constant S_ .f32 0x7F800000#32
  let main_v10 : FVec F S1024x2560 .f32 := broadcastInDim S1024x2560 ![] bcast_S_S1024x2560 main_cst_2
  let main_v11 : IVec S1024x2560 1 := cmpf .olt main_v9 main_v10
  let main_c_3 : IVec S_ 1 := constantI S_ 1 1#1
  let main_v12 : IVec S_ 1 := (fun x v => Host.reduce IntOp.andi x v reducesTo_S1024x2560_S_d0_1 h_S_) main_v11 main_c_3
  let main_v13 : IVec S_ 1 := andi main_v8 main_v12
  let main_v14 : FVec F S2048x2560 .f32 := Host.absf main_arg4
  let main_cst_4 : FVec F S_ .f32 := constant S_ .f32 0x7F800000#32
  let main_v15 : FVec F S2048x2560 .f32 := broadcastInDim S2048x2560 ![] bcast_S_S2048x2560 main_cst_4
  let main_v16 : IVec S2048x2560 1 := cmpf .olt main_v14 main_v15
  fn_part1 (F := F) main_v13 main_v16
-- ==== Pre_finite_arguments4.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x1024 .f32) (main_arg1 : FVec F S2048x1024 .f32) (main_arg2 : FVec F S1x1024 .f32) (main_arg3 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_finite_arguments6.lean ====
abbrev S32x8 : Shape := ⟨2, ![32, 8]⟩
abbrev S1x32768 : Shape := ⟨2, ![1, 32768]⟩
abbrev S8x32768 : Shape := ⟨2, ![8, 32768]⟩
abbrev S_ : Shape := ⟨0, ![]⟩

class Facts : Prop where
  bcast_S_S32x8 : S_.BroadcastsInDim S32x8 (![] : Fin 0 → Fin S32x8.rank)
  reducesTo_S32x8_S_d0_1 : S32x8.ReducesTo [0, 1] S_
  h_S_ : 0 < S_.numel
  bcast_S_S8x32768 : S_.BroadcastsInDim S8x32768 (![] : Fin 0 → Fin S8x32768.rank)
  reducesTo_S8x32768_S_d0_1 : S8x32768.ReducesTo [0, 1] S_

variable [Facts]

def fn {F : FTy → Type} [FloatOps F] (main_arg0 : FVec F S32x8 .f32) (main_arg1 : IVec S1x32768 32) (main_arg2 : FVec F S8x32768 .f32) : IVec S_ 1 :=
  let main_v0 : FVec F S32x8 .f32 := Host.absf main_arg0
  let main_cst : FVec F S_ .f32 := constant S_ .f32 0x7F800000#32
  let main_v1 : FVec F S32x8 .f32 := broadcastInDim S32x8 ![] bcast_S_S32x8 main_cst
  let main_v2 : IVec S32x8 1 := cmpf .olt main_v0 main_v1
  let main_c : IVec S_ 1 := constantI S_ 1 1#1
  let main_v3 : IVec S_ 1 := (fun x v => Host.reduce IntOp.andi x v reducesTo_S32x8_S_d0_1 h_S_) main_v2 main_c
  let main_v4 : FVec F S8x32768 .f32 := Host.absf main_arg2
  let main_cst_0 : FVec F S_ .f32 := constant S_ .f32 0x7F800000#32
  let main_v5 : FVec F S8x32768 .f32 := broadcastInDim S8x32768 ![] bcast_S_S8x32768 main_cst_0
  let main_v6 : IVec S8x32768 1 := cmpf .olt main_v4 main_v5
  let main_c_1 : IVec S_ 1 := constantI S_ 1 1#1
  let main_v7 : IVec S_ 1 := (fun x v => Host.reduce IntOp.andi x v reducesTo_S8x32768_S_d0_1 h_S_) main_v6 main_c_1
  let main_v8 : IVec S_ 1 := andi main_v3 main_v7
  main_v8
-- ==== Pre_finite_arguments7.lean ====
abbrev S2048x512 : Shape := ⟨2, ![2048, 512]⟩
abbrev S2048x256 : Shape := ⟨2, ![2048, 256]⟩
abbrev S2048x1792 : Shape := ⟨2, ![2048, 1792]⟩
abbrev S1x1792 : Shape := ⟨2, ![1, 1792]⟩
abbrev S_ : Shape := ⟨0, ![]⟩

class Facts : Prop where
  bcast_S_S2048x1792 : S_.BroadcastsInDim S2048x1792 (![] : Fin 0 → Fin S2048x1792.rank)
  reducesTo_S2048x1792_S_d0_1 : S2048x1792.ReducesTo [0, 1] S_
  h_S_ : 0 < S_.numel

variable [Facts]

def fn {F : FTy → Type} [FloatOps F] (main_arg0 : FVec F S2048x512 .f32) (main_arg1 : FVec F S2048x256 .f32) (main_arg2 : FVec F S2048x1792 .f32) (main_arg3 : FVec F S1x1792 .f32) : IVec S_ 1 :=
  let main_v0 : FVec F S2048x1792 .f32 := Host.absf main_arg2
  let main_cst : FVec F S_ .f32 := constant S_ .f32 0x7F800000#32
  let main_v1 : FVec F S2048x1792 .f32 := broadcastInDim S2048x1792 ![] bcast_S_S2048x1792 main_cst
  let main_v2 : IVec S2048x1792 1 := cmpf .olt main_v0 main_v1
  let main_c : IVec S_ 1 := constantI S_ 1 1#1
  let main_v3 : IVec S_ 1 := (fun x v => Host.reduce IntOp.andi x v reducesTo_S2048x1792_S_d0_1 h_S_) main_v2 main_c
  main_v3
-- ==== Kernel.lean ====
abbrev S2048x1024 : Shape := ⟨2, ![2048, 1024]⟩
abbrev S1024x8192 : Shape := ⟨2, ![1024, 8192]⟩
abbrev S3x8192 : Shape := ⟨2, ![3, 8192]⟩
abbrev S1x8192 : Shape := ⟨2, ![1, 8192]⟩
abbrev S4096x1024 : Shape := ⟨2, ![4096, 1024]⟩
abbrev S1024x4x2048 : Shape := ⟨3, ![1024, 4, 2048]⟩
abbrev S4x1024x2048 : Shape := ⟨3, ![4, 1024, 2048]⟩
abbrev S2048x4096 : Shape := ⟨2, ![2048, 4096]⟩
abbrev S1x1024x256 : Shape := ⟨3, ![1, 1024, 256]⟩
abbrev S3x256 : Shape := ⟨2, ![3, 256]⟩
abbrev S1x256 : Shape := ⟨2, ![1, 256]⟩
abbrev S2048x256 : Shape := ⟨2, ![2048, 256]⟩
abbrev S1024x256 : Shape := ⟨2, ![1024, 256]⟩
abbrev S1024x4096 : Shape := ⟨2, ![1024, 4096]⟩
abbrev S4096x512 : Shape := ⟨2, ![4096, 512]⟩
abbrev S1024x512 : Shape := ⟨2, ![1024, 512]⟩
abbrev S1024x1024 : Shape := ⟨2, ![1024, 1024]⟩
abbrev S2x2048x4096 : Shape := ⟨3, ![2, 2048, 4096]⟩
abbrev S2x3x4096 : Shape := ⟨3, ![2, 3, 4096]⟩
abbrev S2x1x4096 : Shape := ⟨3, ![2, 1, 4096]⟩
abbrev S256x1024 : Shape := ⟨2, ![256, 1024]⟩
abbrev S2x2048x256 : Shape := ⟨3, ![2, 2048, 256]⟩
abbrev S2x3x256 : Shape := ⟨3, ![2, 3, 256]⟩
abbrev S2x1x256 : Shape := ⟨3, ![2, 1, 256]⟩
abbrev S1x2048x256 : Shape := ⟨3, ![1, 2048, 256]⟩
abbrev S256 : Shape := ⟨1, ![256]⟩
abbrev S1x1x256 : Shape := ⟨3, ![1, 1, 256]⟩
abbrev S1x3x256 : Shape := ⟨3, ![1, 3, 256]⟩
abbrev S2x512x4096 : Shape := ⟨3, ![2, 512, 4096]⟩
abbrev S4x512x2048 : Shape := ⟨3, ![4, 512, 2048]⟩
abbrev S512x512 : Shape := ⟨2, ![512, 512]⟩
abbrev S1x512x2048 : Shape := ⟨3, ![1, 512, 2048]⟩
abbrev S512x2048 : Shape := ⟨2, ![512, 2048]⟩
abbrev S1x2048x1024 : Shape := ⟨3, ![1, 2048, 1024]⟩
abbrev S1x1024x1024 : Shape := ⟨3, ![1, 1024, 1024]⟩

abbrev nBuf : Space → Nat
  | .hbm => 24
  | .vmem => 66
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S3x8192, .f32⟩
  | .hbm, ⟨3, _⟩ => ⟨S1x8192, .f32⟩
  | .hbm, ⟨4, _⟩ => ⟨S4096x1024, .f32⟩
  | .hbm, ⟨5, _⟩ => ⟨S2048x1024, .f32⟩
  | .hbm, ⟨6, _⟩ => ⟨S2048x1024, .bf16⟩
  | .hbm, ⟨7, _⟩ => ⟨S1024x8192, .bf16⟩
  | .hbm, ⟨8, _⟩ => ⟨S1024x4x2048, .bf16⟩
  | .hbm, ⟨9, _⟩ => ⟨S4x1024x2048, .bf16⟩
  | .hbm, ⟨10, _⟩ => ⟨S4096x1024, .bf16⟩
  | .hbm, ⟨11, _⟩ => ⟨S2048x1024, .bf16⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .bf16⟩
  | .hbm, ⟨17, _⟩ => ⟨S2048x1024, .f32⟩
  | .hbm, ⟨18, _⟩ => ⟨S4096x1024, .f32⟩
  | .hbm, ⟨19, _⟩ => ⟨S2x2048x4096, .bf16⟩
  | .hbm, ⟨20, _⟩ => ⟨S2x3x4096, .f32⟩
  | .hbm, ⟨21, _⟩ => ⟨S2x1x4096, .f32⟩
  | .hbm, ⟨22, _⟩ => ⟨S2048x1024, .f32⟩
  | .hbm, ⟨23, _⟩ => ⟨S4x1024x2048, .f32⟩
  | .local _ .vmem, ⟨0, _⟩ => ⟨S2048x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .bf16⟩
  | .local _ .vmem, ⟨22, _⟩ => ⟨S2048x256, .bf16⟩
  | .local _ .vmem, ⟨23, _⟩ => ⟨S1024x4096, .bf16⟩
  | .local _ .vmem, ⟨24, _⟩ => ⟨S1024x4096, .bf16⟩
  | .local _ .vmem, ⟨25, _⟩ => ⟨S4096x512, .bf16⟩
  | .local _ .vmem, ⟨26, _⟩ => ⟨S4096x512, .bf16⟩
  | .local _ .vmem, ⟨27, _⟩ => ⟨S1024x512, .f32⟩
  | .local _ .vmem, ⟨28, _⟩ => ⟨S1024x512, .f32⟩
  | .local _ .vmem, ⟨29, _⟩ => ⟨S2048x1024, .bf16⟩
  | .local _ .vmem, ⟨30, _⟩ => ⟨S2048x1024, .bf16⟩
  | .local _ .vmem, ⟨31, _⟩ => ⟨S2048x1024, .bf16⟩
  | .local _ .vmem, ⟨32, _⟩ => ⟨S1024x1024, .f32⟩
  | .local _ .vmem, ⟨33, _⟩ => ⟨S1024x1024, .f32⟩
  | .local _ .vmem, ⟨34, _⟩ => ⟨S2048x256, .f32⟩
  | .local _ .vmem, ⟨35, _⟩ => ⟨S2048x256, .f32⟩
  | .local _ .vmem, ⟨36, _⟩ => ⟨S2048x256, .f32⟩
  | .local _ .vmem, ⟨37, _⟩ => ⟨S2048x256, .f32⟩
  | .local _ .vmem, ⟨38, _⟩ => ⟨S2048x256, .f32⟩
  | .local _ .vmem, ⟨39, _⟩ => ⟨S2048x256, .f32⟩
  | .local _ .vmem, ⟨40, _⟩ => ⟨S2048x256, .f32⟩
  | .local _ .vmem, ⟨41, _⟩ => ⟨S2048x256, .f32⟩
  | .local _ .vmem, ⟨42, _⟩ => ⟨S2048x1024, .bf16⟩
  | .local _ .vmem, ⟨43, _⟩ => ⟨S256x1024, .bf16⟩
  | .local _ .vmem, ⟨44, _⟩ => ⟨S256x1024, .bf16⟩
  | .local _ .vmem, ⟨45, _⟩ => ⟨S3x256, .f32⟩
  | .local _ .vmem, ⟨46, _⟩ => ⟨S3x256, .f32⟩
  | .local _ .vmem, ⟨47, _⟩ => ⟨S3x256, .f32⟩
  | .local _ .vmem, ⟨48, _⟩ => ⟨S3x256, .f32⟩
  | .local _ .vmem, ⟨49, _⟩ => ⟨S2x2048x256, .bf16⟩
  | .local _ .vmem, ⟨50, _⟩ => ⟨S2x2048x256, .bf16⟩
  | .local _ .vmem, ⟨51, _⟩ => ⟨S2x3x256, .f32⟩
  | .local _ .vmem, ⟨52, _⟩ => ⟨S2x3x256, .f32⟩
  | .local _ .vmem, ⟨53, _⟩ => ⟨S2x1x256, .f32⟩
  | .local _ .vmem, ⟨54, _⟩ => ⟨S2x1x256, .f32⟩
  | .local _ .vmem, ⟨55, _⟩ => ⟨S2x512x4096, .bf16⟩
  | .local _ .vmem, ⟨56, _⟩ => ⟨S2x512x4096, .bf16⟩
  | .local _ .vmem, ⟨57, _⟩ => ⟨S4x512x2048, .bf16⟩
  | .local _ .vmem, ⟨58, _⟩ => ⟨S4x512x2048, .bf16⟩
  | .local _ .vmem, ⟨59, _⟩ => ⟨S512x512, .f32⟩
  | .local _ .vmem, ⟨60, _⟩ => ⟨S512x512, .f32⟩
  | .local _ .vmem, ⟨61, _⟩ => ⟨S2048x1024, .bf16⟩
  | .local _ .vmem, ⟨62, _⟩ => ⟨S1x2048x1024, .bf16⟩
  | .local _ .vmem, ⟨63, _⟩ => ⟨S1x2048x1024, .bf16⟩
  | .local _ .vmem, ⟨64, _⟩ => ⟨S1x1024x1024, .f32⟩
  | .local _ .vmem, ⟨65, _⟩ => ⟨S1x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg2_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg5_1 : Ref sig .tc := ⟨.vmem, 44, rfl⟩
abbrev cc3_stg6_0 : Ref sig .tc := ⟨.vmem, 45, rfl⟩
abbrev cc3_stg6_1 : Ref sig .tc := ⟨.vmem, 46, rfl⟩
abbrev cc3_stg7_0 : Ref sig .tc := ⟨.vmem, 47, rfl⟩
abbrev cc3_stg7_1 : Ref sig .tc := ⟨.vmem, 48, rfl⟩
abbrev cc3_stg8_0 : Ref sig .tc := ⟨.vmem, 49, rfl⟩
abbrev cc3_stg8_1 : Ref sig .tc := ⟨.vmem, 50, rfl⟩
abbrev cc3_stg9_0 : Ref sig .tc := ⟨.vmem, 51, rfl⟩
abbrev cc3_stg9_1 : Ref sig .tc := ⟨.vmem, 52, rfl⟩
abbrev cc3_stg10_0 : Ref sig .tc := ⟨.vmem, 53, rfl⟩
abbrev cc3_stg10_1 : Ref sig .tc := ⟨.vmem, 54, rfl⟩
abbrev cc4_stg0_0 : Ref sig .tc := ⟨.vmem, 55, rfl⟩
abbrev cc4_stg0_1 : Ref sig .tc := ⟨.vmem, 56, rfl⟩
abbrev cc4_stg1_0 : Ref sig .tc := ⟨.vmem, 57, rfl⟩
abbrev cc4_stg1_1 : Ref sig .tc := ⟨.vmem, 58, rfl⟩
abbrev cc4_stg2_0 : Ref sig .tc := ⟨.vmem, 59, rfl⟩
abbrev cc4_stg2_1 : Ref sig .tc := ⟨.vmem, 60, rfl⟩
abbrev cc5_stg0_0 : Ref sig .tc := ⟨.vmem, 61, rfl⟩
abbrev cc5_stg1_0 : Ref sig .tc := ⟨.vmem, 62, rfl⟩
abbrev cc5_stg1_1 : Ref sig .tc := ⟨.vmem, 63, rfl⟩
abbrev cc5_stg2_0 : Ref sig .tc := ⟨.vmem, 64, rfl⟩
abbrev cc5_stg2_1 : Ref sig .tc := ⟨.vmem, 65, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc2_sem0_0 : DmaSem sig := 29
abbrev cc2_sem0_1 : DmaSem sig := 30
abbrev cc2_sem1_0 : DmaSem sig := 31
abbrev cc2_sem2_0 : DmaSem sig := 32
abbrev cc2_sem2_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem5_0 : DmaSem sig := 43
abbrev cc3_sem5_1 : DmaSem sig := 44
abbrev cc3_sem6_0 : DmaSem sig := 45
abbrev cc3_sem6_1 : DmaSem sig := 46
abbrev cc3_sem7_0 : DmaSem sig := 47
abbrev cc3_sem7_1 : DmaSem sig := 48
abbrev cc3_sem8_0 : DmaSem sig := 49
abbrev cc3_sem8_1 : DmaSem sig := 50
abbrev cc3_sem9_0 : DmaSem sig := 51
abbrev cc3_sem9_1 : DmaSem sig := 52
abbrev cc3_sem10_0 : DmaSem sig := 53
abbrev cc3_sem10_1 : DmaSem sig := 54
abbrev cc4_sem0_0 : DmaSem sig := 55
abbrev cc4_sem0_1 : DmaSem sig := 56
abbrev cc4_sem1_0 : DmaSem sig := 57
abbrev cc4_sem1_1 : DmaSem sig := 58
abbrev cc4_sem2_0 : DmaSem sig := 59
abbrev cc4_sem2_1 : DmaSem sig := 60
abbrev cc5_sem0_0 : DmaSem sig := 61
abbrev cc5_sem1_0 : DmaSem sig := 62
abbrev cc5_sem1_1 : DmaSem sig := 63
abbrev cc5_sem2_0 : DmaSem sig := 64
abbrev cc5_sem2_1 : DmaSem sig := 65

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.addi c2_i32 v16
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_1 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_3 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc3_transform_7 (i : grid3.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S2048x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S3x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S3x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2x2048x256 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2x3x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S2x1x256 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨2, ![4, 2], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2x512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4x512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc5_transform_2 (i : grid5.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S1x2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]
-- ==== KernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceIdeal.lean ====
abbrev S2048x1024 : Shape := ⟨2, ![2048, 1024]⟩
abbrev S1024x8192 : Shape := ⟨2, ![1024, 8192]⟩
abbrev S3x8192 : Shape := ⟨2, ![3, 8192]⟩
abbrev S1x8192 : Shape := ⟨2, ![1, 8192]⟩
abbrev S4096x1024 : Shape := ⟨2, ![4096, 1024]⟩
abbrev S8192 : Shape := ⟨1, ![8192]⟩
abbrev S2048x8192 : Shape := ⟨2, ![2048, 8192]⟩
abbrev S2x8192 : Shape := ⟨2, ![2, 8192]⟩
abbrev S_ : Shape := ⟨0, ![]⟩
abbrev S2050x8192 : Shape := ⟨2, ![2050, 8192]⟩
abbrev S2048x4096 : Shape := ⟨2, ![2048, 4096]⟩
abbrev S1024x4096 : Shape := ⟨2, ![1024, 4096]⟩
abbrev S8192x1024 : Shape := ⟨2, ![8192, 1024]⟩
abbrev S1024x4x2048 : Shape := ⟨3, ![1024, 4, 2048]⟩
abbrev S4x1024x2048 : Shape := ⟨3, ![4, 1024, 2048]⟩
abbrev S3x2x4096 : Shape := ⟨3, ![3, 2, 4096]⟩
abbrev S2x3x4096 : Shape := ⟨3, ![2, 3, 4096]⟩
abbrev S2x1x4096 : Shape := ⟨3, ![2, 1, 4096]⟩

abbrev nBuf : Space → Nat
  | .hbm => 152
  | .vmem => 0
  | .smem => 0
  | _ => 0

abbrev hbmTy0_0 (i : Nat) : BufTy := match i % 128 with
  | 0 => ⟨S2048x1024, .f32⟩
  | 1 => ⟨S1024x8192, .f32⟩
  | 2 => ⟨S3x8192, .f32⟩
  | 3 => ⟨S1x8192, .f32⟩
  | 4 => ⟨S4096x1024, .f32⟩
  | 5 => ⟨S2048x1024, .f32⟩
  | 6 => ⟨S8192, .f32⟩
  | 7 => ⟨S2048x8192, .f32⟩
  | 8 => ⟨S2x8192, .f32⟩
  | 9 => ⟨S_, .f32⟩
  | 10 => ⟨S2x8192, .f32⟩
  | 11 => ⟨S2050x8192, .f32⟩
  | 12 => ⟨S_, .f32⟩
  | 13 => ⟨S2x8192, .f32⟩
  | 14 => ⟨S1x8192, .f32⟩
  | 15 => ⟨S8192, .f32⟩
  | 16 => ⟨S2048x8192, .f32⟩
  | 17 => ⟨S1x8192, .f32⟩
  | 18 => ⟨S2048x8192, .f32⟩
  | 19 => ⟨S2048x8192, .f32⟩
  | 20 => ⟨S_, .f32⟩
  | 21 => ⟨S2048x8192, .f32⟩
  | 22 => ⟨S2048x8192, .f32⟩
  | 23 => ⟨S1x8192, .f32⟩
  | 24 => ⟨S8192, .f32⟩
  | 25 => ⟨S2048x8192, .f32⟩
  | 26 => ⟨S1x8192, .f32⟩
  | 27 => ⟨S2048x8192, .f32⟩
  | 28 => ⟨S2048x8192, .f32⟩
  | 29 => ⟨S2048x8192, .f32⟩
  | 30 => ⟨S1x8192, .f32⟩
  | 31 => ⟨S8192, .f32⟩
  | 32 => ⟨S2048x8192, .f32⟩
  | 33 => ⟨S1x8192, .f32⟩
  | 34 => ⟨S2048x8192, .f32⟩
  | 35 => ⟨S2048x8192, .f32⟩
  | 36 => ⟨S2048x8192, .f32⟩
  | 37 => ⟨S1x8192, .f32⟩
  | 38 => ⟨S2048x8192, .f32⟩
  | 39 => ⟨S2048x8192, .f32⟩
  | 40 => ⟨S2048x4096, .f32⟩
  | 41 => ⟨S2048x4096, .f32⟩
  | 42 => ⟨S_, .f32⟩
  | 43 => ⟨S_, .f32⟩
  | 44 => ⟨S_, .f32⟩
  | 45 => ⟨S2048x4096, .f32⟩
  | 46 => ⟨S2048x4096, .f32⟩
  | 47 => ⟨S2048x4096, .f32⟩
  | 48 => ⟨S_, .f32⟩
  | 49 => ⟨S2048x4096, .f32⟩
  | 50 => ⟨S2048x4096, .f32⟩
  | 51 => ⟨S2048x4096, .f32⟩
  | 52 => ⟨S2048x4096, .f32⟩
  | 53 => ⟨S2048x4096, .f32⟩
  | 54 => ⟨S_, .f32⟩
  | 55 => ⟨S2048x4096, .f32⟩
  | 56 => ⟨S2048x4096, .f32⟩
  | 57 => ⟨S2048x4096, .f32⟩
  | 58 => ⟨S_, .f32⟩
  | 59 => ⟨S2048x4096, .f32⟩
  | 60 => ⟨S2048x4096, .f32⟩
  | 61 => ⟨S_, .f32⟩
  | 62 => ⟨S2048x4096, .f32⟩
  | 63 => ⟨S2048x4096, .f32⟩
  | 64 => ⟨S2048x4096, .f32⟩
  | 65 => ⟨S_, .f32⟩
  | 66 => ⟨S2048x4096, .f32⟩
  | 67 => ⟨S2048x4096, .f32⟩
  | 68 => ⟨S_, .f32⟩
  | 69 => ⟨S2048x4096, .f32⟩
  | 70 => ⟨S2048x4096, .f32⟩
  | 71 => ⟨S2048x4096, .f32⟩
  | 72 => ⟨S2048x4096, .f32⟩
  | 73 => ⟨S2048x1024, .f32⟩
  | 74 => ⟨S1024x4096, .f32⟩
  | 75 => ⟨S4096x1024, .f32⟩
  | 76 => ⟨S2048x4096, .f32⟩
  | 77 => ⟨S2048x4096, .f32⟩
  | 78 => ⟨S2048x4096, .f32⟩
  | 79 => ⟨S2048x4096, .f32⟩
  | 80 => ⟨S2048x4096, .f32⟩
  | 81 => ⟨S_, .f32⟩
  | 82 => ⟨S2048x4096, .f32⟩
  | 83 => ⟨S2048x4096, .f32⟩
  | 84 => ⟨S2048x4096, .f32⟩
  | 85 => ⟨S_, .f32⟩
  | 86 => ⟨S2048x4096, .f32⟩
  | 87 => ⟨S2048x4096, .f32⟩
  | 88 => ⟨S2048x4096, .f32⟩
  | 89 => ⟨S2048x4096, .f32⟩
  | 90 => ⟨S2048x4096, .f32⟩
  | 91 => ⟨S2048x4096, .f32⟩
  | 92 => ⟨S2048x4096, .f32⟩
  | 93 => ⟨S2048x8192, .f32⟩
  | 94 => ⟨S_, .f32⟩
  | 95 => ⟨S8192, .f32⟩
  | 96 => ⟨S1x8192, .f32⟩
  | 97 => ⟨S_, .f32⟩
  | 98 => ⟨S8192, .f32⟩
  | 99 => ⟨S2048x8192, .f32⟩
  | 100 => ⟨S2048x8192, .f32⟩
  | 101 => ⟨S2048x8192, .f32⟩
  | 102 => ⟨S_, .f32⟩
  | 103 => ⟨S8192, .f32⟩
  | 104 => ⟨S1x8192, .f32⟩
  | 105 => ⟨S_, .f32⟩
  | 106 => ⟨S8192, .f32⟩
  | 107 => ⟨S_, .f32⟩
  | 108 => ⟨S2050x8192, .f32⟩
  | 109 => ⟨S1x8192, .f32⟩
  | 110 => ⟨S_, .f32⟩
  | 111 => ⟨S3x8192, .f32⟩
  | 112 => ⟨S2048x8192, .f32⟩
  | 113 => ⟨S2048x8192, .f32⟩
  | 114 => ⟨S2048x8192, .f32⟩
  | 115 => ⟨S_, .f32⟩
  | 116 => ⟨S8192, .f32⟩
  | 117 => ⟨S1x8192, .f32⟩
  | 118 => ⟨S_, .f32⟩
  | 119 => ⟨S8192, .f32⟩
  | 120 => ⟨S_, .f32⟩
  | 121 => ⟨S2050x8192, .f32⟩
  | 122 => ⟨S2050x8192, .f32⟩
  | 123 => ⟨S1x8192, .f32⟩
  | 124 => ⟨S_, .f32⟩
  | 125 => ⟨S3x8192, .f32⟩
  | 126 => ⟨S3x8192, .f32⟩
  | 127 => ⟨S2048x8192, .f32⟩
  | _ => ⟨S2048x1024, .f32⟩

abbrev hbmTy0_1 (i : Nat) : BufTy := match i % 128 with
  | 0 => ⟨S2048x8192, .f32⟩
  | 1 => ⟨S2048x8192, .f32⟩
  | 2 => ⟨S_, .f32⟩
  | 3 => ⟨S8192, .f32⟩
  | 4 => ⟨S1x8192, .f32⟩
  | 5 => ⟨S_, .f32⟩
  | 6 => ⟨S8192, .f32⟩
  | 7 => ⟨S_, .f32⟩
  | 8 => ⟨S2050x8192, .f32⟩
  | 9 => ⟨S2050x8192, .f32⟩
  | 10 => ⟨S1x8192, .f32⟩
  | 11 => ⟨S_, .f32⟩
  | 12 => ⟨S3x8192, .f32⟩
  | 13 => ⟨S3x8192, .f32⟩
  | 14 => ⟨S2x8192, .f32⟩
  | 15 => ⟨S2048x8192, .f32⟩
  | 16 => ⟨S8192x1024, .f32⟩
  | 17 => ⟨S1024x8192, .f32⟩
  | 18 => ⟨S2048x1024, .f32⟩
  | 19 => ⟨S1024x4x2048, .f32⟩
  | 20 => ⟨S4x1024x2048, .f32⟩
  | 21 => ⟨S3x2x4096, .f32⟩
  | 22 => ⟨S2x3x4096, .f32⟩
  | 23 => ⟨S2x1x4096, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_cst_13 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_14 : Ref sig .tc := ⟨.hbm, 102, rfl⟩
abbrev main_v81 : Ref sig .tc := ⟨.hbm, 103, rfl⟩
abbrev main_v82 : Ref sig .tc := ⟨.hbm, 104, rfl⟩
abbrev main_cst_15 : Ref sig .tc := ⟨.hbm, 105, rfl⟩
abbrev main_v83 : Ref sig .tc := ⟨.hbm, 106, rfl⟩
abbrev main_cst_16 : Ref sig .tc := ⟨.hbm, 107, rfl⟩
abbrev main_v84 : Ref sig .tc := ⟨.hbm, 108, rfl⟩
abbrev main_v85 : Ref sig .tc := ⟨.hbm, 109, rfl⟩
abbrev main_cst_17 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_18 : Ref sig .tc := ⟨.hbm, 115, rfl⟩
abbrev main_v90 : Ref sig .tc := ⟨.hbm, 116, rfl⟩
abbrev main_v91 : Ref sig .tc := ⟨.hbm, 117, rfl⟩
abbrev main_cst_19 : Ref sig .tc := ⟨.hbm, 118, rfl⟩
abbrev main_v92 : Ref sig .tc := ⟨.hbm, 119, rfl⟩
abbrev main_cst_20 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_21 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_22 : Ref sig .tc := ⟨.hbm, 130, rfl⟩
abbrev main_v101 : Ref sig .tc := ⟨.hbm, 131, rfl⟩
abbrev main_v102 : Ref sig .tc := ⟨.hbm, 132, rfl⟩
abbrev main_cst_23 : Ref sig .tc := ⟨.hbm, 133, rfl⟩
abbrev main_v103 : Ref sig .tc := ⟨.hbm, 134, rfl⟩
abbrev main_cst_24 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_25 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩

abbrev nD : Nat := 1
abbrev τ : Topo := Topo.v7x

variable {F : FTy → Type} [FloatOps F]
-- ==== Kernel2.lean ====
abbrev S2048x1024 : Shape := ⟨2, ![2048, 1024]⟩
abbrev S1024x1024 : Shape := ⟨2, ![1024, 1024]⟩
abbrev S1x1024 : Shape := ⟨2, ![1, 1024]⟩
abbrev S1024x512 : Shape := ⟨2, ![1024, 512]⟩
abbrev S2048x512 : Shape := ⟨2, ![2048, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 18
  | .vmem => 41
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S1024x1024, .bf16⟩
  | .hbm, ⟨9, _⟩ => ⟨S2048x1024, .f32⟩
  | .hbm, ⟨10, _⟩ => ⟨S2048x1024, .f32⟩
  | .hbm, ⟨11, _⟩ => ⟨S2048x1024, .bf16⟩
  | .hbm, ⟨12, _⟩ => ⟨S2048x1024, .f32⟩
  | .hbm, ⟨13, _⟩ => ⟨S2048x1024, .bf16⟩
  | .hbm, ⟨14, _⟩ => ⟨S1x1024, .f32⟩
  | .hbm, ⟨15, _⟩ => ⟨S1x1024, .f32⟩
  | .hbm, ⟨16, _⟩ => ⟨S2048x1024, .f32⟩
  | .hbm, ⟨17, _⟩ => ⟨S1024x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S1x1024, .f32⟩
  | .local _ .vmem, ⟨30, _⟩ => ⟨S1x1024, .f32⟩
  | .local _ .vmem, ⟨31, _⟩ => ⟨S2048x1024, .bf16⟩
  | .local _ .vmem, ⟨32, _⟩ => ⟨S512x1024, .bf16⟩
  | .local _ .vmem, ⟨33, _⟩ => ⟨S512x1024, .bf16⟩
  | .local _ .vmem, ⟨34, _⟩ => ⟨S2048x512, .f32⟩
  | .local _ .vmem, ⟨35, _⟩ => ⟨S2048x512, .f32⟩
  | .local _ .vmem, ⟨36, _⟩ => ⟨S2048x512, .bf16⟩
  | .local _ .vmem, ⟨37, _⟩ => ⟨S2048x512, .bf16⟩
  | .local _ .vmem, ⟨38, _⟩ => ⟨S2048x1024, .bf16⟩
  | .local _ .vmem, ⟨39, _⟩ => ⟨S512x1024, .f32⟩
  | .local _ .vmem, ⟨40, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg9_0 : Ref sig .tc := ⟨.vmem, 30, rfl⟩
abbrev cc3_stg0_0 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem7_1 : DmaSem sig := 28
abbrev cc2_sem8_0 : DmaSem sig := 29
abbrev cc2_sem9_0 : DmaSem sig := 30
abbrev cc3_sem0_0 : DmaSem sig := 31
abbrev cc3_sem1_0 : DmaSem sig := 32
abbrev cc3_sem1_1 : DmaSem sig := 33
abbrev cc3_sem2_0 : DmaSem sig := 34
abbrev cc3_sem2_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== Reference2Ideal.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 109
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S1024, .f32⟩
  | .hbm, ⟨86, _⟩ => ⟨S2048x1024, .f32⟩
  | .hbm, ⟨87, _⟩ => ⟨S_, .f32⟩
  | .hbm, ⟨88, _⟩ => ⟨S2048, .f32⟩
  | .hbm, ⟨89, _⟩ => ⟨S2048x1, .f32⟩
  | .hbm, ⟨90, _⟩ => ⟨S2048x1024, .f32⟩
  | .hbm, ⟨91, _⟩ => ⟨S2048x1024, .f32⟩
  | .hbm, ⟨92, _⟩ => ⟨S2048x1, .f32⟩
  | .hbm, ⟨93, _⟩ => ⟨S_, .f32⟩
  | .hbm, ⟨94, _⟩ => ⟨S2048x1, .f32⟩
  | .hbm, ⟨95, _⟩ => ⟨S2048x1, .f32⟩
  | .hbm, ⟨96, _⟩ => ⟨S_, .f32⟩
  | .hbm, ⟨97, _⟩ => ⟨S2048, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S1024x1024, .f32⟩
  | .hbm, ⟨104, _⟩ => ⟨S1024x1024, .f32⟩
  | .hbm, ⟨105, _⟩ => ⟨S2048x1024, .f32⟩
  | .hbm, ⟨106, _⟩ => ⟨S2048x1024, .bf16⟩
  | .hbm, ⟨107, _⟩ => ⟨S1x1024, .f32⟩
  | .hbm, ⟨108, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_v71 : Ref sig .tc := ⟨.hbm, 95, rfl⟩
abbrev main_cst_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S1024x2560 : Shape := ⟨2, ![1024, 2560]⟩
abbrev S2048x2560 : Shape := ⟨2, ![2048, 2560]⟩
abbrev S1024x4x640 : Shape := ⟨3, ![1024, 4, 640]⟩
abbrev S4x1024x640 : Shape := ⟨3, ![4, 1024, 640]⟩
abbrev S512x1024 : Shape := ⟨2, ![512, 1024]⟩
abbrev S512 : Shape := ⟨1, ![512]⟩
abbrev S512x1 : Shape := ⟨2, ![512, 1]⟩
abbrev S1x1024x640 : Shape := ⟨3, ![1, 1024, 640]⟩
abbrev S2048x640 : Shape := ⟨2, ![2048, 640]⟩
abbrev S1024x640 : Shape := ⟨2, ![1024, 640]⟩
abbrev S1024x1024 : Shape := ⟨2, ![1024, 1024]⟩
abbrev S1024 : Shape := ⟨1, ![1024]⟩

abbrev nBuf : Space → Nat
  | .hbm => 15
  | .vmem => 30
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2560, .f32⟩
  | .hbm, ⟨3, _⟩ => ⟨S2048x1024, .f32⟩
  | .hbm, ⟨4, _⟩ => ⟨S2048x2560, .f32⟩
  | .hbm, ⟨5, _⟩ => ⟨S1024x2560, .bf16⟩
  | .hbm, ⟨6, _⟩ => ⟨S1024x4x640, .bf16⟩
  | .hbm, ⟨7, _⟩ => ⟨S4x1024x640, .bf16⟩
  | .hbm, ⟨8, _⟩ => ⟨S2048x2560, .bf16⟩
  | .hbm, ⟨9, _⟩ => ⟨S2048x1024, .bf16⟩
  | .hbm, ⟨10, _⟩ => ⟨S2048x2560, .f32⟩
  | .hbm, ⟨11, _⟩ => ⟨S4x1024x640, .f32⟩
  | .hbm, ⟨12, _⟩ => ⟨S2048x1024, .f32⟩
  | .hbm, ⟨13, _⟩ => ⟨S2048x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S2048x1024, .bf16⟩
  | .local _ .vmem, ⟨6, _⟩ => ⟨S1x1024x640, .bf16⟩
  | .local _ .vmem, ⟨7, _⟩ => ⟨S1x1024x640, .bf16⟩
  | .local _ .vmem, ⟨8, _⟩ => ⟨S2048x640, .f32⟩
  | .local _ .vmem, ⟨9, _⟩ => ⟨S2048x640, .f32⟩
  | .local _ .vmem, ⟨10, _⟩ => ⟨S2048x1024, .bf16⟩
  | .local _ .vmem, ⟨11, _⟩ => ⟨S2048x640, .bf16⟩
  | .local _ .vmem, ⟨12, _⟩ => ⟨S2048x640, .bf16⟩
  | .local _ .vmem, ⟨13, _⟩ => ⟨S1x1024x640, .f32⟩
  | .local _ .vmem, ⟨14, _⟩ => ⟨S1x1024x640, .f32⟩
  | .local _ .vmem, ⟨15, _⟩ => ⟨S1024x2560, .bf16⟩
  | .local _ .vmem, ⟨16, _⟩ => ⟨S1024x2560, .bf16⟩
  | .local _ .vmem, ⟨17, _⟩ => ⟨S4x1024x640, .bf16⟩
  | .local _ .vmem, ⟨18, _⟩ => ⟨S1024x1024, .f32⟩
  | .local _ .vmem, ⟨19, _⟩ => ⟨S1024x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg4_1 : Ref sig .tc := ⟨.vmem, 28, rfl⟩
abbrev cc4_stg5_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc4_sem3_0 : DmaSem sig := 26
abbrev cc4_sem4_0 : DmaSem sig := 27
abbrev cc4_sem4_1 : DmaSem sig := 28
abbrev cc4_sem5_0 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x1024x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x640 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024x640 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2560 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S4x1024x640 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]
-- ==== Reference3Ideal.lean ====
abbrev S2048x1024 : Shape := ⟨2, ![2048, 1024]⟩
abbrev S1x1024 : Shape := ⟨2, ![1, 1024]⟩
abbrev S1024x2560 : Shape := ⟨2, ![1024, 2560]⟩
abbrev S2048x2560 : Shape := ⟨2, ![2048, 2560]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2560, .f32⟩
  | .hbm, ⟨3, _⟩ => ⟨S2048x1024, .f32⟩
  | .hbm, ⟨4, _⟩ => ⟨S2048x2560, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x2560, .f32⟩
  | .hbm, ⟨27, _⟩ => ⟨S2560x1024, .f32⟩
  | .hbm, ⟨28, _⟩ => ⟨S1024x2560, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S1024x4x640, .f32⟩
  | .hbm, ⟨57, _⟩ => ⟨S4x1024x640, .f32⟩
  | .hbm, ⟨58, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S8x128, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S8x128, .f32⟩
  | .hbm, ⟨75, _⟩ => ⟨S2048x1024, .bf16⟩
  | .hbm, ⟨76, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Kernel5.lean ====
abbrev S1024x640 : Shape := ⟨2, ![1024, 640]⟩
abbrev S256x1024 : Shape := ⟨2, ![256, 1024]⟩
abbrev S1024x2048 : Shape := ⟨2, ![1024, 2048]⟩
abbrev S1024x1024 : Shape := ⟨2, ![1024, 1024]⟩
abbrev S256x640 : Shape := ⟨2, ![256, 640]⟩
abbrev S256x2048 : Shape := ⟨2, ![256, 2048]⟩

abbrev nBuf : Space → Nat
  | .hbm => 28
  | .vmem => 49
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S1024x1024, .f32⟩
  | .hbm, ⟨26, _⟩ => ⟨S1024x1024, .f32⟩
  | .hbm, ⟨27, _⟩ => ⟨S1024x1024, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | .local _ .vmem, ⟨48, _⟩ => ⟨S256x1024, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v1_0 : Ref sig .tc := ⟨.hbm, 19, rfl⟩
abbrev main_v1_1 : Ref sig .tc := ⟨.hbm, 20, rfl⟩
abbrev main_v1_2 : Ref sig .tc := ⟨.hbm, 21, rfl⟩
abbrev main_v2_0 : Ref sig .tc := ⟨.hbm, 22, rfl⟩
abbrev main_v2_1 : Ref sig .tc := ⟨.hbm, 23, rfl⟩
abbrev main_v2_2 : Ref sig .tc := ⟨.hbm, 24, rfl⟩
abbrev main_v3_0 : Ref sig .tc := ⟨.hbm, 25, rfl⟩
abbrev main_v3_1 : Ref sig .tc := ⟨.hbm, 26, rfl⟩
abbrev main_v3_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg5_1 : Ref sig .tc := ⟨.vmem, 46, rfl⟩
abbrev cc3_stg6_0 : Ref sig .tc := ⟨.vmem, 47, rfl⟩
abbrev cc3_stg6_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc3_sem5_0 : DmaSem sig := 45
abbrev cc3_sem5_1 : DmaSem sig := 46
abbrev cc3_sem6_0 : DmaSem sig := 47
abbrev cc3_sem6_1 : DmaSem sig := 48

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== Reference5Ideal.lean ====
abbrev S1024x640 : Shape := ⟨2, ![1024, 640]⟩
abbrev S256x1024 : Shape := ⟨2, ![256, 1024]⟩
abbrev S1024x2048 : Shape := ⟨2, ![1024, 2048]⟩
abbrev S1024x1024 : Shape := ⟨2, ![1024, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1024x640, .f32⟩
  | 1 => ⟨S1024x640, .f32⟩
  | 2 => ⟨S1024x640, .f32⟩
  | 3 => ⟨S1024x640, .f32⟩
  | 4 => ⟨S256x1024, .f32⟩
  | 5 => ⟨S256x1024, .f32⟩
  | 6 => ⟨S256x1024, .f32⟩
  | 7 => ⟨S256x1024, .f32⟩
  | 8 => ⟨S1024x2048, .f32⟩
  | 9 => ⟨S1024x2048, .f32⟩
  | 10 => ⟨S1024x2048, .f32⟩
  | 11 => ⟨S1024x2048, .f32⟩
  | 12 => ⟨S1024x1024, .f32⟩
  | 13 => ⟨S1024x1024, .f32⟩
  | 14 => ⟨S1024x1024, .f32⟩
  | 15 => ⟨S1024x1024, .f32⟩
  | 16 => ⟨S_, .f32⟩
  | 17 => ⟨S1024x640, .f32⟩
  | 18 => ⟨S1024x640, .f32⟩
  | 19 => ⟨S_, .f32⟩
  | 20 => ⟨S1024x640, .f32⟩
  | 21 => ⟨S1024x640, .f32⟩
  | 22 => ⟨S1024x640, .f32⟩
  | 23 => ⟨S_, .f32⟩
  | 24 => ⟨S1024x640, .f32⟩
  | 25 => ⟨S1024x640, .f32⟩
  | 26 => ⟨S1024x640, .f32⟩
  | 27 => ⟨S_, .f32⟩
  | 28 => ⟨S1024x640, .f32⟩
  | 29 => ⟨S1024x640, .f32⟩
  | 30 => ⟨S1024x640, .f32⟩
  | 31 => ⟨S_, .f32⟩
  | 32 => ⟨S1024x640, .f32⟩
  | 33 => ⟨S1024x640, .f32⟩
  | 34 => ⟨S_, .f32⟩
  | 35 => ⟨S1024x640, .f32⟩
  | 36 => ⟨S1024x640, .f32⟩
  | 37 => ⟨S1024x640, .f32⟩
  | 38 => ⟨S_, .f32⟩
  | 39 => ⟨S1024x640, .f32⟩
  | 40 => ⟨S1024x640, .f32⟩
  | 41 => ⟨S1024x640, .f32⟩
  | 42 => ⟨S_, .f32⟩
  | 43 => ⟨S1024x640, .f32⟩
  | 44 => ⟨S1024x640, .f32⟩
  | 45 => ⟨S1024x640, .f32⟩
  | 46 => ⟨S_, .f32⟩
  | 47 => ⟨S1024x640, .f32⟩
  | 48 => ⟨S1024x640, .f32⟩
  | 49 => ⟨S_, .f32⟩
  | 50 => ⟨S256x1024, .f32⟩
  | 51 => ⟨S256x1024, .f32⟩
  | 52 => ⟨S_, .f32⟩
  | 53 => ⟨S256x1024, .f32⟩
  | 54 => ⟨S256x1024, .f32⟩
  | 55 => ⟨S256x1024, .f32⟩
  | 56 => ⟨S_, .f32⟩
  | 57 => ⟨S256x1024, .f32⟩
  | 58 => ⟨S256x1024, .f32⟩
  | 59 => ⟨S256x1024, .f32⟩
  | 60 => ⟨S_, .f32⟩
  | 61 => ⟨S256x1024, .f32⟩
  | 62 => ⟨S256x1024, .f32⟩
  | 63 => ⟨S256x1024, .f32⟩
  | 64 => ⟨S_, .f32⟩
  | 65 => ⟨S256x1024, .f32⟩
  | 66 => ⟨S256x1024, .f32⟩
  | 67 => ⟨S_, .f32⟩
  | 68 => ⟨S256x1024, .f32⟩
  | 69 => ⟨S256x1024, .f32⟩
  | 70 => ⟨S256x1024, .f32⟩
  | 71 => ⟨S_, .f32⟩
  | 72 => ⟨S256x1024, .f32⟩
  | 73 => ⟨S256x1024, .f32⟩
  | 74 => ⟨S256x1024, .f32⟩
  | 75 => ⟨S_, .f32⟩
  | 76 => ⟨S256x1024, .f32⟩
  | 77 => ⟨S256x1024, .f32⟩
  | 78 => ⟨S256x1024, .f32⟩
  | 79 => ⟨S_, .f32⟩
  | 80 => ⟨S256x1024, .f32⟩
  | 81 => ⟨S256x1024, .f32⟩
  | 82 => ⟨S_, .f32⟩
  | 83 => ⟨S1024x2048, .f32⟩
  | 84 => ⟨S1024x2048, .f32⟩
  | 85 => ⟨S_, .f32⟩
  | 86 => ⟨S1024x2048, .f32⟩
  | 87 => ⟨S1024x2048, .f32⟩
  | 88 => ⟨S1024x2048, .f32⟩
  | 89 => ⟨S_, .f32⟩
  | 90 => ⟨S1024x2048, .f32⟩
  | 91 => ⟨S1024x2048, .f32⟩
  | 92 => ⟨S1024x2048, .f32⟩
  | 93 => ⟨S_, .f32⟩
  | 94 => ⟨S1024x2048, .f32⟩
  | 95 => ⟨S1024x2048, .f32⟩
  | 96 => ⟨S1024x2048, .f32⟩
  | 97 => ⟨S_, .f32⟩
  | 98 => ⟨S1024x2048, .f32⟩
  | 99 => ⟨S1024x2048, .f32⟩
  | 100 => ⟨S_, .f32⟩
  | 101 => ⟨S1024x2048, .f32⟩
  | 102 => ⟨S1024x2048, .f32⟩
  | 103 => ⟨S1024x2048, .f32⟩
  | 104 => ⟨S_, .f32⟩
  | 105 => ⟨S1024x2048, .f32⟩
  | 106 => ⟨S1024x2048, .f32⟩
  | 107 => ⟨S1024x2048, .f32⟩
  | 108 => ⟨S_, .f32⟩
  | 109 => ⟨S1024x2048, .f32⟩
  | 110 => ⟨S1024x2048, .f32⟩
  | 111 => ⟨S1024x2048, .f32⟩
  | 112 => ⟨S_, .f32⟩
  | 113 => ⟨S1024x2048, .f32⟩
  | 114 => ⟨S1024x2048, .f32⟩
  | 115 => ⟨S_, .f32⟩
  | 116 => ⟨S1024x1024, .f32⟩
  | 117 => ⟨S1024x1024, .f32⟩
  | 118 => ⟨S_, .f32⟩
  | 119 => ⟨S1024x1024, .f32⟩
  | 120 => ⟨S1024x1024, .f32⟩
  | 121 => ⟨S1024x1024, .f32⟩
  | 122 => ⟨S_, .f32⟩
  | 123 => ⟨S1024x1024, .f32⟩
  | 124 => ⟨S1024x1024, .f32⟩
  | 125 => ⟨S1024x1024, .f32⟩
  | 126 => ⟨S_, .f32⟩
  | 127 => ⟨S1024x1024, .f32⟩
  | _ => ⟨S1024x640, .f32⟩

abbrev hbmTy0_1 (i : Nat) : BufTy := match i % 128 with
  | 0 => ⟨S1024x1024, .f32⟩
  | 1 => ⟨S1024x1024, .f32⟩
  | 2 => ⟨S_, .f32⟩
  | 3 => ⟨S1024x1024, .f32⟩
  | 4 => ⟨S1024x1024, .f32⟩
  | 5 => ⟨S_, .f32⟩
  | 6 => ⟨S1024x1024, .f32⟩
  | 7 => ⟨S1024x1024, .f32⟩
  | 8 => ⟨S1024x1024, .f32⟩
  | 9 => ⟨S_, .f32⟩
  | 10 => ⟨S1024x1024, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | _ => ⟨S1024x640, .f32⟩

abbrev hbmTy (i : Nat) : BufTy := match i / 128 with
  | 0 => hbmTy0_0 i
  | 1 => hbmTy0_1 i
  | _ => ⟨S1024x640, .f32⟩

abbrev bufTy : (tb : Table) → Fin (tcTables nBuf tb) → BufTy
  | .hbm, ⟨i, _⟩ => hbmTy i
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel6.lean ====
abbrev S32x8 : Shape := ⟨2, ![32, 8]⟩
abbrev S1x32768 : Shape := ⟨2, ![1, 32768]⟩
abbrev S8x32768 : Shape := ⟨2, ![8, 32768]⟩
abbrev S32 : Shape := ⟨1, ![32]⟩
abbrev S32x1 : Shape := ⟨2, ![32, 1]⟩
abbrev S32x32768 : Shape := ⟨2, ![32, 32768]⟩
abbrev S8x32 : Shape := ⟨2, ![8, 32]⟩

abbrev nBuf : Space → Nat
  | .hbm => 13
  | .vmem => 6
  | .smem => 0
  | _ => 0

abbrev bufTy : (tb : Table) → Fin (tcTables nBuf tb) → BufTy
  | .hbm, ⟨0, _⟩ => ⟨S32x8, .f32⟩
  | .hbm, ⟨1, _⟩ => ⟨S1x32768, .i32⟩
  | .hbm, ⟨2, _⟩ => ⟨S8x32768, .f32⟩
  | .hbm, ⟨3, _⟩ => ⟨S32, .i32⟩
  | .hbm, ⟨4, _⟩ => ⟨S32x1, .i32⟩
  | .hbm, ⟨5, _⟩ => ⟨S32x32768, .i32⟩
  | .hbm, ⟨6, _⟩ => ⟨S32x32768, .i32⟩
  | .hbm, ⟨7, _⟩ => ⟨S32x32768, .i1⟩
  | .hbm, ⟨8, _⟩ => ⟨S32x32768, .bf16⟩
  | .hbm, ⟨9, _⟩ => ⟨S8x32, .f32⟩
  | .hbm, ⟨10, _⟩ => ⟨S8x32768, .f32⟩
  | .hbm, ⟨11, _⟩ => ⟨S8x32, .f32⟩
  | .hbm, ⟨12, _⟩ => ⟨S32x8, .f32⟩
  | .local _ .vmem, ⟨0, _⟩ => ⟨S8x32, .f32⟩
  | .local _ .vmem, ⟨1, _⟩ => ⟨S32x32768, .bf16⟩
  | .local _ .vmem, ⟨2, _⟩ => ⟨S8x32768, .f32⟩
  | .local _ .vmem, ⟨3, _⟩ => ⟨S8x32768, .f32⟩
  | .local _ .vmem, ⟨4, _⟩ => ⟨S32x32768, .bf16⟩
  | .local _ .vmem, ⟨5, _⟩ => ⟨S8x32, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x32768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x32768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x32768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== Reference6Ideal.lean ====
abbrev S32x8 : Shape := ⟨2, ![32, 8]⟩
abbrev S1x32768 : Shape := ⟨2, ![1, 32768]⟩
abbrev S8x32768 : Shape := ⟨2, ![8, 32768]⟩
abbrev S32 : Shape := ⟨1, ![32]⟩
abbrev S32x1 : Shape := ⟨2, ![32, 1]⟩
abbrev S32x32768 : Shape := ⟨2, ![32, 32768]⟩
abbrev S1x32x32768 : Shape := ⟨3, ![1, 32, 32768]⟩
abbrev S8x32 : Shape := ⟨2, ![8, 32]⟩
abbrev S8x32x1 : Shape := ⟨3, ![8, 32, 1]⟩
abbrev S_ : Shape := ⟨0, ![]⟩
abbrev S8x32x32768 : Shape := ⟨3, ![8, 32, 32768]⟩

abbrev nBuf : Space → Nat
  | .hbm => 31
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S1x32768, .i32⟩
  | .hbm, ⟨2, _⟩ => ⟨S8x32768, .f32⟩
  | .hbm, ⟨3, _⟩ => ⟨S32, .i32⟩
  | .hbm, ⟨4, _⟩ => ⟨S32x1, .i32⟩
  | .hbm, ⟨5, _⟩ => ⟨S32x32768, .i32⟩
  | .hbm, ⟨6, _⟩ => ⟨S32x32768, .i32⟩
  | .hbm, ⟨7, _⟩ => ⟨S32x32768, .i1⟩
  | .hbm, ⟨8, _⟩ => ⟨S1x32x32768, .i1⟩
  | .hbm, ⟨9, _⟩ => ⟨S8x32, .f32⟩
  | .hbm, ⟨10, _⟩ => ⟨S8x32x1, .f32⟩
  | .hbm, ⟨11, _⟩ => ⟨S_, .f32⟩
  | .hbm, ⟨12, _⟩ => ⟨S_, .f32⟩
  | .hbm, ⟨13, _⟩ => ⟨S8x32x32768, .i1⟩
  | .hbm, ⟨14, _⟩ => ⟨S8x32x32768, .f32⟩
  | .hbm, ⟨15, _⟩ => ⟨S8x32x32768, .f32⟩
  | .hbm, ⟨16, _⟩ => ⟨S8x32x32768, .f32⟩
  | .hbm, ⟨17, _⟩ => ⟨S_, .f32⟩
  | .hbm, ⟨18, _⟩ => ⟨S8x32x32768, .f32⟩
  | .hbm, ⟨19, _⟩ => ⟨S_, .f32⟩
  | .hbm, ⟨20, _⟩ => ⟨S8x32768, .f32⟩
  | .hbm, ⟨21, _⟩ => ⟨S8x32x32768, .f32⟩
  | .hbm, ⟨22, _⟩ => ⟨S_, .f32⟩
  | .hbm, ⟨23, _⟩ => ⟨S8x32x32768, .f32⟩
  | .hbm, ⟨24, _⟩ => ⟨S8x32x32768, .f32⟩
  | .hbm, ⟨25, _⟩ => ⟨S_, .f32⟩
  | .hbm, ⟨26, _⟩ => ⟨S8x32, .f32⟩
  | .hbm, ⟨27, _⟩ => ⟨S8x32x1, .f32⟩
  | .hbm, ⟨28, _⟩ => ⟨S_, .f32⟩
  | .hbm, ⟨29, _⟩ => ⟨S8x32, .f32⟩
  | .hbm, ⟨30, _⟩ => ⟨S32x8, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_v8_1 : Ref sig .tc := ⟨.hbm, 13, rfl⟩
abbrev main_call0_v2 : Ref sig .tc := ⟨.hbm, 14, rfl⟩
abbrev main_call0_v3 : Ref sig .tc := ⟨.hbm, 15, rfl⟩
abbrev main_v8_0 : Ref sig .tc := ⟨.hbm, 16, rfl⟩
abbrev main_call0_cst : Ref sig .tc := ⟨.hbm, 17, rfl⟩
abbrev main_v8_2 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_cst_0 : Ref sig .tc := ⟨.hbm, 25, rfl⟩
abbrev main_call1_v2 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩

abbrev nD : Nat := 1
abbrev τ : Topo := Topo.v7x

variable {F : FTy → Type} [FloatOps F]
-- ==== Kernel7.lean ====
abbrev S2048x512 : Shape := ⟨2, ![2048, 512]⟩
abbrev S2048x256 : Shape := ⟨2, ![2048, 256]⟩
abbrev S2048x1792 : Shape := ⟨2, ![2048, 1792]⟩
abbrev S1x1792 : Shape := ⟨2, ![1, 1792]⟩
abbrev S2048x2560 : Shape := ⟨2, ![2048, 2560]⟩
abbrev S256x512 : Shape := ⟨2, ![256, 512]⟩
abbrev S256x256 : Shape := ⟨2, ![256, 256]⟩
abbrev S256x1792 : Shape := ⟨2, ![256, 1792]⟩
abbrev S8x1792 : Shape := ⟨2, ![8, 1792]⟩
abbrev S256x2560 : Shape := ⟨2, ![256, 2560]⟩

abbrev nBuf : Space → Nat
  | .hbm => 5
  | .vmem => 11
  | .smem => 0
  | _ => 0

abbrev bufTy : (tb : Table) → Fin (tcTables nBuf tb) → BufTy
  | .hbm, ⟨0, _⟩ => ⟨S2048x512, .f32⟩
  | .hbm, ⟨1, _⟩ => ⟨S2048x256, .f32⟩
  | .hbm, ⟨2, _⟩ => ⟨S2048x1792, .f32⟩
  | .hbm, ⟨3, _⟩ => ⟨S1x1792, .f32⟩
  | .hbm, ⟨4, _⟩ => ⟨S2048x2560, .bf16⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S256x1792, .f32⟩
  | .local _ .vmem, ⟨5, _⟩ => ⟨S256x1792, .f32⟩
  | .local _ .vmem, ⟨6, _⟩ => ⟨S8x1792, .f32⟩
  | .local _ .vmem, ⟨7, _⟩ => ⟨S8x1792, .f32⟩
  | .local _ .vmem, ⟨8, _⟩ => ⟨S1x1792, .f32⟩
  | .local _ .vmem, ⟨9, _⟩ => ⟨S256x2560, .bf16⟩
  | .local _ .vmem, ⟨10, _⟩ => ⟨S256x2560, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S2048x512 : Shape := ⟨2, ![2048, 512]⟩
abbrev S2048x256 : Shape := ⟨2, ![2048, 256]⟩
abbrev S2048x1792 : Shape := ⟨2, ![2048, 1792]⟩
abbrev S1x1792 : Shape := ⟨2, ![1, 1792]⟩
abbrev S_ : Shape := ⟨0, ![]⟩
abbrev S2048x2560 : Shape := ⟨2, ![2048, 2560]⟩
abbrev S2047x1792 : Shape := ⟨2, ![2047, 1792]⟩

abbrev nBuf : Space → Nat
  | .hbm => 33
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x256, .f32⟩
  | .hbm, ⟨2, _⟩ => ⟨S2048x1792, .f32⟩
  | .hbm, ⟨3, _⟩ => ⟨S1x1792, .f32⟩
  | .hbm, ⟨4, _⟩ => ⟨S_, .f32⟩
  | .hbm, ⟨5, _⟩ => ⟨S2048x2560, .f32⟩
  | .hbm, ⟨6, _⟩ => ⟨S2048x512, .f32⟩
  | .hbm, ⟨7, _⟩ => ⟨S2048x256, .f32⟩
  | .hbm, ⟨8, _⟩ => ⟨S2048x1792, .f32⟩
  | .hbm, ⟨9, _⟩ => ⟨S1x1792, .f32⟩
  | .hbm, ⟨10, _⟩ => ⟨S_, .f32⟩
  | .hbm, ⟨11, _⟩ => ⟨S1x1792, .f32⟩
  | .hbm, ⟨12, _⟩ => ⟨S2047x1792, .f32⟩
  | .hbm, ⟨13, _⟩ => ⟨S2048x1792, .f32⟩
  | .hbm, ⟨14, _⟩ => ⟨S_, .f32⟩
  | .hbm, ⟨15, _⟩ => ⟨S1x1792, .f32⟩
  | .hbm, ⟨16, _⟩ => ⟨S2048x1792, .f32⟩
  | .hbm, ⟨17, _⟩ => ⟨S2048x1792, .f32⟩
  | .hbm, ⟨18, _⟩ => ⟨S2048x1792, .f32⟩
  | .hbm, ⟨19, _⟩ => ⟨S2048x1792, .f32⟩
  | .hbm, ⟨20, _⟩ => ⟨S2048x1792, .f32⟩
  | .hbm, ⟨21, _⟩ => ⟨S2048x1792, .f32⟩
  | .hbm, ⟨22, _⟩ => ⟨S2048x1792, .f32⟩
  | .hbm, ⟨23, _⟩ => ⟨S2048x1792, .f32⟩
  | .hbm, ⟨24, _⟩ => ⟨S2048x1792, .f32⟩
  | .hbm, ⟨25, _⟩ => ⟨S2048x1792, .f32⟩
  | .hbm, ⟨26, _⟩ => ⟨S1x1792, .f32⟩
  | .hbm, ⟨27, _⟩ => ⟨S2047x1792, .f32⟩
  | .hbm, ⟨28, _⟩ => ⟨S_, .f32⟩
  | .hbm, ⟨29, _⟩ => ⟨S2048x1792, .f32⟩
  | .hbm, ⟨30, _⟩ => ⟨S2048x1792, .f32⟩
  | .hbm, ⟨31, _⟩ => ⟨S2048x2560, .f32⟩
  | .hbm, ⟨32, _⟩ => ⟨S2048x2560, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Ffn.lean ====
/- The scalar mathematics of the convolution-gated feed-forward layer, on extended reals: shifts along the rows, the
   causal three-tap convolution, the tanh form of the gaussian error gate and its derivative. -/
module

public import Idealize.ShloMosaic.Lib.Pointwise
public import Idealize.ShloMosaic.Lib.WordCmp

@[expose] public section

set_option maxRecDepth 16384

noncomputable section

namespace Cert.Ffn

open Idealize.ShloMosaic Idealize.ShloMosaic.WordCmp
open scoped BigOperators

/-- Channel `n` of half `s` among all channels. -/
def ch (s : Fin 2) (n : Fin 4096) : Fin 8192 := ⟨4096 * s.val + n.val, by omega⟩

/-- The rows moved `s` down: row `t` reads row `t - s`, and zero where there is none. -/
def dn (u : Fin 2048 → EReal) (s : ℕ) (t : Fin 2048) : EReal :=
  if h : s ≤ t.val then u ⟨t.val - s, by omega⟩ else 0

/-- The rows moved `s` up: row `t` reads row `t + s`, and zero where there is none. -/
def up (u : Fin 2048 → EReal) (s : ℕ) (t : Fin 2048) : EReal :=
  if h : t.val + s < 2048 then u ⟨t.val + s, h⟩ else 0

/-- The causal convolution of one channel: bias `b`, taps `w0`, `w1`, `w2` on the rows two above, one above, and here. -/
def conv (b w0 w1 w2 : EReal) (u : Fin 2048 → EReal) (t : Fin 2048) : EReal :=
  ((b + w0 * dn u 2 t) + w1 * dn u 1 t) + w2 * u t

/-- The convolution turned round: how a gradient of its result reaches its input. -/
def convT (w0 w1 w2 : EReal) (d : Fin 2048 → EReal) (t : Fin 2048) : EReal :=
  (w2 * d t + w1 * up d 1 t) + w0 * up d 2 t

/-- One half. -/
def half : EReal := Ideal.ofBits .f32 0x3F000000#32

/-- The square root of two over pi, as the programs round it. -/
def root : EReal := Ideal.ofBits .f32 0x3F4C422A#32

/-- The tanh of the gate's inner polynomial, with cubic coefficient `c`. -/
def th (c g : EReal) : EReal := Ideal.tanh (root * (g + c * (g * g * g)))

/-- The gate: half of `g` times one plus the tanh. -/
def gelu (c g : EReal) : EReal := half * g * (1 + th c g)

/-- The gate's derivative, with `c3` three times the cubic coefficient. -/
def geluD (c c3 g : EReal) : EReal :=
  half * (1 + th c g) + half * g * (1 - th c g * th c g) * (root * (1 + c3 * (g * g)))

/-- A selection between row `t - s` (found by turning the rows round) and zero is the shift down. -/
theorem select_dn (u : Fin 2048 → EReal) (w : EReal) (t : Fin 2048) (s : ℕ) (hs : s < 2048) :
    Scalar.select (IntOp.cmpi .sge (BitVec.ofNat 32 t.val) (BitVec.ofNat 32 s))
      (w * u ⟨(t.val + 2048 - s) % 2048, Nat.mod_lt _ (by norm_num)⟩) 0 = w * dn u s t := by
  rw [cmpi_sge_ofNat (by omega) (by omega), Scalar.select_ofBool]
  unfold dn
  by_cases h : s ≤ t.val
  · rw [if_pos (by simpa using h), dif_pos h]
    congr 2; apply Fin.ext; show (t.val + 2048 - s) % 2048 = t.val - s; omega
  · rw [if_neg (by simpa using h), dif_neg h, mul_zero]

/-- A selection between row `t + s` (found by turning the rows round) and zero is the shift up. -/
theorem select_up (u : Fin 2048 → EReal) (t : Fin 2048) (s : ℕ) (hs : s < 2048) :
    Scalar.select (IntOp.cmpi .slt (BitVec.ofNat 32 t.val) (BitVec.ofNat 32 (2048 - s)))
      (u ⟨(t.val + 2048 - (2048 - s)) % 2048, Nat.mod_lt _ (by norm_num)⟩) 0 = up u s t := by
  rw [cmpi_slt_ofNat (by omega) (by omega), Scalar.select_ofBool]
  unfold up
  by_cases h : t.val + s < 2048
  · rw [if_pos (by simpa using (by omega : t.val < 2048 - s)), dif_pos h]
    congr 1; apply Fin.ext; show (t.val + 2048 - (2048 - s)) % 2048 = t.val + s; omega
  · rw [if_neg (by simpa using (by omega : ¬ t.val < 2048 - s)), dif_neg h]

/-- No shift at all. -/
theorem up_zero (u : Fin 2048 → EReal) (t : Fin 2048) : up u 0 t = u t := by
  unfold up; rw [dif_pos (by omega)]; rfl

end Cert.Ffn

end
-- ==== Proof.Layer.lean ====
/- The convolution-gated feed-forward layer and its gradients as the kernel arranges them, as plain functions of the
   entries of the arguments: channels in two halves, the second half holding the values the first half gates. -/
module

public import proofs.«01_k».proof.Proof.Ffn

@[expose] public section

set_option maxRecDepth 16384

noncomputable section

namespace Cert.Layer

open Idealize.ShloMosaic Cert.Ffn
open scoped BigOperators

/-- The entries of the arguments: the input, the widening weight, the taps, the bias, the narrowing weight, and the
    gradient of the result. -/
structure Args where
  /-- the input -/
  H : Fin 2048 → Fin 1024 → EReal
  /-- the widening weight -/
  Wu : Fin 1024 → Fin 8192 → EReal
  /-- the taps -/
  Cw : Fin 3 → Fin 8192 → EReal
  /-- the bias -/
  Cb : Fin 8192 → EReal
  /-- the narrowing weight -/
  Wd : Fin 4096 → Fin 1024 → EReal
  /-- the gradient of the result -/
  Df : Fin 2048 → Fin 1024 → EReal

variable (A : Args) (c c3 : EReal)

/-- The widened input. -/
def U (t : Fin 2048) (n : Fin 8192) : EReal := ∑ k : Fin 1024, A.H t k * A.Wu k n

/-- Its convolution. -/
def C (t : Fin 2048) (n : Fin 8192) : EReal := conv (A.Cb n) (A.Cw 0 n) (A.Cw 1 n) (A.Cw 2 n) (fun t => U A t n) t

/-- The gated product. -/
def act (t : Fin 2048) (n : Fin 4096) : EReal := gelu c (C A t (ch 0 n)) * C A t (ch 1 n)

/-- The layer's result. -/
def out (t : Fin 2048) (j : Fin 1024) : EReal := ∑ n : Fin 4096, act A c t n * A.Wd n j

/-- The gradient of the narrowing weight. -/
def dWd (n : Fin 4096) (j : Fin 1024) : EReal := ∑ t : Fin 2048, act A c t n * A.Df t j

/-- The gradient of the gated product. -/
def dAct (t : Fin 2048) (n : Fin 4096) : EReal := ∑ k : Fin 1024, A.Df t k * A.Wd n k

/-- The gradient of half `s` of the convolution. -/
def dC (s : Fin 2) (n : Fin 4096) (t : Fin 2048) : EReal :=
  dAct A t n * (if s.val = 0 then C A t (ch 1 n) * geluD c c3 (C A t (ch 0 n)) else gelu c (C A t (ch 0 n)))

/-- The gradient of the convolution's input. -/
def dU (s : Fin 2) (n : Fin 4096) (t : Fin 2048) : EReal :=
  convT (A.Cw 0 (ch s n)) (A.Cw 1 (ch s n)) (A.Cw 2 (ch s n)) (dC A c c3 s n) t

/-- The gradients of the taps. -/
def dCw (s : Fin 2) (i : Fin 3) (n : Fin 4096) : EReal := ∑ t : Fin 2048, up (dC A c c3 s n) (2 - i.val) t * U A t (ch s n)

/-- The gradient of the bias. -/
def dCb (s : Fin 2) (n : Fin 4096) : EReal := ∑ t : Fin 2048, dC A c c3 s n t

/-- The gradient of the input: four quarters of the channels added up in order. -/
def dH (t : Fin 2048) (j : Fin 1024) : EReal :=
  (((∑ k : Fin 2048, dU A c c3 0 ⟨k.val, by omega⟩ t * A.Wu j ⟨k.val, by omega⟩)
    + ∑ k : Fin 2048, dU A c c3 0 ⟨2048 + k.val, by omega⟩ t * A.Wu j ⟨2048 + k.val, by omega⟩)
    + ∑ k : Fin 2048, dU A c c3 1 ⟨k.val, by omega⟩ t * A.Wu j ⟨4096 + k.val, by omega⟩)
    + ∑ k : Fin 2048, dU A c c3 1 ⟨2048 + k.val, by omega⟩ t * A.Wu j ⟨6144 + k.val, by omega⟩

/-- The gradient of the widening weight, in four shards of channels. -/
def dWu (s : Fin 4) (k : Fin 1024) (j : Fin 2048) : EReal :=
  ∑ t : Fin 2048, A.H t k * dU A c c3 ⟨s.val / 2, by omega⟩ ⟨s.val % 2 * 2048 + j.val, by omega⟩ t

end Cert.Layer

end
-- ==== Proof.HostIn.lean ====
/- What the host lines before the calls leave: the arguments narrowed, the widening weight cut into four shards of
   channels. Over the extended reals a narrowing changes nothing. -/
module

public import proofs.«01_k».proof.Proof.Gen.KernelIdeal.Frame
public import proofs.«01_k».proof.Proof.Layer
public import Idealize.ShloMosaic.Lib.Pipeline.ValueKit
public import Idealize.ShloMosaic.Lib.StableHlo.ReadAt

@[expose] public section

set_option maxRecDepth 16384

noncomputable section

namespace Cert.KernelIdeal.HostIn

open Cert.KernelIdeal Cert.KernelIdeal.Gen
open Idealize.ShloMosaic Idealize.ShloMosaic.TcCoe Idealize.SL.Sem
open scoped BigOperators

variable (m : (ℓ : Loc nD τ sig) → Buf (Elt Ideal) ℓ) (ρ : Dev nD → PrngReg) (c : Dev nD)

/-- The entries of the kernel's arguments on device `c`. -/
def args : Layer.Args where
  H t k := m ((c : Thread nD τ).loc main_arg0) (ix2 t k)
  Wu k n := m ((c : Thread nD τ).loc main_arg1) (ix2 k n)
  Cw i n := m ((c : Thread nD τ).loc main_arg2) (ix2 i n)
  Cb n := m ((c : Thread nD τ).loc main_arg3) (ix2 0 n)
  Wd n j := m ((c : Thread nD τ).loc main_arg4) (ix2 n j)
  Df t k := m ((c : Thread nD τ).loc main_arg5) (ix2 t k)

/-- The input. -/
theorem in_h (t : Fin 2048) (k : Fin 1024) : V1 m ρ c main_v0 (ix2 t k) = (args m c).H t k := by
  show StableHlo.after hostOps0 (W0 m ρ c) (Proc.devRef .tc main_v0) (ix2 t k) = _
  unfold hostOps0
  after_reads_at
  rfl

/-- The widening weight's shard `s`. -/
theorem in_wup (s : Fin 4) (k : Fin 1024) (j : Fin 2048) :
    V1 m ρ c main_v3 (ix3 s k j) = (args m c).Wu k ⟨s.val * 2048 + j.val, by omega⟩ := by
  show StableHlo.after hostOps0 (W0 m ρ c) (Proc.devRef .tc main_v3) (ix3 s k j) = _
  unfold hostOps0
  after_reads_at
  rfl

/-- The narrowing weight. -/
theorem in_wd (n : Fin 4096) (j : Fin 1024) : V1 m ρ c main_v4 (ix2 n j) = (args m c).Wd n j := by
  show StableHlo.after hostOps0 (W0 m ρ c) (Proc.devRef .tc main_v4) (ix2 n j) = _
  unfold hostOps0
  after_reads_at
  rfl

/-- The gradient of the result. -/
theorem in_df (t : Fin 2048) (k : Fin 1024) : V1 m ρ c main_v5 (ix2 t k) = (args m c).Df t k := by
  show StableHlo.after hostOps0 (W0 m ρ c) (Proc.devRef .tc main_v5) (ix2 t k) = _
  unfold hostOps0
  after_reads_at
  rfl

/-- The taps, which no host line touches. -/
theorem in_cw (i : Fin 3) (n : Fin 8192) : V1 m ρ c main_arg2 (ix2 i n) = (args m c).Cw i n :=
  congrFun (W1_args m ρ c main_arg2 (by decide)) _

/-- The bias, which no host line touches. -/
theorem in_cb (n : Fin 8192) : V1 m ρ c main_arg3 (ix2 0 n) = (args m c).Cb n :=
  congrFun (W1_args m ρ c main_arg3 (by decide)) _

end Cert.KernelIdeal.HostIn

end
-- ==== Proof.UpActBlock.lean ====
/- What one block of the widening call computes: a product for each half of the channels, the causal convolution along
   the rows, and from the two the gate, its derivative and the gated product. -/
module

public import proofs.«01_k».proof.Proof.Gen.KernelIdeal.Frame
public import proofs.«01_k».proof.Proof.Ffn
public import Idealize.ShloMosaic.Lib.Pipeline.ValueKit

@[expose] public section

set_option maxRecDepth 16384

noncomputable section

namespace Cert.KernelIdeal.UpActBlock

open Cert.KernelIdeal Cert.KernelIdeal.Gen Cert.Ffn
open Idealize.ShloMosaic Idealize.ShloMosaic.TcCoe Idealize.SL.Sem
open scoped BigOperators

/-- The cubic coefficient of the gate's inner polynomial, by its name. -/
def cubic : EReal := Named.named (F := Ideal) (φ := .f32) κ "cubic" 0x3D372713#32

/-- Three times the cubic coefficient, by its name. -/
def cubic3 : EReal := Named.named (F := Ideal) (φ := .f32) κ "cubic3" 0x3E095D4F#32

/-- The product of the first half's block. -/
theorem pay4_apply (a : Vec Ideal S2048x1024 .bf16) (b : Vec Ideal S1x1024x256 .bf16) (y : S2048x256.Idx) :
    k0_pay4 (F := Ideal) a b y = ∑ k : Fin 1024, a (ix2 (y 0) k) * b (ix3 0 k (y 1)) := by
  idx_vars y
  pointwise [k0_pay4, k0_pay3]

/-- The product of the second half's block. -/
theorem pay5_apply (a : Vec Ideal S2048x1024 .bf16) (b : Vec Ideal S1x1024x256 .bf16) (y : S2048x256.Idx) :
    k0_pay5 (F := Ideal) a b y = ∑ k : Fin 1024, a (ix2 (y 0) k) * b (ix3 0 k (y 1)) := by
  idx_vars y
  pointwise [k0_pay5, k0_pay3]

/-- The first half's convolution without its last tap. -/
theorem pay6_apply (a : Vec Ideal S2048x1024 .bf16) (b : Vec Ideal S1x1024x256 .bf16) (w : Vec Ideal S3x256 .f32)
    (c : Vec Ideal S1x256 .f32) (y : S2048x256.Idx) :
    k0_pay6 (F := Ideal) a b w c y
      = (c (ix2 0 (y 1)) + w (ix2 0 (y 1)) * dn (fun t => k0_pay4 a b (ix2 t (y 1))) 2 (y 0))
        + w (ix2 1 (y 1)) * dn (fun t => k0_pay4 a b (ix2 t (y 1))) 1 (y 0) := by
  idx_vars y
  unfold k0_pay6
  generalize k0_pay4 (F := Ideal) a b = u
  pointwise
  exact congrArg₂ (· + ·)
    (congrArg₂ (· + ·) rfl (select_dn (fun t => u (ix2 t y1)) (w (ix2 0 y1)) y0 2 (by norm_num)))
    (select_dn (fun t => u (ix2 t y1)) (w (ix2 1 y1)) y0 1 (by norm_num))

/-- The second half's convolution. -/
theorem pay8_apply (u : FVec Ideal S2048x256 .f32) (w : Vec Ideal S3x256 .f32) (c : Vec Ideal S1x256 .f32) (y : S2048x256.Idx) :
    k0_pay8 (F := Ideal) u w c y
      = conv (c (ix2 0 (y 1))) (w (ix2 0 (y 1))) (w (ix2 1 (y 1))) (w (ix2 2 (y 1))) (fun t => u (ix2 t (y 1))) (y 0) := by
  idx_vars y
  pointwise [k0_pay8]
  exact congrArg₂ (· + ·) (congrArg₂ (· + ·)
    (congrArg₂ (· + ·) rfl (select_dn (fun t => u (ix2 t y1)) (w (ix2 0 y1)) y0 2 (by norm_num)))
    (select_dn (fun t => u (ix2 t y1)) (w (ix2 1 y1)) y0 1 (by norm_num))) rfl

/-- The first half's convolution: what came before and the last tap. -/
theorem pay7_apply (u : FVec Ideal S2048x256 .f32) (w : Vec Ideal S3x256 .f32) (v : FVec Ideal S2048x256 .f32) (y : S2048x256.Idx) :
    k0_pay7 (F := Ideal) u w v y = v y + w (ix2 2 (y 1)) * u y := by
  idx_vars y
  pointwise [k0_pay7]

/-- The tanh of the gate's inner polynomial. -/
theorem pay9_apply (u : FVec Ideal S2048x256 .f32) (w : Vec Ideal S3x256 .f32) (v : FVec Ideal S2048x256 .f32) (y : S2048x256.Idx) :
    k0_pay9 (F := Ideal) u w v y = th cubic (k0_pay7 u w v y) := by
  idx_vars y
  pointwise [k0_pay9, k0_pay7, th, root, cubic]

/-- The gate. -/
theorem pay10_apply (u : FVec Ideal S2048x256 .f32) (w : Vec Ideal S3x256 .f32) (v : FVec Ideal S2048x256 .f32) (y : S2048x256.Idx) :
    k0_pay10 (F := Ideal) u w v y = gelu cubic (k0_pay7 u w v y) := by
  idx_vars y
  pointwise [k0_pay10, k0_pay9, k0_pay7, th, root, cubic, gelu, half]

/-- The gate's derivative times the second half. -/
theorem pay1_apply (g v t : FVec Ideal S2048x256 .f32) (y : S2048x256.Idx) (h : t y = th cubic (g y)) :
    k0_pay1 (F := Ideal) g v t k0_pay11 y
      = v y * geluD cubic cubic3 (g y) := by
  unfold geluD
  rw [← h]
  idx_vars y
  pointwise [k0_pay1, k0_pay11, half, root, cubic3]

/-- The gated product. -/
theorem pay2_apply (v a : FVec Ideal S2048x256 .f32) (y : S2048x256.Idx) : k0_pay2 (F := Ideal) v a y = a y * v y := by
  idx_vars y
  pointwise [k0_pay2]

end Cert.KernelIdeal.UpActBlock

end
-- ==== Proof.UpAct.lean ====
/- The arrays the widening call leaves, as functions of the arrays it finds: the two halves of the product, the gated
   product, and the two factors its gradient will need. -/
module

public import proofs.«01_k».proof.Proof.Gen.KernelIdeal.Frame
public import proofs.«01_k».proof.Proof.UpActBlock
public import Idealize.ShloMosaic.Lib.Pipeline.ValueKit

@[expose] public section

set_option maxRecDepth 16384

noncomputable section

namespace Cert.KernelIdeal.UpAct

open Cert.KernelIdeal Cert.KernelIdeal.Gen Cert.Ffn Cert.KernelIdeal.UpActBlock
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- Channel `n` of the gate's half among all channels. -/
def lo (n : Fin 4096) : Fin 8192 := ⟨n.val, by omega⟩

/-- Channel `n` of the other half among all channels. -/
def hi (n : Fin 4096) : Fin 8192 := ⟨4096 + n.val, by omega⟩

section Arrays

variable (h : Vec Ideal S2048x1024 .bf16) (w : Vec Ideal S4x1024x2048 .bf16) (cw : Vec Ideal S3x8192 .f32)
  (cb : Vec Ideal S1x8192 .f32)

/-- The widened input at row `t` and channel `n` of all: the weight lies in four shards of channels. -/
def wide (t : Fin 2048) (n : Fin 8192) : EReal :=
  ∑ k : Fin 1024, h (ix2 t k) * w (ix3 ⟨n.val / 2048, by omega⟩ k ⟨n.val % 2048, by omega⟩)

/-- Its convolution. -/
def cv (t : Fin 2048) (n : Fin 8192) : EReal :=
  conv (cb (ix2 0 n)) (cw (ix2 0 n)) (cw (ix2 1 n)) (cw (ix2 2 n)) (fun t => wide h w t n) t

/-- The first half of the widened input. -/
def aGate : Vec Ideal S2048x4096 .f32 := fun y => wide h w (y 0) (lo (y 1))

/-- The second half of the widened input. -/
def aVal : Vec Ideal S2048x4096 .f32 := fun y => wide h w (y 0) (hi (y 1))

/-- The derivative of the gated product by the gate's argument. -/
def aDGate : Vec Ideal S2048x4096 .f32 := fun y =>
  cv h w cw cb (y 0) (hi (y 1)) * geluD cubic cubic3 (cv h w cw cb (y 0) (lo (y 1)))

/-- The derivative of the gated product by its other factor: the gate. -/
def aDVal : Vec Ideal S2048x4096 .f32 := fun y => gelu cubic (cv h w cw cb (y 0) (lo (y 1)))

/-- The gated product. -/
def aAct : Vec Ideal S2048x4096 .bf16 := fun y =>
  gelu cubic (cv h w cw cb (y 0) (lo (y 1))) * cv h w cw cb (y 0) (hi (y 1))

end Arrays

/-- Where the grid points of the call read and write. -/
theorem idx0 : ∀ t : Fin cfg0.N, win0_0.index t = ![0, 0]
    ∧ win0_1.index t = ![(grid0.coords t 0).val / 8, 0, (grid0.coords t 0).val % 8]
    ∧ win0_2.index t = ![2 + (grid0.coords t 0).val / 8, 0, (grid0.coords t 0).val % 8]
    ∧ win0_3.index t = ![0, (grid0.coords t 0).val] ∧ win0_4.index t = ![0, 16 + (grid0.coords t 0).val]
    ∧ win0_5.index t = ![0, (grid0.coords t 0).val] ∧ win0_6.index t = ![0, 16 + (grid0.coords t 0).val] :=
  (by decide +kernel : ∀ t : Fin grid0.N, _)

/-- Every output is cut in the same strips of columns. -/
theorem odx0 : ∀ t : Fin cfg0.N, win0_7.index t = ![0, (grid0.coords t 0).val]
    ∧ win0_8.index t = ![0, (grid0.coords t 0).val] ∧ win0_9.index t = ![0, (grid0.coords t 0).val]
    ∧ win0_10.index t = ![0, (grid0.coords t 0).val] ∧ win0_11.index t = ![0, (grid0.coords t 0).val] :=
  (by decide +kernel : ∀ t : Fin grid0.N, _)

/-- The grid has sixteen points. -/
theorem crd0 : ∀ t : Fin cfg0.N, (grid0.coords t 0).val < 16 := (by decide +kernel : ∀ t : Fin grid0.N, _)

/-- The channel that column `q` of strip `t` is. -/
def chan (t : Fin cfg0.N) (q : Fin 256) : Fin 4096 := ⟨(grid0.coords t 0).val * 256 + q.val, by have := crd0 t; omega⟩

variable (c : Dev nD) (t : Fin cfg0.N)

/-- The first product's block is a strip of the first half. -/
theorem blkGate (p : Fin 2048) (q : Fin 256) :
    k0_pay4 (F := Ideal) (iblk0 V c 0 t) (iblk0 V c 1 t) (ix2 p q) = wide (V c main_v0) (V c main_v3) p (lo (chan t q)) := by
  refine (pay4_apply _ _ (ix2 p q)).trans ?_
  have e := idx0 t
  have e' := crd0 t
  refine Finset.sum_congr rfl fun k _ => congrArg₂ (· * ·) ?_ ?_
  · blk_ext [iblk0, e.1]
  · blk_ext [iblk0, e.2.1, lo, chan]

/-- The second product's block is a strip of the second half. -/
theorem blkVal (p : Fin 2048) (q : Fin 256) :
    k0_pay5 (F := Ideal) (iblk0 V c 0 t) (iblk0 V c 2 t) (ix2 p q) = wide (V c main_v0) (V c main_v3) p (hi (chan t q)) := by
  refine (pay5_apply _ _ (ix2 p q)).trans ?_
  have e := idx0 t
  have e' := crd0 t
  refine Finset.sum_congr rfl fun k _ => congrArg₂ (· * ·) ?_ ?_
  · blk_ext [iblk0, e.1]
  · blk_ext [iblk0, e.2.2.1, hi, chan]

/-- The strips of the taps and of the bias. -/
theorem blkTaps (i : Fin 3) (q : Fin 256) :
    iblk0 V c 3 t (ix2 i q) = V c main_arg2 (ix2 i (lo (chan t q)))
    ∧ iblk0 V c 4 t (ix2 i q) = V c main_arg2 (ix2 i (hi (chan t q)))
    ∧ iblk0 V c 5 t (ix2 0 q) = V c main_arg3 (ix2 0 (lo (chan t q)))
    ∧ iblk0 V c 6 t (ix2 0 q) = V c main_arg3 (ix2 0 (hi (chan t q))) := by
  have e := idx0 t
  have e' := crd0 t
  refine ⟨?_, ?_, ?_, ?_⟩
  · blk_ext [iblk0, e.2.2.2.1, lo, chan]
  · blk_ext [iblk0, e.2.2.2.2.1, hi, chan]
  · blk_ext [iblk0, e.2.2.2.2.2.1, lo, chan]
  · blk_ext [iblk0, e.2.2.2.2.2.2, hi, chan]

/-- The first convolution's block. -/
theorem blkConvGate (p : Fin 2048) (q : Fin 256) :
    k0_pay7 (F := Ideal) (k0_pay4 (iblk0 V c 0 t) (iblk0 V c 1 t)) (iblk0 V c 3 t)
        (k0_pay6 (iblk0 V c 0 t) (iblk0 V c 1 t) (iblk0 V c 3 t) (iblk0 V c 5 t)) (ix2 p q)
      = cv (V c main_v0) (V c main_v3) (V c main_arg2) (V c main_arg3) p (lo (chan t q)) := by
  refine (pay7_apply _ _ _ (ix2 p q)).trans ?_
  refine (congrArg (· + _) (pay6_apply _ _ _ _ (ix2 p q))).trans ?_
  have f := funext fun p => blkGate V c t p q
  show conv (iblk0 V c 5 t (ix2 0 q)) (iblk0 V c 3 t (ix2 0 q)) (iblk0 V c 3 t (ix2 1 q)) (iblk0 V c 3 t (ix2 2 q))
    (fun p => k0_pay4 (F := Ideal) (iblk0 V c 0 t) (iblk0 V c 1 t) (ix2 p q)) p = _
  rw [(blkTaps V c t 0 q).1, (blkTaps V c t 1 q).1, (blkTaps V c t 2 q).1, (blkTaps V c t 0 q).2.2.1, f]
  rfl

/-- The second convolution's block. -/
theorem blkConvVal (p : Fin 2048) (q : Fin 256) :
    k0_pay8 (F := Ideal) (k0_pay5 (iblk0 V c 0 t) (iblk0 V c 2 t)) (iblk0 V c 4 t) (iblk0 V c 6 t) (ix2 p q)
      = cv (V c main_v0) (V c main_v3) (V c main_arg2) (V c main_arg3) p (hi (chan t q)) := by
  refine (pay8_apply _ _ _ (ix2 p q)).trans ?_
  have f := funext fun p => blkVal V c t p q
  show conv (iblk0 V c 6 t (ix2 0 q)) (iblk0 V c 4 t (ix2 0 q)) (iblk0 V c 4 t (ix2 1 q)) (iblk0 V c 4 t (ix2 2 q))
    (fun p => k0_pay5 (F := Ideal) (iblk0 V c 0 t) (iblk0 V c 2 t) (ix2 p q)) p = _
  rw [(blkTaps V c t 0 q).2.1, (blkTaps V c t 1 q).2.1, (blkTaps V c t 2 q).2.1, (blkTaps V c t 0 q).2.2.2, f]
  rfl

/-- The gate's block. -/
theorem blkGelu (p : Fin 2048) (q : Fin 256) :
    k0_pay10 (F := Ideal) (k0_pay4 (iblk0 V c 0 t) (iblk0 V c 1 t)) (iblk0 V c 3 t)
        (k0_pay6 (iblk0 V c 0 t) (iblk0 V c 1 t) (iblk0 V c 3 t) (iblk0 V c 5 t)) (ix2 p q)
      = gelu cubic (cv (V c main_v0) (V c main_v3) (V c main_arg2) (V c main_arg3) p (lo (chan t q))) :=
  (pay10_apply _ _ _ (ix2 p q)).trans (congrArg (gelu cubic) (blkConvGate V c t p q))

/-- The block of the derivative by the gate's argument. -/
theorem blkDGate (p : Fin 2048) (q : Fin 256) :
    k0_pay1 (F := Ideal)
        (k0_pay7 (k0_pay4 (iblk0 V c 0 t) (iblk0 V c 1 t)) (iblk0 V c 3 t)
          (k0_pay6 (iblk0 V c 0 t) (iblk0 V c 1 t) (iblk0 V c 3 t) (iblk0 V c 5 t)))
        (k0_pay8 (k0_pay5 (iblk0 V c 0 t) (iblk0 V c 2 t)) (iblk0 V c 4 t) (iblk0 V c 6 t))
        (k0_pay9 (k0_pay4 (iblk0 V c 0 t) (iblk0 V c 1 t)) (iblk0 V c 3 t)
          (k0_pay6 (iblk0 V c 0 t) (iblk0 V c 1 t) (iblk0 V c 3 t) (iblk0 V c 5 t))) k0_pay11 (ix2 p q)
      = aDGate (V c main_v0) (V c main_v3) (V c main_arg2) (V c main_arg3) (ix2 p (chan t q)) := by
  refine (pay1_apply _ _ _ (ix2 p q) (pay9_apply _ _ _ (ix2 p q))).trans ?_
  exact congrArg₂ (fun a b => a * geluD cubic cubic3 b) (blkConvVal V c t p q) (blkConvGate V c t p q)

/-- The block of the gated product. -/
theorem blkAct (p : Fin 2048) (q : Fin 256) :
    k0_pay2 (F := Ideal)
        (k0_pay8 (k0_pay5 (iblk0 V c 0 t) (iblk0 V c 2 t)) (iblk0 V c 4 t) (iblk0 V c 6 t))
        (k0_pay10 (k0_pay4 (iblk0 V c 0 t) (iblk0 V c 1 t)) (iblk0 V c 3 t)
          (k0_pay6 (iblk0 V c 0 t) (iblk0 V c 1 t) (iblk0 V c 3 t) (iblk0 V c 5 t))) (ix2 p q)
      = aAct (V c main_v0) (V c main_v3) (V c main_arg2) (V c main_arg3) (ix2 p (chan t q)) := by
  refine (pay2_apply _ _ (ix2 p q)).trans ?_
  exact congrArg₂ (· * ·) (blkGelu V c t p q) (blkConvVal V c t p q)

end Cert.KernelIdeal.UpAct

end
-- ==== Proof.UpActArrays.lean ====
/- The five arrays the widening call leaves, block by block. -/
module

public import proofs.«01_k».proof.Proof.Gen.KernelIdeal.Frame
public import proofs.«01_k».proof.Proof.UpAct
public import Idealize.ShloMosaic.Lib.Pipeline.ValueKit

@[expose] public section

set_option maxRecDepth 16384

noncomputable section

namespace Cert.KernelIdeal.UpActArrays

open Cert.KernelIdeal Cert.KernelIdeal.Gen Cert.Ffn Cert.KernelIdeal.UpActBlock Cert.KernelIdeal.UpAct
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The first half of the widened input. -/
theorem arr0_7 (c : Dev nD) : (dat0 V c).arrAt 7 cfg0.N
    = aGate (V c main_v0) (V c main_v3) := by
  refine (dat0 V c).arrAt_eq_of_covers 7 _ (by decide +kernel) fun t hf y => ?_
  blk_simp
  rw [after0_7]
  unfold_out out0_7
  frame_out
  refine (congrArg _ (eq_ix2 (y : S2048x256.Idx))).trans (((blkGate V c t) (y 0) (y 1)).trans ?_)
  show aGate _ _ (ix2 (y 0) (chan t (y 1))) = _
  have e := odx0 t
  blk_ext [chan, e.1]

/-- The second half of the widened input. -/
theorem arr0_8 (c : Dev nD) : (dat0 V c).arrAt 8 cfg0.N
    = aVal (V c main_v0) (V c main_v3) := by
  refine (dat0 V c).arrAt_eq_of_covers 8 _ (by decide +kernel) fun t hf y => ?_
  blk_simp
  rw [after0_8]
  unfold_out out0_8
  frame_out
  refine (congrArg _ (eq_ix2 (y : S2048x256.Idx))).trans (((blkVal V c t) (y 0) (y 1)).trans ?_)
  show aVal _ _ (ix2 (y 0) (chan t (y 1))) = _
  have e := odx0 t
  blk_ext [chan, e.2.1]

/-- The derivative by the gate's argument. -/
theorem arr0_9 (c : Dev nD) : (dat0 V c).arrAt 9 cfg0.N
    = aDGate (V c main_v0) (V c main_v3) (V c main_arg2) (V c main_arg3) := by
  refine (dat0 V c).arrAt_eq_of_covers 9 _ (by decide +kernel) fun t hf y => ?_
  blk_simp
  rw [after0_9]
  unfold_out out0_9
  frame_out
  refine (congrArg _ (eq_ix2 (y : S2048x256.Idx))).trans (((blkDGate V c t) (y 0) (y 1)).trans ?_)
  show aDGate _ _ _ _ (ix2 (y 0) (chan t (y 1))) = _
  have e := odx0 t
  blk_ext [chan, e.2.2.1]

/-- The gate. -/
theorem arr0_10 (c : Dev nD) : (dat0 V c).arrAt 10 cfg0.N
    = aDVal (V c main_v0) (V c main_v3) (V c main_arg2) (V c main_arg3) := by
  refine (dat0 V c).arrAt_eq_of_covers 10 _ (by decide +kernel) fun t hf y => ?_
  blk_simp
  rw [after0_10]
  unfold_out out0_10
  frame_out
  refine (congrArg _ (eq_ix2 (y : S2048x256.Idx))).trans (((blkGelu V c t) (y 0) (y 1)).trans ?_)
  show aDVal _ _ _ _ (ix2 (y 0) (chan t (y 1))) = _
  have e := odx0 t
  blk_ext [chan, e.2.2.2.1]

/-- The gated product. -/
theorem arr0_11 (c : Dev nD) : (dat0 V c).arrAt 11 cfg0.N
    = aAct (V c main_v0) (V c main_v3) (V c main_arg2) (V c main_arg3) := by
  refine (dat0 V c).arrAt_eq_of_covers 11 _ (by decide +kernel) fun t hf y => ?_
  blk_simp
  rw [after0_11]
  unfold_out out0_11
  frame_out
  refine (congrArg _ (eq_ix2 (y : S2048x256.Idx))).trans (((blkAct V c t) (y 0) (y 1)).trans ?_)
  show aAct _ _ _ _ (ix2 (y 0) (chan t (y 1))) = _
  have e := odx0 t
  blk_ext [chan, e.2.2.2.2]

end Cert.KernelIdeal.UpActArrays

end
-- ==== Proof.ActBwdBlock.lean ====
/- What one block of the backward call computes: the gradient of the gated product, from it the gradient of each half's
   convolution, and from that the gradients of the convolution's input, taps and bias. -/
module

public import proofs.«01_k».proof.Proof.Gen.KernelIdeal.Frame
public import proofs.«01_k».proof.Proof.Ffn
public import Idealize.ShloMosaic.Lib.Pipeline.ValueKit

@[expose] public section

set_option maxRecDepth 16384

noncomputable section

namespace Cert.KernelIdeal.ActBwdBlock

open Cert.KernelIdeal Cert.KernelIdeal.Gen Cert.Ffn
open Idealize.ShloMosaic Idealize.ShloMosaic.TcCoe Idealize.SL.Sem
open scoped BigOperators

/-- The gradient of the gated product: rows of the result's gradient against rows of the narrowing weight. -/
theorem pay4_apply (a : Vec Ideal S2048x1024 .bf16) (b : Vec Ideal S256x1024 .bf16) (p : Fin 2048) (q : Fin 256) :
    k3_pay4 (F := Ideal) a b (ix2 p q) = ∑ k : Fin 1024, a (ix2 p k) * b (ix2 q k) := by
  pointwise [k3_pay4]

theorem pay5_apply (a : Vec Ideal S2048x1024 .bf16) (b : Vec Ideal S256x1024 .bf16) (d : Vec Ideal S2048x256 .f32) (p : Fin 2048) (q : Fin 256) :
    k3_pay5 (F := Ideal) a b d (ix2 p q) = k3_pay4 a b (ix2 p q) * d (ix2 p q) := by
  unfold k3_pay5
  generalize k3_pay4 (F := Ideal) a b = u
  pointwise

theorem pay6_apply (a : Vec Ideal S2048x1024 .bf16) (b : Vec Ideal S256x1024 .bf16) (d : Vec Ideal S2048x256 .f32) (p : Fin 2048) (q : Fin 256) :
    k3_pay6 (F := Ideal) a b d (ix2 p q) = k3_pay4 a b (ix2 p q) * d (ix2 p q) := by
  unfold k3_pay6
  generalize k3_pay4 (F := Ideal) a b = u
  pointwise

theorem pay7_eq (v : Vec Ideal S2048x256 .f32) : k3_pay7 (F := Ideal) v = v := by
  funext y; idx_vars y; pointwise [k3_pay7]

theorem pay14_eq (v : Vec Ideal S2048x256 .f32) : k3_pay14 (F := Ideal) v = v := by
  funext y; idx_vars y; pointwise [k3_pay14]

/-- The first half's gradient moved one row up. -/
theorem pay8_apply (a : Vec Ideal S2048x1024 .bf16) (b : Vec Ideal S256x1024 .bf16) (d : Vec Ideal S2048x256 .f32) (p : Fin 2048) (q : Fin 256) :
    k3_pay8 (F := Ideal) a b d (ix2 p q) = up (fun t => k3_pay5 a b d (ix2 t q)) 1 p := by
  unfold k3_pay8
  generalize k3_pay5 (F := Ideal) a b d = u
  pointwise
  exact select_up (fun t => u (ix2 t q)) p 1 (by norm_num)

/-- The first half's gradient moved two rows up. -/
theorem pay9_apply (a : Vec Ideal S2048x1024 .bf16) (b : Vec Ideal S256x1024 .bf16) (d : Vec Ideal S2048x256 .f32) (p : Fin 2048) (q : Fin 256) :
    k3_pay9 (F := Ideal) a b d (ix2 p q) = up (fun t => k3_pay5 a b d (ix2 t q)) 2 p := by
  unfold k3_pay9
  generalize k3_pay5 (F := Ideal) a b d = u
  pointwise
  exact select_up (fun t => u (ix2 t q)) p 2 (by norm_num)

/-- The second half's gradient moved one row up. -/
theorem pay15_apply (u : FVec Ideal S2048x256 .f32) (p : Fin 2048) (q : Fin 256) :
    k3_pay15 (F := Ideal) u (ix2 p q) = up (fun t => u (ix2 t q)) 1 p := by
  pointwise [k3_pay15]
  exact select_up (fun t => u (ix2 t q)) p 1 (by norm_num)

/-- The second half's gradient moved two rows up. -/
theorem pay16_apply (u : FVec Ideal S2048x256 .f32) (p : Fin 2048) (q : Fin 256) :
    k3_pay16 (F := Ideal) u (ix2 p q) = up (fun t => u (ix2 t q)) 2 p := by
  pointwise [k3_pay16]
  exact select_up (fun t => u (ix2 t q)) p 2 (by norm_num)

/-- The first half's gradient of the convolution's input. -/
theorem pay11_apply (a : Vec Ideal S2048x1024 .bf16) (b : Vec Ideal S256x1024 .bf16) (d : Vec Ideal S2048x256 .f32)
    (w : Vec Ideal S3x256 .f32) (s : Fin 1) (p : Fin 2048) (q : Fin 256) :
    k3_pay11 (F := Ideal) (k3_pay10 a b d w) (ix3 s p q)
      = convT (w (ix2 0 q)) (w (ix2 1 q)) (w (ix2 2 q)) (fun t => k3_pay5 a b d (ix2 t q)) p := by
  unfold convT
  rw [← pay8_apply, ← pay9_apply]
  unfold k3_pay10
  generalize k3_pay9 (F := Ideal) a b d = u2
  generalize k3_pay8 (F := Ideal) a b d = u1
  generalize k3_pay5 (F := Ideal) a b d = u
  pointwise [k3_pay11]

/-- The second half's gradient of the convolution's input. -/
theorem pay1_apply (u u1 u2 : FVec Ideal S2048x256 .f32) (w : Vec Ideal S3x256 .f32) (s : Fin 1) (p : Fin 2048) (q : Fin 256)
    (h1 : u1 (ix2 p q) = up (fun t => u (ix2 t q)) 1 p) (h2 : u2 (ix2 p q) = up (fun t => u (ix2 t q)) 2 p) :
    k3_pay1 (F := Ideal) u w u1 u2 (ix3 s p q)
      = convT (w (ix2 0 q)) (w (ix2 1 q)) (w (ix2 2 q)) (fun t => u (ix2 t q)) p := by
  unfold convT
  rw [← h1, ← h2]
  pointwise [k3_pay1]

/-- The bias's gradient is the sum of the rows. -/
theorem pay2_apply (u : FVec Ideal S2048x256 .f32) (s s' : Fin 1) (q : Fin 256) :
    k3_pay2 (F := Ideal) u (ix3 s s' q) = ∑ t : Fin 2048, u (ix2 t q) := by
  pointwise [k3_pay2]

theorem pay12_apply (u : FVec Ideal S2048x256 .f32) (s s' : Fin 1) (q : Fin 256) :
    k3_pay12 (F := Ideal) u (ix3 s s' q) = ∑ t : Fin 2048, u (ix2 t q) := by
  pointwise [k3_pay12]

/-- The taps' gradients: the gradient moved up as far as the tap reaches back, against the convolution's input. -/
theorem pay3_apply (u x u1 u2 : FVec Ideal S2048x256 .f32) (s : Fin 1) (i : Fin 3) (q : Fin 256)
    (h1 : ∀ p, u1 (ix2 p q) = up (fun t => u (ix2 t q)) 1 p) (h2 : ∀ p, u2 (ix2 p q) = up (fun t => u (ix2 t q)) 2 p) :
    k3_pay3 (F := Ideal) u x u1 u2 (ix3 s i q)
      = ∑ t : Fin 2048, up (fun t => u (ix2 t q)) (2 - i.val) t * x (ix2 t q) := by
  pointwise [k3_pay3]
  simp only [h1, h2]
  fin_cases i <;> simp [up_zero]

theorem pay13_apply (u x u1 u2 : FVec Ideal S2048x256 .f32) (s : Fin 1) (i : Fin 3) (q : Fin 256)
    (h1 : ∀ p, u1 (ix2 p q) = up (fun t => u (ix2 t q)) 1 p) (h2 : ∀ p, u2 (ix2 p q) = up (fun t => u (ix2 t q)) 2 p) :
    k3_pay13 (F := Ideal) u x u1 u2 (ix3 s i q)
      = ∑ t : Fin 2048, up (fun t => u (ix2 t q)) (2 - i.val) t * x (ix2 t q) := by
  pointwise [k3_pay13]
  simp only [h1, h2]
  fin_cases i <;> simp [up_zero]

end Cert.KernelIdeal.ActBwdBlock

end
-- ==== Proof.ActBwd.lean ====
/- The arrays the backward call leaves, as functions of the arrays it finds: the gradients of the convolution's input,
   of its taps and of its bias, each in two halves of the channels. -/
module

public import proofs.«01_k».proof.Proof.Gen.KernelIdeal.Frame
public import proofs.«01_k».proof.Proof.ActBwdBlock
public import Idealize.ShloMosaic.Lib.Pipeline.ValueKit

@[expose] public section

set_option maxRecDepth 16384

noncomputable section

namespace Cert.KernelIdeal.ActBwd

open Cert.KernelIdeal Cert.KernelIdeal.Gen Cert.Ffn Cert.KernelIdeal.ActBwdBlock
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

section Arrays

variable (ug uv dg dv : Vec Ideal S2048x4096 .f32) (df : Vec Ideal S2048x1024 .bf16) (wd : Vec Ideal S4096x1024 .bf16)
  (cw : Vec Ideal S3x8192 .f32)

/-- The gradient of the gated product. -/
def dAct (t : Fin 2048) (n : Fin 4096) : EReal := ∑ k : Fin 1024, df (ix2 t k) * wd (ix2 n k)

/-- The gradient of half `s` of the convolution. -/
def dConv (s : Fin 2) (n : Fin 4096) (t : Fin 2048) : EReal :=
  dAct df wd t n * (if s.val = 0 then dg (ix2 t n) else dv (ix2 t n))

/-- The gradient of the convolution's input. -/
def aDu : Vec Ideal S2x2048x4096 .bf16 := fun y =>
  convT (cw (ix2 0 (ch (y 0) (y 2)))) (cw (ix2 1 (ch (y 0) (y 2)))) (cw (ix2 2 (ch (y 0) (y 2)))) (dConv dg dv df wd (y 0) (y 2)) (y 1)

/-- The gradients of the taps. -/
def aDw : Vec Ideal S2x3x4096 .f32 := fun y =>
  ∑ t : Fin 2048, up (dConv dg dv df wd (y 0) (y 2)) (2 - (y 1).val) t
    * (if (y 0).val = 0 then ug (ix2 t (y 2)) else uv (ix2 t (y 2)))

/-- The gradient of the bias. -/
def aDb : Vec Ideal S2x1x4096 .f32 := fun y => ∑ t : Fin 2048, dConv dg dv df wd (y 0) (y 2) t

end Arrays

/-- Where the grid points of the call read. -/
theorem idx3 : ∀ t : Fin cfg3.N, win3_0.index t = ![0, (grid3.coords t 0).val]
    ∧ win3_1.index t = ![0, (grid3.coords t 0).val] ∧ win3_2.index t = ![0, (grid3.coords t 0).val]
    ∧ win3_3.index t = ![0, (grid3.coords t 0).val] ∧ win3_4.index t = ![0, 0]
    ∧ win3_5.index t = ![(grid3.coords t 0).val, 0]
    ∧ win3_6.index t = ![0, (grid3.coords t 0).val] ∧ win3_7.index t = ![0, 16 + (grid3.coords t 0).val] :=
  (by decide +kernel : ∀ t : Fin grid3.N, _)

/-- Where they write. -/
theorem odx3 : ∀ t : Fin cfg3.N, win3_8.index t = ![0, 0, (grid3.coords t 0).val]
    ∧ win3_9.index t = ![0, 0, (grid3.coords t 0).val] ∧ win3_10.index t = ![0, 0, (grid3.coords t 0).val] :=
  (by decide +kernel : ∀ t : Fin grid3.N, _)

/-- The grid has sixteen points. -/
theorem crd3 : ∀ t : Fin cfg3.N, (grid3.coords t 0).val < 16 := (by decide +kernel : ∀ t : Fin grid3.N, _)

/-- The channel that column `q` of strip `t` is. -/
def chan (t : Fin cfg3.N) (q : Fin 256) : Fin 4096 := ⟨(grid3.coords t 0).val * 256 + q.val, by have := crd3 t; omega⟩

variable (c : Dev nD) (t : Fin cfg3.N)

/-- The strips of the four saved arrays and of the taps. -/
theorem blkIn (p : Fin 2048) (i : Fin 3) (q : Fin 256) :
    iblk3 V c 0 t (ix2 p q) = V c main_v6_0 (ix2 p (chan t q)) ∧ iblk3 V c 1 t (ix2 p q) = V c main_v6_1 (ix2 p (chan t q))
    ∧ iblk3 V c 2 t (ix2 p q) = V c main_v6_2 (ix2 p (chan t q)) ∧ iblk3 V c 3 t (ix2 p q) = V c main_v6_3 (ix2 p (chan t q))
    ∧ iblk3 V c 6 t (ix2 i q) = V c main_arg2 (ix2 i (ch 0 (chan t q)))
    ∧ iblk3 V c 7 t (ix2 i q) = V c main_arg2 (ix2 i (ch 1 (chan t q))) := by
  have e := idx3 t
  have e' := crd3 t
  refine ⟨?_, ?_, ?_, ?_, ?_, ?_⟩
  · blk_ext [iblk3, e.1, chan]
  · blk_ext [iblk3, e.2.1, chan]
  · blk_ext [iblk3, e.2.2.1, chan]
  · blk_ext [iblk3, e.2.2.2.1, chan]
  · blk_ext [iblk3, e.2.2.2.2.2.2.1, ch, chan]
  · blk_ext [iblk3, e.2.2.2.2.2.2.2, ch, chan]

/-- The block of the gated product's gradient. -/
theorem blkAct (p : Fin 2048) (q : Fin 256) :
    k3_pay4 (F := Ideal) (iblk3 V c 4 t) (iblk3 V c 5 t) (ix2 p q) = dAct (V c main_v5) (V c main_v4) p (chan t q) := by
  refine (pay4_apply _ _ p q).trans ?_
  have e := idx3 t
  have e' := crd3 t
  refine Finset.sum_congr rfl fun k _ => congrArg₂ (· * ·) ?_ ?_
  · blk_ext [iblk3, e.2.2.2.2.1]
  · blk_ext [iblk3, e.2.2.2.2.2.1, chan]

/-- The blocks of the two halves' gradients. -/
theorem blkHalves (p : Fin 2048) (q : Fin 256) :
    k3_pay5 (F := Ideal) (iblk3 V c 4 t) (iblk3 V c 5 t) (iblk3 V c 2 t) (ix2 p q)
      = dConv (V c main_v6_2) (V c main_v6_3) (V c main_v5) (V c main_v4) 0 (chan t q) p
    ∧ k3_pay6 (F := Ideal) (iblk3 V c 4 t) (iblk3 V c 5 t) (iblk3 V c 3 t) (ix2 p q)
      = dConv (V c main_v6_2) (V c main_v6_3) (V c main_v5) (V c main_v4) 1 (chan t q) p :=
  ⟨(pay5_apply _ _ _ p q).trans (congrArg₂ (· * ·) (blkAct V c t p q) (blkIn V c t p 0 q).2.2.1),
    (pay6_apply _ _ _ p q).trans (congrArg₂ (· * ·) (blkAct V c t p q) (blkIn V c t p 0 q).2.2.2.1)⟩

/-- The block of the convolution input's gradient. -/
theorem blkDu (s : Fin 2) (p : Fin 2048) (q : Fin 256) :
    out3_8 (F := Ideal) (iblk3 V c 0 t) (iblk3 V c 1 t) (iblk3 V c 2 t) (iblk3 V c 3 t) (iblk3 V c 4 t) (iblk3 V c 5 t)
        (iblk3 V c 6 t) (iblk3 V c 7 t) (ix3 s p q)
      = aDu (V c main_v6_2) (V c main_v6_3) (V c main_v5) (V c main_v4) (V c main_arg2) (ix3 s p (chan t q)) := by
  unfold_out out3_8
  frame_out
  canon_tiles x h
  · idx_vars x
    obtain rfl : s = 1 := Fin.ext (by have : s.val = _ := h0; simp at this; omega)
    obtain rfl : p = x1 := Fin.ext h1
    obtain rfl : q = x2 := Fin.ext h2
    refine (pay1_apply _ _ _ _ _ _ _ (pay15_apply _ _ _) (pay16_apply _ _ _)).trans ?_
    have f := funext fun p => (blkHalves V c t p q).2
    rw [f, (blkIn V c t 0 0 q).2.2.2.2.2, (blkIn V c t 0 1 q).2.2.2.2.2, (blkIn V c t 0 2 q).2.2.2.2.2]
    rfl
  · idx_vars x
    obtain rfl : s = 0 := Fin.ext (by have : s.val = _ := h0; simp at this; omega)
    obtain rfl : p = x1 := Fin.ext h1
    obtain rfl : q = x2 := Fin.ext h2
    refine (pay11_apply _ _ _ _ _ _ _).trans ?_
    have f := funext fun p => (blkHalves V c t p q).1
    rw [f, (blkIn V c t 0 0 q).2.2.2.2.1, (blkIn V c t 0 1 q).2.2.2.2.1, (blkIn V c t 0 2 q).2.2.2.2.1]
    rfl

/-- The block of the taps' gradients. -/
theorem blkDw (s : Fin 2) (i : Fin 3) (q : Fin 256) :
    out3_9 (F := Ideal) (iblk3 V c 0 t) (iblk3 V c 1 t) (iblk3 V c 2 t) (iblk3 V c 3 t) (iblk3 V c 4 t) (iblk3 V c 5 t)
        (iblk3 V c 6 t) (iblk3 V c 7 t) (ix3 s i q)
      = aDw (V c main_v6_0) (V c main_v6_1) (V c main_v6_2) (V c main_v6_3) (V c main_v5) (V c main_v4) (ix3 s i (chan t q)) := by
  unfold_out out3_9
  frame_out
  canon_tiles x h
  · idx_vars x
    obtain rfl : s = 1 := Fin.ext (by have : s.val = _ := h0; simp at this; omega)
    obtain rfl : i = x1 := Fin.ext h1
    obtain rfl : q = x2 := Fin.ext h2
    rw [pay14_eq]
    refine (pay3_apply _ _ _ _ _ _ _ (fun p => pay15_apply _ _ _) (fun p => pay16_apply _ _ _)).trans ?_
    have f := funext fun p => (blkHalves V c t p q).2
    rw [f]
    exact Finset.sum_congr rfl fun p _ => congrArg (_ * ·) (blkIn V c t p 0 q).2.1
  · idx_vars x
    obtain rfl : s = 0 := Fin.ext (by have : s.val = _ := h0; simp at this; omega)
    obtain rfl : i = x1 := Fin.ext h1
    obtain rfl : q = x2 := Fin.ext h2
    rw [pay7_eq]
    refine (pay13_apply _ _ _ _ _ _ _ (fun p => pay8_apply _ _ _ _ _) (fun p => pay9_apply _ _ _ _ _)).trans ?_
    have f := funext fun p => (blkHalves V c t p q).1
    rw [f]
    exact Finset.sum_congr rfl fun p _ => congrArg (_ * ·) (blkIn V c t p 0 q).1

/-- The block of the bias's gradient. -/
theorem blkDb (s : Fin 2) (i : Fin 1) (q : Fin 256) :
    out3_10 (F := Ideal) (iblk3 V c 0 t) (iblk3 V c 1 t) (iblk3 V c 2 t) (iblk3 V c 3 t) (iblk3 V c 4 t) (iblk3 V c 5 t)
        (iblk3 V c 6 t) (iblk3 V c 7 t) (ix3 s i q)
      = aDb (V c main_v6_2) (V c main_v6_3) (V c main_v5) (V c main_v4) (ix3 s i (chan t q)) := by
  unfold_out out3_10
  frame_out
  canon_tiles x h
  · idx_vars x
    obtain rfl : s = 1 := Fin.ext (by have : s.val = _ := h0; simp at this; omega)
    obtain rfl : q = x2 := Fin.ext h2
    refine (pay2_apply _ _ _ _).trans ?_
    exact Finset.sum_congr rfl fun p _ => (blkHalves V c t p q).2
  · idx_vars x
    obtain rfl : s = 0 := Fin.ext (by have : s.val = _ := h0; simp at this; omega)
    obtain rfl : q = x2 := Fin.ext h2
    refine (pay12_apply _ _ _ _).trans ?_
    exact Finset.sum_congr rfl fun p _ => (blkHalves V c t p q).1

end Cert.KernelIdeal.ActBwd

end
-- ==== Proof.ActBwdArrays.lean ====
/- The three arrays the backward call leaves, block by block. -/
module

public import proofs.«01_k».proof.Proof.Gen.KernelIdeal.Frame
public import proofs.«01_k».proof.Proof.ActBwd
public import Idealize.ShloMosaic.Lib.Pipeline.ValueKit

@[expose] public section

set_option maxRecDepth 16384

noncomputable section

namespace Cert.KernelIdeal.ActBwdArrays

open Cert.KernelIdeal Cert.KernelIdeal.Gen Cert.Ffn Cert.KernelIdeal.ActBwdBlock Cert.KernelIdeal.ActBwd
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The gradient of the convolution's input. -/
theorem arr3_8 (c : Dev nD) : (dat3 V c).arrAt 8 cfg3.N
    = aDu (V c main_v6_2) (V c main_v6_3) (V c main_v5) (V c main_v4) (V c main_arg2) := by
  refine (dat3 V c).arrAt_eq_of_covers 8 _ (by decide +kernel) fun t hf y => ?_
  blk_simp
  rw [after3_8]
  refine (congrArg _ (eq_ix3 (y : S2x2048x256.Idx))).trans ((blkDu V c t (y 0) (y 1) (y 2)).trans ?_)
  show aDu (V c main_v6_2) (V c main_v6_3) (V c main_v5) (V c main_v4) (V c main_arg2) (ix3 (y 0) (y 1) (chan t (y 2))) = _
  have e := odx3 t
  blk_ext [chan, e.1]

/-- The gradients of the taps. -/
theorem arr3_9 (c : Dev nD) : (dat3 V c).arrAt 9 cfg3.N
    = aDw (V c main_v6_0) (V c main_v6_1) (V c main_v6_2) (V c main_v6_3) (V c main_v5) (V c main_v4) := by
  refine (dat3 V c).arrAt_eq_of_covers 9 _ (by decide +kernel) fun t hf y => ?_
  blk_simp
  rw [after3_9]
  refine (congrArg _ (eq_ix3 (y : S2x3x256.Idx))).trans ((blkDw V c t (y 0) (y 1) (y 2)).trans ?_)
  show aDw (V c main_v6_0) (V c main_v6_1) (V c main_v6_2) (V c main_v6_3) (V c main_v5) (V c main_v4) (ix3 (y 0) (y 1) (chan t (y 2))) = _
  have e := odx3 t
  blk_ext [chan, e.2.1]

/-- The gradient of the bias. -/
theorem arr3_10 (c : Dev nD) : (dat3 V c).arrAt 10 cfg3.N
    = aDb (V c main_v6_2) (V c main_v6_3) (V c main_v5) (V c main_v4) := by
  refine (dat3 V c).arrAt_eq_of_covers 10 _ (by decide +kernel) fun t hf y => ?_
  blk_simp
  rw [after3_10]
  refine (congrArg _ (eq_ix3 (y : S2x1x256.Idx))).trans ((blkDb V c t (y 0) (y 1) (y 2)).trans ?_)
  show aDb (V c main_v6_2) (V c main_v6_3) (V c main_v5) (V c main_v4) (ix3 (y 0) (y 1) (chan t (y 2))) = _
  have e := odx3 t
  blk_ext [chan, e.2.2]

end Cert.KernelIdeal.ActBwdArrays

end
-- ==== Proof.Products.lean ====
/- What each plain product of the kernel writes into its block: at every place of the block a sum over the
   contracted axis. The float casts are the identity over the extended reals. -/
module

public import proofs.«01_k».proof.Proof.Gen.KernelIdeal.Skeleton
public import Idealize.ShloMosaic.Lib.Pointwise

@[expose] public section

set_option maxRecDepth 16384

noncomputable section

namespace Cert.KernelIdeal.Products

open Cert.KernelIdeal Cert.KernelIdeal.Gen Idealize.ShloMosaic Idealize.SL.Sem
open scoped BigOperators

/-- The narrowing product, one block: rows of the activation against columns of the weight. -/
theorem k1_apply (a : Vec Ideal S1024x4096 .bf16) (b : Vec Ideal S4096x512 .bf16) (y : S1024x512.Idx) :
    k1_pay1 (F := Ideal) a b y = ∑ k : Fin 4096, a (ix2 (y 0) k) * b (ix2 k (y 1)) := by
  idx_vars y
  pointwise [k1_pay1]

/-- The gradient of the narrowing weight, one block: columns of the activation against columns of the gradient. -/
theorem k2_apply (a b : Vec Ideal S2048x1024 .bf16) (y : S1024x1024.Idx) :
    k2_pay1 (F := Ideal) a b y = ∑ k : Fin 2048, a (ix2 k (y 0)) * b (ix2 k (y 1)) := by
  idx_vars y
  pointwise [k2_pay1]

/-- The gradient of the input, one block: four products, one for each quarter of the contracted axis. -/
theorem k4_apply (a0 b0 a1 b1 a2 b2 a3 b3 : Vec Ideal S1x512x2048 .bf16) (y : S512x512.Idx) :
    k4_pay1 (F := Ideal) a0 b0 a1 b1 a2 b2 a3 b3 y
      = (((∑ k : Fin 2048, a0 (ix3 0 (y 0) k) * b0 (ix3 0 (y 1) k)) + ∑ k : Fin 2048, a1 (ix3 0 (y 0) k) * b1 (ix3 0 (y 1) k))
          + ∑ k : Fin 2048, a2 (ix3 0 (y 0) k) * b2 (ix3 0 (y 1) k)) + ∑ k : Fin 2048, a3 (ix3 0 (y 0) k) * b3 (ix3 0 (y 1) k) := by
  idx_vars y
  pointwise [k4_pay1]

/-- The gradient of the widening weight, one block: columns of the input against columns of the gradient. -/
theorem k5_apply (a : Vec Ideal S2048x1024 .bf16) (b : Vec Ideal S1x2048x1024 .bf16) (y : S1x1024x1024.Idx) :
    k5_pay1 (F := Ideal) a b y = ∑ k : Fin 2048, a (ix2 k (y 1)) * b (ix3 0 k (y 2)) := by
  idx_vars y
  pointwise [k5_pay1]

end Cert.KernelIdeal.Products

end
-- ==== Proof.ProductArrays.lean ====
/- The arrays the four plain products of the kernel leave, as functions of the arrays they find: every block of
   the result is one grid point's, and the blocks tile the array. -/
module

public import proofs.«01_k».proof.Proof.Gen.KernelIdeal.Frame
public import proofs.«01_k».proof.Proof.Products
public import Idealize.ShloMosaic.Lib.Pipeline.ValueKit

@[expose] public section

set_option maxRecDepth 16384

noncomputable section

namespace Cert.KernelIdeal.ProductArrays

open Cert.KernelIdeal Cert.KernelIdeal.Gen Cert.KernelIdeal.Products
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## The gradient of the widening weight -/

/-- Where the grid points of the product read and write. -/
theorem idx5 : ∀ t : Fin cfg5.N, win5_0.index t = ![0, (grid5.coords t 0).val]
    ∧ win5_1.index t = ![(grid5.coords t 1).val / 4, 0, (grid5.coords t 1).val % 4]
    ∧ win5_2.index t = ![(grid5.coords t 1).val / 2, 0, (grid5.coords t 1).val % 2] :=
  (by decide +kernel : ∀ t : Fin grid5.N, _)

/-- The first grid axis has one point, the second eight. -/
theorem crd5 : ∀ t : Fin cfg5.N, (grid5.coords t 0).val = 0 ∧ (grid5.coords t 1).val < 8 :=
  (by decide +kernel : ∀ t : Fin grid5.N, _)

/-- The array of the widening weight's gradient: columns of the input against columns of the convolution input's
    gradient, both halves of the columns cut in two. -/
def dwup (h : Vec Ideal S2048x1024 .bf16) (du : Vec Ideal S2x2048x4096 .bf16) : Vec Ideal S4x1024x2048 .f32 :=
  fun y => ∑ k : Fin 2048, h (ix2 k (y 1)) * du (ix3 ⟨(y 0).val / 2, by have := (y 0).isLt; show _ < 2; change _ < 4 at this; omega⟩ k
    ⟨(y 0).val % 2 * 2048 + (y 2).val, by have := (y 2).isLt; show _ < 4096; change _ < 2048 at this; omega⟩)

theorem arr5 (c : Dev nD) : (dat5 V c).arrAt 2 cfg5.N = dwup (V c main_v0) (V c main_v9_0) := by
  refine (dat5 V c).arrAt_eq_of_covers 2 _ (by decide +kernel) fun t hf y => ?_
  blk_simp
  rw [after5_2]
  frame_out
  refine (k5_apply _ _ y).trans ?_
  unfold dwup
  refine Finset.sum_congr rfl fun k _ => ?_
  have e := idx5 t
  have e' := crd5 t
  congr 1 <;> blk_ext [iblk5, e.1, e.2.1, e.2.2]

/-! ## The narrowing product -/

/-- Where the grid points of the product read and write. -/
theorem idx1 : ∀ t : Fin cfg1.N, win1_0.index t = ![(grid1.coords t 0).val, 0]
    ∧ win1_1.index t = ![0, (grid1.coords t 1).val]
    ∧ win1_2.index t = ![(grid1.coords t 0).val, (grid1.coords t 1).val] :=
  (by decide +kernel : ∀ t : Fin grid1.N, _)

/-- The narrowing product's array. -/
def down (a : Vec Ideal S2048x4096 .bf16) (w : Vec Ideal S4096x1024 .bf16) : Vec Ideal S2048x1024 .f32 :=
  fun y => ∑ k : Fin 4096, a (ix2 (y 0) k) * w (ix2 k (y 1))

theorem arr1 (c : Dev nD) : (dat1 V c).arrAt 2 cfg1.N = down (V c main_v6_4) (V c main_v4) := by
  refine (dat1 V c).arrAt_eq_of_covers 2 _ (by decide +kernel) fun t hf y => ?_
  blk_simp
  rw [after1_2]
  frame_out
  refine (k1_apply _ _ y).trans ?_
  unfold down
  refine Finset.sum_congr rfl fun k _ => ?_
  have e := idx1 t
  congr 1 <;> blk_ext [iblk1, e.1, e.2.1, e.2.2]

/-! ## The gradient of the narrowing weight -/

/-- Where the grid points of the product read and write. -/
theorem idx2 : ∀ t : Fin cfg2.N, win2_0.index t = ![0, (grid2.coords t 0).val]
    ∧ win2_1.index t = ![0, 0]
    ∧ win2_2.index t = ![(grid2.coords t 0).val, 0] :=
  (by decide +kernel : ∀ t : Fin grid2.N, _)

/-- The array of the narrowing weight's gradient. -/
def dwdown (a : Vec Ideal S2048x4096 .bf16) (df : Vec Ideal S2048x1024 .bf16) : Vec Ideal S4096x1024 .f32 :=
  fun y => ∑ k : Fin 2048, a (ix2 k (y 0)) * df (ix2 k (y 1))

theorem arr2 (c : Dev nD) : (dat2 V c).arrAt 2 cfg2.N = dwdown (V c main_v6_4) (V c main_v5) := by
  refine (dat2 V c).arrAt_eq_of_covers 2 _ (by decide +kernel) fun t hf y => ?_
  blk_simp
  rw [after2_2]
  frame_out
  refine (k2_apply _ _ y).trans ?_
  unfold dwdown
  refine Finset.sum_congr rfl fun k _ => ?_
  have e := idx2 t
  congr 1 <;> blk_ext [iblk2, e.1, e.2.1, e.2.2]

end Cert.KernelIdeal.ProductArrays

end
-- ==== Proof.InputGrad.lean ====
/- The array the gradient of the input leaves: four products of quarter rows added up in order. -/
module

public import proofs.«01_k».proof.Proof.Gen.KernelIdeal.Frame
public import proofs.«01_k».proof.Proof.Products
public import Idealize.ShloMosaic.Lib.Pipeline.ValueKit

@[expose] public section

set_option maxRecDepth 16384

noncomputable section

namespace Cert.KernelIdeal.InputGrad

open Cert.KernelIdeal Cert.KernelIdeal.Gen Cert.KernelIdeal.Products
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- Where the grid points of the product read and write. -/
theorem idx4 : ∀ t : Fin cfg4.N, win4_0.index t = ![0, (grid4.coords t 0).val, 0]
    ∧ win4_1.index t = ![0, (grid4.coords t 1).val, 0]
    ∧ win4_2.index t = ![(grid4.coords t 0).val, (grid4.coords t 1).val] :=
  (by decide +kernel : ∀ t : Fin grid4.N, _)

/-- The array of the input's gradient: the four quarters added up in order. -/
def dh (du : Vec Ideal S2x2048x4096 .bf16) (w : Vec Ideal S4x1024x2048 .bf16) : Vec Ideal S2048x1024 .f32 := fun y =>
  (((∑ k : Fin 2048, du (ix3 0 (y 0) ⟨k.val, by omega⟩) * w (ix3 0 (y 1) k))
    + ∑ k : Fin 2048, du (ix3 0 (y 0) ⟨2048 + k.val, by omega⟩) * w (ix3 1 (y 1) k))
    + ∑ k : Fin 2048, du (ix3 1 (y 0) ⟨k.val, by omega⟩) * w (ix3 2 (y 1) k))
    + ∑ k : Fin 2048, du (ix3 1 (y 0) ⟨2048 + k.val, by omega⟩) * w (ix3 3 (y 1) k)

set_option maxHeartbeats 2000000 in
/-- The array after all grid points. -/
theorem arr4 (c : Dev nD) : (dat4 V c).arrAt 2 cfg4.N = dh (V c main_v9_0) (V c main_v3) := by
  refine (dat4 V c).arrAt_eq_of_covers 2 _ (by decide +kernel) fun t hf y => ?_
  blk_simp
  rw [after4_2]
  frame_out
  refine (k4_apply _ _ _ _ _ _ _ _ y).trans ?_
  have e := idx4 t
  unfold dh
  refine congrArg₂ (· + ·) (congrArg₂ (· + ·) (congrArg₂ (· + ·) ?_ ?_) ?_) ?_ <;>
    refine Finset.sum_congr rfl fun k _ => congrArg₂ (· * ·) ?_ ?_ <;>
    rw [View.ld_apply] <;>
    blk_ext [iblk4, e.1, e.2.1, e.2.2, Rect.idx_unit_val]

end Cert.KernelIdeal.InputGrad

end
-- ==== Proof.Chain.lean ====
/- The kernel's results from its arguments: each call's arrays are those of the layer at the arguments' entries, call
   after call. -/
module

public import proofs.«01_k».proof.Proof.Gen.KernelIdeal.Frame
public import proofs.«01_k».proof.Proof.HostIn
public import proofs.«01_k».proof.Proof.UpActArrays
public import proofs.«01_k».proof.Proof.ActBwdArrays
public import proofs.«01_k».proof.Proof.ProductArrays
public import proofs.«01_k».proof.Proof.InputGrad
public import Idealize.ShloMosaic.Lib.Pipeline.ValueKit

@[expose] public section

set_option maxRecDepth 16384

noncomputable section

namespace Cert.KernelIdeal.Chain

open Cert.KernelIdeal Cert.KernelIdeal.Gen Cert.KernelIdeal.HostIn Cert.Ffn
open Cert.KernelIdeal.UpActBlock (cubic cubic3)
open Idealize.ShloMosaic Idealize.ShloMosaic.TcCoe Idealize.SL.Sem
open scoped BigOperators

variable (m : (ℓ : Loc nD τ sig) → Buf (Elt Ideal) ℓ) (ρ : Dev nD → PrngReg) (c : Dev nD)

/-- A sum of products, factor by factor. -/
theorem sum_mul_eq {N : Nat} {f g f' g' : Fin N → EReal} (h : ∀ k, f k = f' k) (h' : ∀ k, g k = g' k) :
    (∑ k, f k * g k) = ∑ k, f' k * g' k := Finset.sum_congr rfl fun k _ => congrArg₂ (· * ·) (h k) (h' k)

/-- A sum, term by term. -/
theorem sum_eq {N : Nat} {f f' : Fin N → EReal} (h : ∀ k, f k = f' k) : (∑ k, f k) = ∑ k, f' k :=
  Finset.sum_congr rfl fun k _ => h k

/-! ## The widening call -/

theorem wide_eq (t : Fin 2048) (n : Fin 8192) : UpAct.wide (V1 m ρ c main_v0) (V1 m ρ c main_v3) t n = Layer.U (args m c) t n := by
  unfold UpAct.wide Layer.U
  refine Finset.sum_congr rfl fun k _ => congrArg₂ (· * ·) (in_h m ρ c t k) ((in_wup m ρ c _ k _).trans ?_)
  exact congrArg ((args m c).Wu k) (Fin.ext (by show n.val / 2048 * 2048 + n.val % 2048 = n.val; omega))

theorem cv_eq (t : Fin 2048) (n : Fin 8192) :
    UpAct.cv (V1 m ρ c main_v0) (V1 m ρ c main_v3) (V1 m ρ c main_arg2) (V1 m ρ c main_arg3) t n = Layer.C (args m c) t n := by
  unfold UpAct.cv Layer.C
  rw [in_cb, in_cw, in_cw, in_cw, funext fun t => wide_eq m ρ c t n]

theorem lo_eq (n : Fin 4096) : UpAct.lo n = ch 0 n := Fin.ext (by show n.val = 4096 * 0 + n.val; omega)
theorem hi_eq (n : Fin 4096) : UpAct.hi n = ch 1 n := Fin.ext (by show 4096 + n.val = 4096 * 1 + n.val; omega)

/-- The first half of the widened input. -/
theorem ug_eq (t : Fin 2048) (n : Fin 4096) : V2 m ρ c main_v6_0 (ix2 t n) = Layer.U (args m c) t (ch 0 n) := by
  refine (congrFun ((W2_arr m ρ c 7).trans (UpActArrays.arr0_7 (V1 m ρ) c)) (ix2 t n)).trans ?_
  exact (wide_eq m ρ c t _).trans (congrArg _ (lo_eq n))

/-- The second half of the widened input. -/
theorem uv_eq (t : Fin 2048) (n : Fin 4096) : V2 m ρ c main_v6_1 (ix2 t n) = Layer.U (args m c) t (ch 1 n) := by
  refine (congrFun ((W2_arr m ρ c 8).trans (UpActArrays.arr0_8 (V1 m ρ) c)) (ix2 t n)).trans ?_
  exact (wide_eq m ρ c t _).trans (congrArg _ (hi_eq n))

/-- The gated product's derivative by the gate's argument. -/
theorem dg_eq (t : Fin 2048) (n : Fin 4096) : V2 m ρ c main_v6_2 (ix2 t n)
    = Layer.C (args m c) t (ch 1 n) * geluD cubic cubic3 (Layer.C (args m c) t (ch 0 n)) := by
  refine (congrFun ((W2_arr m ρ c 9).trans (UpActArrays.arr0_9 (V1 m ρ) c)) (ix2 t n)).trans ?_
  show UpAct.cv _ _ _ _ t (UpAct.hi n) * geluD cubic cubic3 (UpAct.cv _ _ _ _ t (UpAct.lo n)) = _
  rw [cv_eq, cv_eq, lo_eq, hi_eq]

/-- The gate. -/
theorem dv_eq (t : Fin 2048) (n : Fin 4096) : V2 m ρ c main_v6_3 (ix2 t n)
    = gelu cubic (Layer.C (args m c) t (ch 0 n)) := by
  refine (congrFun ((W2_arr m ρ c 10).trans (UpActArrays.arr0_10 (V1 m ρ) c)) (ix2 t n)).trans ?_
  show gelu cubic (UpAct.cv _ _ _ _ t (UpAct.lo n)) = _
  rw [cv_eq, lo_eq]

/-- The gated product. -/
theorem act_eq (t : Fin 2048) (n : Fin 4096) : V2 m ρ c main_v6_4 (ix2 t n) = Layer.act (args m c) cubic t n := by
  refine (congrFun ((W2_arr m ρ c 11).trans (UpActArrays.arr0_11 (V1 m ρ) c)) (ix2 t n)).trans ?_
  show gelu cubic (UpAct.cv _ _ _ _ t (UpAct.lo n)) * UpAct.cv _ _ _ _ t (UpAct.hi n) = _
  rw [cv_eq, cv_eq, lo_eq, hi_eq]
  rfl

/-! ## The narrowing product -/

theorem out_eq (t : Fin 2048) (j : Fin 1024) : V7 m ρ c main_v7 (ix2 t j) = Layer.out (args m c) cubic t j := by
  have e : V7 m ρ c main_v7 = V3 m ρ c main_v7 :=
    (W7_of m ρ c main_v7 (by decide)).trans ((W6_of m ρ c main_v7 (by decide)).trans
      ((W5_of m ρ c main_v7 (by decide)).trans (W4_of m ρ c main_v7 (by decide))))
  refine (congrFun (e.trans ((W3_arr m ρ c 2).trans (ProductArrays.arr1 (V2 m ρ) c))) (ix2 t j)).trans ?_
  refine sum_mul_eq (fun k => act_eq m ρ c t k) fun k => ?_
  exact (congrFun (W2_of m ρ c main_v4 (by decide)) _).trans (in_wd m ρ c k j)

/-! ## The gradient of the narrowing weight -/

theorem dwd_eq (n : Fin 4096) (j : Fin 1024) : V7 m ρ c main_v8 (ix2 n j) = Layer.dWd (args m c) cubic n j := by
  have e : V7 m ρ c main_v8 = V4 m ρ c main_v8 :=
    (W7_of m ρ c main_v8 (by decide)).trans ((W6_of m ρ c main_v8 (by decide)).trans (W5_of m ρ c main_v8 (by decide)))
  refine (congrFun (e.trans ((W4_arr m ρ c 2).trans (ProductArrays.arr2 (V3 m ρ) c))) (ix2 n j)).trans ?_
  refine sum_mul_eq (fun k => ?_) fun k => ?_
  · exact (congrFun (W3_of m ρ c main_v6_4 (by decide)) _).trans (act_eq m ρ c k n)
  · exact (congrFun ((W3_of m ρ c main_v5 (by decide)).trans (W2_of m ρ c main_v5 (by decide))) _).trans (in_df m ρ c k j)

/-! ## The gradients of the gated product and of the convolution -/

/-- A buffer that the two products do not write is, at the backward call, as the widening call left it. -/
theorem keep4 (r : Ref sig .tc) (h1 : ∀ w : Fin cfg1.W, Pipeline.arrRef spec1 w = r → (cfg1.win w).isOut = false)
    (h2 : ∀ w : Fin cfg2.W, Pipeline.arrRef spec2 w = r → (cfg2.win w).isOut = false) : V4 m ρ c r = V2 m ρ c r :=
  (W4_of m ρ c r h2).trans (W3_of m ρ c r h1)

theorem dAct_eq (t : Fin 2048) (n : Fin 4096) :
    ActBwd.dAct (V4 m ρ c main_v5) (V4 m ρ c main_v4) t n = Layer.dAct (args m c) t n := by
  refine Finset.sum_congr rfl fun k _ => congrArg₂ (· * ·) ?_ ?_
  · exact (congrFun ((keep4 m ρ c main_v5 (by decide) (by decide)).trans (W2_of m ρ c main_v5 (by decide))) _).trans (in_df m ρ c t k)
  · exact (congrFun ((keep4 m ρ c main_v4 (by decide) (by decide)).trans (W2_of m ρ c main_v4 (by decide))) _).trans (in_wd m ρ c n k)

theorem dC_eq (s : Fin 2) (n : Fin 4096) (t : Fin 2048) :
    ActBwd.dConv (V4 m ρ c main_v6_2) (V4 m ρ c main_v6_3) (V4 m ρ c main_v5) (V4 m ρ c main_v4) s n t
      = Layer.dC (args m c) cubic cubic3 s n t := by
  unfold ActBwd.dConv Layer.dC
  rw [dAct_eq, (congrFun (keep4 m ρ c main_v6_2 (by decide) (by decide)) _).trans (dg_eq m ρ c t n),
    (congrFun (keep4 m ρ c main_v6_3 (by decide) (by decide)) _).trans (dv_eq m ρ c t n)]

theorem taps_eq (i : Fin 3) (n : Fin 8192) : V4 m ρ c main_arg2 (ix2 i n) = (args m c).Cw i n :=
  congrFun (W4_args m ρ c main_arg2 (by decide)) _

/-- The gradient of the convolution's input. -/
theorem dU_eq (s : Fin 2) (t : Fin 2048) (n : Fin 4096) :
    V5 m ρ c main_v9_0 (ix3 s t n) = Layer.dU (args m c) cubic cubic3 s n t := by
  refine (congrFun ((W5_arr m ρ c 8).trans (ActBwdArrays.arr3_8 (V4 m ρ) c)) (ix3 s t n)).trans ?_
  have f := funext fun t => dC_eq m ρ c s n t
  show convT (V4 m ρ c main_arg2 (ix2 0 (ch s n))) (V4 m ρ c main_arg2 (ix2 1 (ch s n))) (V4 m ρ c main_arg2 (ix2 2 (ch s n)))
    (fun t => ActBwd.dConv (V4 m ρ c main_v6_2) (V4 m ρ c main_v6_3) (V4 m ρ c main_v5) (V4 m ρ c main_v4) s n t) t = _
  rw [f, taps_eq, taps_eq, taps_eq]
  rfl

/-- The gradients of the taps. -/
theorem dCw_eq (s : Fin 2) (i : Fin 3) (n : Fin 4096) :
    V7 m ρ c main_v9_1 (ix3 s i n) = Layer.dCw (args m c) cubic cubic3 s i n := by
  have e : V7 m ρ c main_v9_1 = V5 m ρ c main_v9_1 :=
    (W7_of m ρ c main_v9_1 (by decide)).trans (W6_of m ρ c main_v9_1 (by decide))
  refine (congrFun (e.trans ((W5_arr m ρ c 9).trans (ActBwdArrays.arr3_9 (V4 m ρ) c))) (ix3 s i n)).trans ?_
  have f := funext fun t => dC_eq m ρ c s n t
  show (∑ t : Fin 2048, up (fun t => ActBwd.dConv (V4 m ρ c main_v6_2) (V4 m ρ c main_v6_3) (V4 m ρ c main_v5) (V4 m ρ c main_v4) s n t) (2 - i.val) t
    * (if s.val = 0 then V4 m ρ c main_v6_0 (ix2 t n) else V4 m ρ c main_v6_1 (ix2 t n))) = _
  rw [f]
  refine Finset.sum_congr rfl fun t _ => congrArg (_ * ·) ?_
  rw [(congrFun (keep4 m ρ c main_v6_0 (by decide) (by decide)) _).trans (ug_eq m ρ c t n),
    (congrFun (keep4 m ρ c main_v6_1 (by decide) (by decide)) _).trans (uv_eq m ρ c t n)]
  fin_cases s <;> rfl

/-- The gradient of the bias. -/
theorem dCb_eq (s : Fin 2) (i : Fin 1) (n : Fin 4096) :
    V7 m ρ c main_v9_2 (ix3 s i n) = Layer.dCb (args m c) cubic cubic3 s n := by
  have e : V7 m ρ c main_v9_2 = V5 m ρ c main_v9_2 :=
    (W7_of m ρ c main_v9_2 (by decide)).trans (W6_of m ρ c main_v9_2 (by decide))
  refine (congrFun (e.trans ((W5_arr m ρ c 10).trans (ActBwdArrays.arr3_10 (V4 m ρ) c))) (ix3 s i n)).trans ?_
  exact sum_eq fun t => dC_eq m ρ c s n t

/-! ## The gradients of the input and of the widening weight -/

theorem keep1 (r : Ref sig .tc) (h0 : ∀ w : Fin cfg0.W, Pipeline.arrRef spec0 w = r → (cfg0.win w).isOut = false)
    (h1 : ∀ w : Fin cfg1.W, Pipeline.arrRef spec1 w = r → (cfg1.win w).isOut = false)
    (h2 : ∀ w : Fin cfg2.W, Pipeline.arrRef spec2 w = r → (cfg2.win w).isOut = false)
    (h3 : ∀ w : Fin cfg3.W, Pipeline.arrRef spec3 w = r → (cfg3.win w).isOut = false) : V5 m ρ c r = V1 m ρ c r :=
  (W5_of m ρ c r h3).trans ((keep4 m ρ c r h1 h2).trans (W2_of m ρ c r h0))

theorem dH_eq (t : Fin 2048) (j : Fin 1024) : V7 m ρ c main_v10 (ix2 t j) = Layer.dH (args m c) cubic cubic3 t j := by
  have e : V7 m ρ c main_v10 = V6 m ρ c main_v10 := W7_of m ρ c main_v10 (by decide)
  refine (congrFun (e.trans ((W6_arr m ρ c 2).trans (InputGrad.arr4 (V5 m ρ) c))) (ix2 t j)).trans ?_
  have w : ∀ (s : Fin 4) (k : Fin 2048) (n : Fin 8192), n.val = s.val * 2048 + k.val →
      V5 m ρ c main_v3 (ix3 s j k) = (args m c).Wu j n := fun s k n hn =>
    (congrFun (keep1 m ρ c main_v3 (by decide) (by decide) (by decide) (by decide)) _).trans
      ((in_wup m ρ c s j k).trans (congrArg _ (Fin.ext hn.symm)))
  refine congrArg₂ (· + ·) (congrArg₂ (· + ·) (congrArg₂ (· + ·) ?_ ?_) ?_) ?_ <;>
    refine sum_mul_eq (fun k => dU_eq m ρ c _ t _) fun k => w _ k _ ?_
  · show k.val = 0 * 2048 + k.val; omega
  · show 2048 + k.val = 1 * 2048 + k.val; omega
  · show 4096 + k.val = 2 * 2048 + k.val; omega
  · show 6144 + k.val = 3 * 2048 + k.val; omega

theorem dWu_eq (s : Fin 4) (k : Fin 1024) (j : Fin 2048) :
    V7 m ρ c main_v11 (ix3 s k j) = Layer.dWu (args m c) cubic cubic3 s k j := by
  refine (congrFun ((W7_arr m ρ c 2).trans (ProductArrays.arr5 (V6 m ρ) c)) (ix3 s k j)).trans ?_
  refine sum_mul_eq (fun t => ?_) fun t => ?_
  · exact (congrFun ((W6_of m ρ c main_v0 (by decide)).trans
      (keep1 m ρ c main_v0 (by decide) (by decide) (by decide) (by decide))) _).trans (in_h m ρ c t k)
  · exact (congrFun (W6_of m ρ c main_v9_0 (by decide)) _).trans (dU_eq m ρ c _ t _)

end Cert.KernelIdeal.Chain

end
-- ==== Proof.Consts.lean ====
/- The float constants of the two programs as real numbers. -/
module

public import Idealize.ShloMosaic.PureOps.Ideal

@[expose] public section

noncomputable section

namespace Cert.Consts

open Idealize.ShloMosaic

/-- `8943.0`. -/
theorem ofBits_8943 : Ideal.ofBits .f32 0x460BBC00#32 = ((8943 : ℝ) : EReal) := by
  simp [Ideal.ofBits, Ideal.ieee, -EReal.coe_mul]; norm_num

/-- `200000.0`. -/
theorem ofBits_200000 : Ideal.ofBits .f32 0x48435000#32 = ((200000 : ℝ) : EReal) := by
  simp [Ideal.ofBits, Ideal.ieee, -EReal.coe_mul]; norm_num

/-- `3.0`. -/
theorem ofBits_three : Ideal.ofBits .f32 0x40400000#32 = ((3 : ℝ) : EReal) := by
  simp [Ideal.ofBits, Ideal.ieee, -EReal.coe_mul]; norm_num

/-- `0.5`. -/
theorem ofBits_half : Ideal.ofBits .f32 0x3F000000#32 = ((1 / 2 : ℝ) : EReal) := by
  simp [Ideal.ofBits, Ideal.ieee, -EReal.coe_mul]; norm_num

/-- The square root of two over pi as rounded is a real number. -/
theorem ofBits_root : ∃ r : ℝ, Ideal.ofBits .f32 0x3F4C422A#32 = (r : EReal) := by
  refine ⟨13386282 / 16777216, ?_⟩
  simp [Ideal.ofBits, Ideal.ieee, -EReal.coe_mul]; norm_num

end Cert.Consts

end
-- ==== Proof.RefForward.lean ====
/- The reference's forward values at an index: the widened input, its rows moved down, the convolution, the gate and the
   gated product, each as the layer's function of the arguments' entries. -/
module

public import proofs.«01_k».proof.Proof.Gen.ReferenceIdeal.Read
public import proofs.«01_k».proof.Proof.Layer
public import proofs.«01_k».proof.Proof.Consts
public import Idealize.ShloMosaic.Lib.ValueIdx
public import Idealize.ShloMosaic.Lib.IdealHost

@[expose] public section

set_option maxRecDepth 16384

noncomputable section

namespace Cert.ReferenceIdeal.Forward

open Cert.ReferenceIdeal Cert.ReferenceIdeal.Gen Cert.ReferenceIdeal.Read Cert.Ffn
open Idealize.ShloMosaic Idealize.ShloMosaic.TcCoe Idealize.SL.Sem
open scoped BigOperators

variable (x0 : (⟨S2048x1024, .f32⟩ : BufTy).Contents (Elt Ideal)) (x1 : (⟨S1024x8192, .f32⟩ : BufTy).Contents (Elt Ideal))
  (x2 : (⟨S3x8192, .f32⟩ : BufTy).Contents (Elt Ideal)) (x3 : (⟨S1x8192, .f32⟩ : BufTy).Contents (Elt Ideal))
  (x4 : (⟨S4096x1024, .f32⟩ : BufTy).Contents (Elt Ideal)) (x5 : (⟨S2048x1024, .f32⟩ : BufTy).Contents (Elt Ideal))

/-- The entries of the reference's arguments. -/
def args : Layer.Args where
  H t k := x0 (ix2 t k)
  Wu k n := x1 (ix2 k n)
  Cw i n := x2 (ix2 i n)
  Cb n := x3 (ix2 0 n)
  Wd n j := x4 (ix2 n j)
  Df t j := x5 (ix2 t j)

/-- The cubic coefficient of the gate's inner polynomial, the quotient the reference takes. -/
def cubic : EReal := ((8943 / 200000 : ℝ) : EReal)

/-- An index of two axes from its coordinates. -/
theorem ix2_of {a b : ℕ} {i : (⟨2, ![a, b]⟩ : Shape).Idx} {p : Fin a} {q : Fin b} (h0 : (i 0).val = p.val) (h1 : (i 1).val = q.val) :
    i = ix2 p q := (eq_ix2 i).trans (congrArg₂ ix2 (Fin.ext h0) (Fin.ext h1))

/-- The widened input. -/
theorem u_eq (t : Fin 2048) (n : Fin 8192) : val_main_v1 (F := Ideal) x0 x1 (ix2 t n) = Layer.U (args x0 x1 x2 x3 x4 x5) t n := by
  rw [val_main_v1_apply]
  exact Finset.sum_congr rfl fun k _ => congrArg₂ (· * ·) (congrArg x0 (ix2_of rfl rfl)) (congrArg x1 (ix2_of rfl rfl))

theorem zeros_eq (i : S2x8192.Idx) : val_main_v3 (F := Ideal) i = 0 := by
  rw [val_main_v3_apply, val_main_cst_apply]
  exact Ideal.ofBits_zero .f32

/-- The two rows of zeros and the widened input below them, read `o` rows down: the widened input moved down `2 - o`. -/
theorem padded_eq (o : ℕ) (ho : o ≤ 2) (i : S2050x8192.Idx) (t : Fin 2048) (n : Fin 8192)
    (h0 : (i 0).val = o + t.val) (h1 : (i 1).val = n.val) :
    val_main_v4 (F := Ideal) x0 x1 i = dn (fun t => Layer.U (args x0 x1 x2 x3 x4 x5) t n) (2 - o) t := by
  unfold val_main_v4 dn
  by_cases h : 2 - o ≤ t.val
  · rw [dif_pos h]
    refine (concatenate_pair_apply_right (s₁ := S2x8192) (s₂ := S2048x8192) 0 _ _ _ i rfl rfl
      (ix2 ⟨t.val - (2 - o), by omega⟩ n) ?_ ?_).trans (u_eq x0 x1 x2 x3 x4 x5 _ n)
    · intro b hb
      match b with
      | ⟨0, _⟩ => exact absurd rfl hb
      | ⟨1, _⟩ => exact h1.symm
    · show t.val - (2 - o) + 2 = (i 0).val
      omega
  · rw [dif_neg h]
    refine (concatenate_pair_apply_left (s₁ := S2x8192) (s₂ := S2048x8192) 0 (val_main_v3 (F := Ideal)) _ _ i rfl
      (ix2 ⟨o + t.val, by omega⟩ n) ?_).trans (zeros_eq _)
    intro b
    match b with
    | ⟨0, _⟩ => exact h0.symm
    | ⟨1, _⟩ => exact h1.symm

theorem dn_zero (u : Fin 2048 → EReal) (t : Fin 2048) : dn u 0 t = u t := by
  unfold dn; rw [dif_pos (Nat.zero_le _)]; rfl

theorem v8_eq (t : Fin 2048) (n : Fin 8192) :
    val_main_v8 (F := Ideal) x0 x1 (ix2 t n) = dn (fun t => Layer.U (args x0 x1 x2 x3 x4 x5) t n) 2 t := by
  rw [val_main_v8_apply]
  exact padded_eq x0 x1 x2 x3 x4 x5 0 (by norm_num) _ t n (by show t.val = 0 + t.val; omega) rfl

theorem v16_eq (t : Fin 2048) (n : Fin 8192) :
    val_main_v16 (F := Ideal) x0 x1 (ix2 t n) = dn (fun t => Layer.U (args x0 x1 x2 x3 x4 x5) t n) 1 t := by
  rw [val_main_v16_apply]
  exact padded_eq x0 x1 x2 x3 x4 x5 1 (by norm_num) _ t n rfl rfl

theorem v23_eq (t : Fin 2048) (n : Fin 8192) :
    val_main_v23 (F := Ideal) x0 x1 (ix2 t n) = Layer.U (args x0 x1 x2 x3 x4 x5) t n := by
  rw [val_main_v23_apply]
  exact (padded_eq x0 x1 x2 x3 x4 x5 2 (by norm_num) _ t n rfl rfl).trans (dn_zero _ t)

/-- The first tap over the rows. -/
theorem v10_eq (t : Fin 2048) (n : Fin 8192) : val_main_v10 (F := Ideal) x2 (ix2 t n) = x2 (ix2 0 n) := by
  rw [val_main_v10_apply, val_main_v9_apply, val_main_v7_apply, val_main_v6_apply]
  exact congrArg x2 (ix2_of rfl (Nat.mod_eq_of_lt n.isLt))

/-- The second tap over the rows. -/
theorem v18_eq (t : Fin 2048) (n : Fin 8192) : val_main_v18 (F := Ideal) x2 (ix2 t n) = x2 (ix2 1 n) := by
  rw [val_main_v18_apply, val_main_v17_apply, val_main_v15_apply, val_main_v14_apply]
  exact congrArg x2 (ix2_of rfl (Nat.mod_eq_of_lt n.isLt))

/-- The third tap over the rows. -/
theorem v25_eq (t : Fin 2048) (n : Fin 8192) : val_main_v25 (F := Ideal) x2 (ix2 t n) = x2 (ix2 2 n) := by
  rw [val_main_v25_apply, val_main_v24_apply, val_main_v22_apply, val_main_v21_apply]
  exact congrArg x2 (ix2_of rfl (Nat.mod_eq_of_lt n.isLt))

/-- The bias over the rows. -/
theorem v29_eq (t : Fin 2048) (n : Fin 8192) : val_main_v29 (F := Ideal) x3 (ix2 t n) = x3 (ix2 0 n) := by
  rw [val_main_v29_apply, val_main_v28_apply, val_main_v0_apply]
  exact congrArg x3 (ix2_of rfl (Nat.mod_eq_of_lt n.isLt))

/-- The convolution. -/
theorem c_eq (t : Fin 2048) (n : Fin 8192) :
    val_main_v30 (F := Ideal) x0 x1 x2 x3 (ix2 t n) = Layer.C (args x0 x1 x2 x3 x4 x5) t n := by
  rw [val_main_v30_apply, val_main_v27_apply, val_main_v20_apply, val_main_v13_apply, val_main_v11_apply, val_main_v19_apply,
    val_main_v26_apply, val_main_v12_apply, val_main_cst_1_apply, v29_eq, v10_eq, v18_eq, v25_eq, v8_eq x0 x1 x2 x3 x4 x5,
    v16_eq x0 x1 x2 x3 x4 x5, v23_eq x0 x1 x2 x3 x4 x5]
  unfold Layer.C conv
  show _ + (((Ideal.ofBits .f32 0x00000000#32 + _) + _) + _) = _
  rw [Ideal.ofBits_zero, zero_add, ← add_assoc, ← add_assoc]
  rfl

/-- The half of the convolution that gates. -/
theorem gate_eq (t : Fin 2048) (n : Fin 4096) :
    val_main_v31 (F := Ideal) x0 x1 x2 x3 (ix2 t n) = Layer.C (args x0 x1 x2 x3 x4 x5) t (ch 0 n) := by
  rw [val_main_v31_apply, ← c_eq]
  exact congrArg _ (ix2_of rfl (by show n.val = 4096 * 0 + n.val; omega))

/-- The half of the convolution that is gated. -/
theorem gated_eq (t : Fin 2048) (n : Fin 4096) :
    val_main_v32 (F := Ideal) x0 x1 x2 x3 (ix2 t n) = Layer.C (args x0 x1 x2 x3 x4 x5) t (ch 1 n) := by
  rw [val_main_v32_apply, ← c_eq]
  exact congrArg _ (ix2_of rfl (by show 4096 + n.val = 4096 * 1 + n.val; omega))

/-- The quotient of the two whole numbers. -/
theorem cubic_eq (i : S_.Idx) : val_main_v33 (F := Ideal) i = cubic := by
  rw [val_main_v33_apply, val_main_cst_2_apply, val_main_cst_3_apply]
  show Ideal.div (Ideal.ofBits .f32 0x460BBC00#32) (Ideal.ofBits .f32 0x48435000#32) = _
  rw [Consts.ofBits_8943, Consts.ofBits_200000, Ideal.div_coe (by norm_num)]
  unfold cubic
  rw [← EReal.coe_mul]
  norm_num

/-- The tanh of the gate's inner polynomial. -/
theorem th_eq (t : Fin 2048) (n : Fin 4096) :
    val_main_v44 (F := Ideal) x0 x1 x2 x3 (ix2 t n) = th cubic (Layer.C (args x0 x1 x2 x3 x4 x5) t (ch 0 n)) := by
  rw [val_main_v44_apply, val_main_v43_apply, val_main_v41_apply, val_main_v40_apply, val_main_v35_apply, val_main_v34_apply,
    val_main_v42_apply, val_main_v39_apply, cubic_eq, gate_eq x0 x1 x2 x3 x4 x5]
  rfl

/-- Half of one plus the tanh. -/
theorem cdf_eq (t : Fin 2048) (n : Fin 4096) :
    val_main_v53 (F := Ideal) x0 x1 x2 x3 (ix2 t n) = half * (1 + th cubic (Layer.C (args x0 x1 x2 x3 x4 x5) t (ch 0 n))) := by
  rw [val_main_v53_apply, val_main_v51_apply, val_main_v52_apply, val_main_v50_apply, th_eq x0 x1 x2 x3 x4 x5]
  show _ * (Ideal.ofBits .f32 0x3F800000#32 + _) = _
  rw [Ideal.ofBits_one_f32]
  rfl

/-- The gate. -/
theorem gelu_eq (t : Fin 2048) (n : Fin 4096) :
    val_main_v54 (F := Ideal) x0 x1 x2 x3 (ix2 t n) = gelu cubic (Layer.C (args x0 x1 x2 x3 x4 x5) t (ch 0 n)) := by
  rw [val_main_v54_apply, cdf_eq x0 x1 x2 x3 x4 x5, gate_eq x0 x1 x2 x3 x4 x5]
  exact (mul_left_comm _ _ _).trans (mul_assoc _ _ _).symm

/-- The gated product. -/
theorem act_eq (t : Fin 2048) (n : Fin 4096) :
    val_main_v55 (F := Ideal) x0 x1 x2 x3 (ix2 t n) = Layer.act (args x0 x1 x2 x3 x4 x5) cubic t n := by
  rw [val_main_v55_apply, gelu_eq x0 x1 x2 x3 x4 x5, gated_eq x0 x1 x2 x3 x4 x5]
  rfl

/-- The layer's result. -/
theorem out_eq (t : Fin 2048) (j : Fin 1024) :
    val_main_v56 (F := Ideal) x0 x1 x2 x3 x4 (ix2 t j) = Layer.out (args x0 x1 x2 x3 x4 x5) cubic t j := by
  rw [val_main_v56_apply]
  exact Finset.sum_congr rfl fun k _ => congrArg₂ (· * ·)
    ((congrArg _ (ix2_of rfl rfl)).trans (act_eq x0 x1 x2 x3 x4 x5 t k)) (congrArg x4 (ix2_of rfl rfl))

/-- The gradient of the narrowing weight. -/
theorem dWd_eq (n : Fin 4096) (j : Fin 1024) :
    val_main_v58 (F := Ideal) x0 x1 x2 x3 x5 (ix2 n j) = Layer.dWd (args x0 x1 x2 x3 x4 x5) cubic n j := by
  rw [val_main_v58_apply, val_main_v57_apply]
  refine Finset.sum_congr rfl fun k _ => (mul_comm _ _).trans (congrArg₂ (· * ·)
    ((congrArg _ (ix2_of rfl rfl)).trans (act_eq x0 x1 x2 x3 x4 x5 k n)) (congrArg x5 (ix2_of rfl rfl)))

/-- The gradient of the gated product. -/
theorem dAct_eq (t : Fin 2048) (n : Fin 4096) :
    val_main_v59 (F := Ideal) x4 x5 (ix2 t n) = Layer.dAct (args x0 x1 x2 x3 x4 x5) t n := by
  rw [val_main_v59_apply]
  exact Finset.sum_congr rfl fun k _ => congrArg₂ (· * ·) (congrArg x5 (ix2_of rfl rfl)) (congrArg x4 (ix2_of rfl rfl))

/-- The gradient of the half that is gated. -/
theorem dGated_eq (t : Fin 2048) (n : Fin 4096) :
    val_main_v60 (F := Ideal) x0 x1 x2 x3 x4 x5 (ix2 t n)
      = gelu cubic (Layer.C (args x0 x1 x2 x3 x4 x5) t (ch 0 n)) * Layer.dAct (args x0 x1 x2 x3 x4 x5) t n := by
  rw [val_main_v60_apply, gelu_eq x0 x1 x2 x3 x4 x5, dAct_eq x0 x1 x2 x3 x4 x5]
  rfl

/-- How the reference arranges the gradient of the half that gates: `x` the gate's argument, `a` its gradient through the
    product, `c` the cubic coefficient. -/
def dGate (c x a : EReal) : EReal :=
  (a * (half * (1 + th c x)) + root * ((half * (x * a)) * ((1 + th c x) * (1 - th c x))))
    + (c * (root * ((half * (x * a)) * ((1 + th c x) * (1 - th c x))))) * (Ideal.ofBits .f32 0x40400000#32 * (x * x))

/-- The gradient of the half that gates. -/
theorem dGate_eq (t : Fin 2048) (n : Fin 4096) :
    val_main_v73 (F := Ideal) x0 x1 x2 x3 x4 x5 (ix2 t n)
      = dGate cubic (Layer.C (args x0 x1 x2 x3 x4 x5) t (ch 0 n))
          (Layer.dAct (args x0 x1 x2 x3 x4 x5) t n * Layer.C (args x0 x1 x2 x3 x4 x5) t (ch 1 n)) := by
  rw [val_main_v73_apply, val_main_v69_apply, val_main_v72_apply, val_main_v71_apply, val_main_v63_apply, val_main_v68_apply,
    val_main_v66_apply, val_main_v65_apply, val_main_v62_apply, val_main_v61_apply, val_main_v49_apply, val_main_v46_apply,
    val_main_v48_apply, val_main_v38_apply, val_main_v36_apply, val_main_v45_apply, val_main_v47_apply, val_main_v67_apply,
    val_main_v64_apply, val_main_v70_apply, val_main_v37_apply, cdf_eq x0 x1 x2 x3 x4 x5, th_eq x0 x1 x2 x3 x4 x5, gate_eq x0 x1 x2 x3 x4 x5, gated_eq x0 x1 x2 x3 x4 x5,
    dAct_eq x0 x1 x2 x3 x4 x5]
  rw [cubic_eq]
  have e : ∀ i, val_main_cst_6 (F := Ideal) i = 1 := fun i => Ideal.ofBits_one_f32
  have e' : ∀ i, val_main_cst_7 (F := Ideal) i = 1 := fun i => Ideal.ofBits_one_f32
  rw [e, e']
  rfl

end Cert.ReferenceIdeal.Forward

end
-- ==== Proof.GateGrad.lean ====
/- The gradient of the gate: the reference's arrangement is the kernel's wherever the entries of the arguments are real
   numbers. -/
module

public import proofs.«01_k».proof.Proof.RefForward

@[expose] public section

noncomputable section

namespace Cert.GateGrad

open Idealize.ShloMosaic Cert.Ffn Cert.ReferenceIdeal.Forward
open scoped BigOperators

/-- A real number among the extended reals. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.zero : IsReal 0 := ⟨0, rfl⟩

theorem IsReal.sum {N : ℕ} {f : Fin N → EReal} (h : ∀ k, IsReal (f k)) : IsReal (∑ k, f k) :=
  Finset.sum_induction _ IsReal (fun _ _ => IsReal.add) IsReal.zero fun k _ => h k

/-- A value below infinity in size is a real number. -/
theorem isReal_of_abs_lt {x : EReal} (h : x ≠ ⊤) (h' : x ≠ ⊥) : IsReal x := ⟨x.toReal, (EReal.coe_toReal h h').symm⟩

/-- Every entry of the arguments is a real number. -/
structure AllReal (A : Layer.Args) : Prop where
  /-- the input -/
  h : ∀ t k, IsReal (A.H t k)
  /-- the widening weight -/
  wu : ∀ k n, IsReal (A.Wu k n)
  /-- the taps -/
  cw : ∀ i n, IsReal (A.Cw i n)
  /-- the bias -/
  cb : ∀ n, IsReal (A.Cb n)
  /-- the narrowing weight -/
  wd : ∀ n j, IsReal (A.Wd n j)
  /-- the gradient of the result -/
  df : ∀ t j, IsReal (A.Df t j)

variable {A : Layer.Args} (hA : AllReal A)
include hA

theorem AllReal.u (t : Fin 2048) (n : Fin 8192) : IsReal (Layer.U A t n) := IsReal.sum fun k => (hA.h t k).mul (hA.wu k n)

theorem AllReal.dn (s : ℕ) (t : Fin 2048) (n : Fin 8192) : IsReal (dn (fun t => Layer.U A t n) s t) := by
  unfold Ffn.dn
  split
  · exact hA.u _ n
  · exact IsReal.zero

theorem AllReal.c (t : Fin 2048) (n : Fin 8192) : IsReal (Layer.C A t n) :=
  (((hA.cb n).add ((hA.cw 0 n).mul (hA.dn 2 t n))).add ((hA.cw 1 n).mul (hA.dn 1 t n))).add ((hA.cw 2 n).mul (hA.u t n))

theorem AllReal.dAct (t : Fin 2048) (n : Fin 4096) : IsReal (Layer.dAct A t n) := IsReal.sum fun k => (hA.df t k).mul (hA.wd n k)

omit hA in
theorem isReal_tanh {x : EReal} : IsReal x → IsReal (Ideal.tanh x)
  | ⟨a, ha⟩ => ⟨Real.tanh a, by rw [ha]; rfl⟩

omit hA in
/-- The two arrangements of the gate's gradient agree on real numbers. -/
theorem dGate_eq {x a v c c3 : EReal} (hx : IsReal x) (ha : IsReal a) (hv : IsReal v) {k : ℝ} (hc : c = (k : EReal))
    (hc3 : c3 = ((3 * k : ℝ) : EReal)) : dGate c x (a * v) = a * (v * geluD c c3 x) := by
  obtain ⟨r, hr⟩ := Consts.ofBits_root
  have hq : IsReal (th c x) := by
    unfold th root
    exact isReal_tanh (IsReal.mul ⟨r, hr⟩ (hx.add (IsReal.mul ⟨k, hc⟩ ((hx.mul hx).mul hx))))
  unfold dGate geluD
  generalize th c x = q at hq ⊢
  obtain ⟨x, rfl⟩ := hx
  obtain ⟨a, rfl⟩ := ha
  obtain ⟨v, rfl⟩ := hv
  obtain ⟨q, rfl⟩ := hq
  subst hc hc3
  unfold root half
  rw [hr, Consts.ofBits_half, Consts.ofBits_three, ← EReal.coe_one]
  simp only [← EReal.coe_mul, ← EReal.coe_add, ← EReal.coe_sub]
  exact congrArg _ (by ring)

end Cert.GateGrad

end
-- ==== Proof.Shift.lean ====
/- Two sums rearranged: a sum against rows moved down is a sum of rows moved up, and a sum over all channels is the sum
   over the four quarters in order. -/
module

public import proofs.«01_k».proof.Proof.Ffn

@[expose] public section

noncomputable section

namespace Cert.Shift

open Idealize.ShloMosaic Cert.Ffn
open scoped BigOperators

/-- The one row whose shift down is `t`. -/
theorem dn_eq_sum (u : Fin 2048 → EReal) (x : EReal) (s : ℕ) (t : Fin 2048) :
    x * dn u s t = ∑ r : Fin 2048, if t.val = r.val + s then x * u r else 0 := by
  unfold dn
  by_cases h : s ≤ t.val
  · rw [dif_pos h, Finset.sum_eq_single ⟨t.val - s, by omega⟩]
    · rw [if_pos (by show t.val = t.val - s + s; omega)]
    · intro r _ hr
      exact if_neg fun e => hr (Fin.ext (by show r.val = t.val - s; omega))
    · intro h; exact absurd (Finset.mem_univ _) h
  · rw [dif_neg h, mul_zero]
    exact (Finset.sum_eq_zero fun r _ => if_neg (by omega)).symm

/-- The one row whose shift up is `r`. -/
theorem up_eq_sum (d : Fin 2048 → EReal) (x : EReal) (s : ℕ) (r : Fin 2048) :
    up d s r * x = ∑ t : Fin 2048, if t.val = r.val + s then d t * x else 0 := by
  unfold up
  by_cases h : r.val + s < 2048
  · rw [dif_pos h, Finset.sum_eq_single ⟨r.val + s, h⟩]
    · rw [if_pos rfl]
    · intro t _ ht
      exact if_neg fun e => ht (Fin.ext e)
    · intro h; exact absurd (Finset.mem_univ _) h
  · rw [dif_neg h, zero_mul]
    exact (Finset.sum_eq_zero fun t _ => if_neg (by omega)).symm

/-- Rows moved down on the one side are rows moved up on the other. -/
theorem sum_dn (d u : Fin 2048 → EReal) (s : ℕ) : (∑ t, d t * dn u s t) = ∑ t, up d s t * u t := by
  simp only [dn_eq_sum, up_eq_sum]
  exact Finset.sum_comm

/-- All channels, a quarter at a time. -/
theorem sum_quarters (f : Fin 8192 → EReal) :
    (∑ n, f n) = (((∑ k : Fin 2048, f ⟨k.val, by omega⟩) + ∑ k : Fin 2048, f ⟨2048 + k.val, by omega⟩)
      + ∑ k : Fin 2048, f ⟨4096 + k.val, by omega⟩) + ∑ k : Fin 2048, f ⟨6144 + k.val, by omega⟩ := by
  refine (Fin.sum_univ_add (a := 6144) (b := 2048) f).trans (congrArg₂ (· + ·) ?_ rfl)
  refine (Fin.sum_univ_add (a := 4096) (b := 2048) _).trans (congrArg₂ (· + ·) ?_ rfl)
  exact (Fin.sum_univ_add (a := 2048) (b := 2048) _).trans rfl

end Cert.Shift

end
-- ==== Proof.RefBackward.lean ====
/- The reference's gradients at an index: the gradient of the convolution, of its input, of its taps and bias, and of the
   layer's input and widening weight, each as the layer's function of the arguments' entries, those being real numbers. -/
module

public import proofs.«01_k».proof.Proof.GateGrad
public import proofs.«01_k».proof.Proof.Shift
public import Idealize.ShloMosaic.Lib.KernelVsHost

@[expose] public section

set_option maxRecDepth 16384

noncomputable section

namespace Cert.ReferenceIdeal.Backward

open Cert.ReferenceIdeal Cert.ReferenceIdeal.Gen Cert.ReferenceIdeal.Read Cert.ReferenceIdeal.Forward Cert.Ffn Cert.GateGrad
open Idealize.ShloMosaic Idealize.ShloMosaic.TcCoe Idealize.SL.Sem
open scoped BigOperators

variable (x0 : (⟨S2048x1024, .f32⟩ : BufTy).Contents (Elt Ideal)) (x1 : (⟨S1024x8192, .f32⟩ : BufTy).Contents (Elt Ideal))
  (x2 : (⟨S3x8192, .f32⟩ : BufTy).Contents (Elt Ideal)) (x3 : (⟨S1x8192, .f32⟩ : BufTy).Contents (Elt Ideal))
  (x4 : (⟨S4096x1024, .f32⟩ : BufTy).Contents (Elt Ideal)) (x5 : (⟨S2048x1024, .f32⟩ : BufTy).Contents (Elt Ideal))

/-- Three times the cubic coefficient. -/
def cubic3 : EReal := ((26829 / 200000 : ℝ) : EReal)

/-- Zero, wherever a program writes it as a constant. -/
theorem zero_eq : FloatOps.ofBits (F := Ideal) .f32 0x00000000#32 = 0 := Ideal.ofBits_zero .f32

/-- `o` rows of zeros put above an array and `2 - o` below it, read two rows down: the rows moved up `2 - o`. -/
theorem pad_rows (o q : ℕ) (ho : o + q = 2) (x : S2048x8192.Idx → EReal) (z : S_.Idx → EReal) (hz : ∀ i, z i = 0)
    (h : S2048x8192.Pads ![o, 0] ![q, 0] ![0, 0] S2050x8192) (hu : 0 < S_.numel) (i : S2050x8192.Idx) (t : Fin 2048) (n : Fin 8192)
    (h0 : (i 0).val = 2 + t.val) (h1 : (i 1).val = n.val) :
    pad S2050x8192 ![o, 0] ![q, 0] ![0, 0] x z h hu i = up (fun t => x (ix2 t n)) q t := by
  unfold up
  by_cases hq : t.val + q < 2048
  · rw [dif_pos hq]
    refine pad_apply_of_inside _ _ _ x z h hu i (ix2 ⟨t.val + q, hq⟩ n) ?_
    intro a
    match a with
    | ⟨0, _⟩ => show (i 0).val = o + (t.val + q) * 1; omega
    | ⟨1, _⟩ => show (i 1).val = 0 + n.val * 1; omega
  · rw [dif_neg hq]
    refine (pad_apply_of_not_inside _ _ _ x z h hu i 0 ?_).trans (hz _)
    intro hh
    have h3 : ((i 0).val - o) / 1 < 2048 := hh.2.2
    rw [Nat.div_one] at h3
    omega

/-- One row put among rows of zeros: at its own row. -/
theorem pad_one (o q : ℕ) (x : S1x8192.Idx → EReal) (z : S_.Idx → EReal)
    (h : S1x8192.Pads ![o, 0] ![q, 0] ![0, 0] S3x8192) (hu : 0 < S_.numel) (i : Fin 3) (n : Fin 8192) (hi : i.val = o) :
    pad S3x8192 ![o, 0] ![q, 0] ![0, 0] x z h hu (ix2 i n) = x (ix2 0 n) := by
  refine pad_apply_of_inside _ _ _ x z h hu (ix2 i n) (ix2 0 n) ?_
  intro a
  match a with
  | ⟨0, _⟩ => show i.val = o + 0 * 1; omega
  | ⟨1, _⟩ => show n.val = 0 + n.val * 1; omega

/-- One row put among rows of zeros: at any other row. -/
theorem pad_other (o q : ℕ) (x : S1x8192.Idx → EReal) (z : S_.Idx → EReal) (hz : ∀ i, z i = 0)
    (h : S1x8192.Pads ![o, 0] ![q, 0] ![0, 0] S3x8192) (hu : 0 < S_.numel) (i : Fin 3) (n : Fin 8192) (hi : i.val ≠ o) :
    pad S3x8192 ![o, 0] ![q, 0] ![0, 0] x z h hu (ix2 i n) = 0 := by
  refine (pad_apply_of_not_inside _ _ _ x z h hu (ix2 i n) 0 ?_).trans (hz _)
  intro hh
  have h3 : (i.val - o) / 1 < 1 := hh.2.2
  have h4 : o ≤ i.val := hh.1
  rw [Nat.div_one] at h3
  omega

variable (hA : AllReal (args x0 x1 x2 x3 x4 x5))
include hA

/-- The gradient of the convolution. -/
theorem dC_eq (s : Fin 2) (n : Fin 4096) (t : Fin 2048) :
    val_main_v74 (F := Ideal) x0 x1 x2 x3 x4 x5 (ix2 t (ch s n)) = Layer.dC (args x0 x1 x2 x3 x4 x5) cubic cubic3 s n t := by
  unfold val_main_v74 Layer.dC
  by_cases hs : s.val = 0
  · rw [if_pos hs]
    refine (concatenate_pair_apply_left (t := S2048x8192) (s₁ := S2048x4096) (s₂ := S2048x4096) 1 _ _ _ _ rfl (ix2 t n) ?_).trans
      ((Forward.dGate_eq x0 x1 x2 x3 x4 x5 t n).trans ?_)
    · intro b
      match b with
      | ⟨0, _⟩ => rfl
      | ⟨1, _⟩ => show n.val = 4096 * s.val + n.val; omega
    · refine GateGrad.dGate_eq (hA.c t _) (hA.dAct t n) (hA.c t _) rfl ?_
      unfold cubic3
      norm_num
  · rw [if_neg hs]
    refine (concatenate_pair_apply_right (t := S2048x8192) (s₁ := S2048x4096) (s₂ := S2048x4096) 1 _ _ _ _ rfl rfl (ix2 t n) ?_ ?_).trans
      ((dGated_eq x0 x1 x2 x3 x4 x5 t n).trans (mul_comm _ _))
    · intro b hb
      match b with
      | ⟨0, _⟩ => rfl
      | ⟨1, _⟩ => exact absurd rfl hb
    · show n.val + 4096 = 4096 * s.val + n.val
      omega

/-- The gradient of the convolution's input. -/
theorem dU_eq (s : Fin 2) (n : Fin 4096) (t : Fin 2048) :
    val_main_v110 (F := Ideal) x0 x1 x2 x3 x4 x5 (ix2 t (ch s n)) = Layer.dU (args x0 x1 x2 x3 x4 x5) cubic cubic3 s n t := by
  rw [val_main_v110_apply, val_main_v105_apply, val_main_v94_apply]
  unfold val_main_v84 val_main_v93 val_main_v104
  have z2 : ∀ i, val_main_cst_16 (F := Ideal) i = 0 := fun _ => zero_eq
  have z1 : ∀ i, val_main_cst_20 (F := Ideal) i = 0 := fun _ => zero_eq
  have z0 : ∀ i, val_main_cst_24 (F := Ideal) i = 0 := fun _ => zero_eq
  rw [pad_rows 2 0 rfl _ _ z2 _ _ _ t (ch s n) rfl rfl, pad_rows 1 1 rfl _ _ z1 _ _ _ t (ch s n) rfl rfl,
    pad_rows 0 2 rfl _ _ z0 _ _ _ t (ch s n) rfl rfl, up_zero]
  have e2 : ∀ t, val_main_v79 (F := Ideal) x0 x1 x2 x3 x4 x5 (ix2 t (ch s n))
      = x2 (ix2 2 (ch s n)) * Layer.dC (args x0 x1 x2 x3 x4 x5) cubic cubic3 s n t := fun t => by
    rw [val_main_v79_apply, dC_eq x0 x1 x2 x3 x4 x5 hA]
    exact congrArg (· * _) (v25_eq x2 t (ch s n))
  have e1 : ∀ t, val_main_v88 (F := Ideal) x0 x1 x2 x3 x4 x5 (ix2 t (ch s n))
      = x2 (ix2 1 (ch s n)) * Layer.dC (args x0 x1 x2 x3 x4 x5) cubic cubic3 s n t := fun t => by
    rw [val_main_v88_apply, dC_eq x0 x1 x2 x3 x4 x5 hA]
    exact congrArg (· * _) (v18_eq x2 t (ch s n))
  have e0 : ∀ t, val_main_v99 (F := Ideal) x0 x1 x2 x3 x4 x5 (ix2 t (ch s n))
      = x2 (ix2 0 (ch s n)) * Layer.dC (args x0 x1 x2 x3 x4 x5) cubic cubic3 s n t := fun t => by
    rw [val_main_v99_apply, dC_eq x0 x1 x2 x3 x4 x5 hA]
    exact congrArg (· * _) (v10_eq x2 t (ch s n))
  have m : ∀ (w : EReal) (d : Fin 2048 → EReal) (q : ℕ), up (fun t => w * d t) q t = w * up d q t := fun w d q => by
    unfold up
    split
    · rfl
    · exact (mul_zero w).symm
  rw [e2, funext e1, funext e0, m, m]
  rfl

/-- A channel's sum over the rows of the gradient times something. -/
theorem row2 (i : S8192.Idx) (n : Fin 8192) (h : (i 0).val = n.val) : val_main_v83 (F := Ideal) x0 x1 x2 x3 x4 x5 i
    = ∑ t : Fin 2048, val_main_v80 (F := Ideal) x0 x1 x2 x3 x4 x5 (ix2 t n) := by
  rw [val_main_v83_apply, Fin.sum_univ_one, val_main_v82_apply, val_main_v81_apply, val_main_cst_15_apply, val_main_cst_14_apply,
    zero_eq, zero_add, zero_add]
  exact Finset.sum_congr rfl fun t _ => congrArg _ (ix2_of rfl (by show 0 * 8192 + (i 0).val = n.val; omega))

theorem row1 (i : S8192.Idx) (n : Fin 8192) (h : (i 0).val = n.val) : val_main_v92 (F := Ideal) x0 x1 x2 x3 x4 x5 i
    = ∑ t : Fin 2048, val_main_v89 (F := Ideal) x0 x1 x2 x3 x4 x5 (ix2 t n) := by
  rw [val_main_v92_apply, Fin.sum_univ_one, val_main_v91_apply, val_main_v90_apply, val_main_cst_19_apply, val_main_cst_18_apply,
    zero_eq, zero_add, zero_add]
  exact Finset.sum_congr rfl fun t _ => congrArg _ (ix2_of rfl (by show 0 * 8192 + (i 0).val = n.val; omega))

theorem row0 (i : S8192.Idx) (n : Fin 8192) (h : (i 0).val = n.val) : val_main_v103 (F := Ideal) x0 x1 x2 x3 x4 x5 i
    = ∑ t : Fin 2048, val_main_v100 (F := Ideal) x0 x1 x2 x3 x4 x5 (ix2 t n) := by
  rw [val_main_v103_apply, Fin.sum_univ_one, val_main_v102_apply, val_main_v101_apply, val_main_cst_23_apply, val_main_cst_22_apply,
    zero_eq, zero_add, zero_add]
  exact Finset.sum_congr rfl fun t _ => congrArg _ (ix2_of rfl (by show 0 * 8192 + (i 0).val = n.val; omega))

/-- The third tap's gradient. -/
theorem tap2 (s : Fin 2) (n : Fin 4096) : val_main_v85 (F := Ideal) x0 x1 x2 x3 x4 x5 (ix2 0 (ch s n))
    = Layer.dCw (args x0 x1 x2 x3 x4 x5) cubic cubic3 s 2 n := by
  rw [val_main_v85_apply]
  refine (row2 x0 x1 x2 x3 x4 x5 hA _ (ch s n) rfl).trans (Finset.sum_congr rfl fun t _ => ?_)
  rw [val_main_v80_apply, dC_eq x0 x1 x2 x3 x4 x5 hA, v23_eq x0 x1 x2 x3 x4 x5]
  exact congrArg (· * _) (up_zero _ t).symm

/-- The second tap's gradient. -/
theorem tap1 (s : Fin 2) (n : Fin 4096) : val_main_v95 (F := Ideal) x0 x1 x2 x3 x4 x5 (ix2 0 (ch s n))
    = Layer.dCw (args x0 x1 x2 x3 x4 x5) cubic cubic3 s 1 n := by
  rw [val_main_v95_apply]
  refine ((row1 x0 x1 x2 x3 x4 x5 hA _ (ch s n) rfl).trans (Finset.sum_congr rfl fun t _ => ?_)).trans
    (Shift.sum_dn (Layer.dC (args x0 x1 x2 x3 x4 x5) cubic cubic3 s n) (fun t => Layer.U (args x0 x1 x2 x3 x4 x5) t (ch s n)) 1)
  rw [val_main_v89_apply, dC_eq x0 x1 x2 x3 x4 x5 hA, v16_eq x0 x1 x2 x3 x4 x5]
  rfl

/-- The first tap's gradient. -/
theorem tap0 (s : Fin 2) (n : Fin 4096) : val_main_v106 (F := Ideal) x0 x1 x2 x3 x4 x5 (ix2 0 (ch s n))
    = Layer.dCw (args x0 x1 x2 x3 x4 x5) cubic cubic3 s 0 n := by
  rw [val_main_v106_apply]
  refine ((row0 x0 x1 x2 x3 x4 x5 hA _ (ch s n) rfl).trans (Finset.sum_congr rfl fun t _ => ?_)).trans
    (Shift.sum_dn (Layer.dC (args x0 x1 x2 x3 x4 x5) cubic cubic3 s n) (fun t => Layer.U (args x0 x1 x2 x3 x4 x5) t (ch s n)) 2)
  rw [val_main_v100_apply, dC_eq x0 x1 x2 x3 x4 x5 hA, v8_eq x0 x1 x2 x3 x4 x5]
  rfl

/-- The gradients of the taps, one array. -/
theorem taps_eq (s : Fin 2) (i : Fin 3) (n : Fin 4096) : val_main_v108 (F := Ideal) x0 x1 x2 x3 x4 x5 (ix2 i (ch s n))
    = Layer.dCw (args x0 x1 x2 x3 x4 x5) cubic cubic3 s i n := by
  rw [val_main_v108_apply, val_main_v97_apply]
  unfold val_main_v86 val_main_v96 val_main_v107
  have z2 : ∀ i, val_main_cst_17 (F := Ideal) i = 0 := fun _ => zero_eq
  have z1 : ∀ i, val_main_cst_21 (F := Ideal) i = 0 := fun _ => zero_eq
  have z0 : ∀ i, val_main_cst_25 (F := Ideal) i = 0 := fun _ => zero_eq
  match i with
  | ⟨0, h⟩ =>
    rw [pad_other 2 0 _ _ z2 _ _ ⟨0, h⟩ _ (by show (0 : ℕ) ≠ 2; omega), pad_other 1 1 _ _ z1 _ _ ⟨0, h⟩ _ (by show (0 : ℕ) ≠ 1; omega), pad_one 0 2 _ _ _ _ ⟨0, h⟩ _ rfl,
      tap0 x0 x1 x2 x3 x4 x5 hA]
    exact (congrArg (· + _) (add_zero (0 : EReal))).trans (zero_add _)
  | ⟨1, h⟩ =>
    rw [pad_other 2 0 _ _ z2 _ _ ⟨1, h⟩ _ (by show (1 : ℕ) ≠ 2; omega), pad_one 1 1 _ _ _ _ ⟨1, h⟩ _ rfl, pad_other 0 2 _ _ z0 _ _ ⟨1, h⟩ _ (by show (1 : ℕ) ≠ 0; omega),
      tap1 x0 x1 x2 x3 x4 x5 hA]
    exact (add_zero _).trans (zero_add _)
  | ⟨2, h⟩ =>
    rw [pad_one 2 0 _ _ _ _ ⟨2, h⟩ _ rfl, pad_other 1 1 _ _ z1 _ _ ⟨2, h⟩ _ (by show (2 : ℕ) ≠ 1; omega), pad_other 0 2 _ _ z0 _ _ ⟨2, h⟩ _ (by show (2 : ℕ) ≠ 0; omega),
      tap2 x0 x1 x2 x3 x4 x5 hA]
    exact (add_zero _).trans (add_zero _)

/-- The gradients of the taps as the reference returns them. -/
theorem dCw_eq (s : Fin 2) (i : Fin 3) (n : Fin 4096) : val_main_v117 (F := Ideal) x0 x1 x2 x3 x4 x5 (ix3 s i n)
    = Layer.dCw (args x0 x1 x2 x3 x4 x5) cubic cubic3 s i n := by
  rw [val_main_v117_apply, val_main_v116_apply, ← taps_eq x0 x1 x2 x3 x4 x5 hA]
  refine congrArg _ (ix2_of ?_ ?_)
  · show ((i.val * 2 + s.val) * 4096 + n.val) / 8192 = i.val
    omega
  · show ((i.val * 2 + s.val) * 4096 + n.val) % 8192 = 4096 * s.val + n.val
    omega

/-- The gradient of the bias as the reference returns it. -/
theorem dCb_eq (s : Fin 2) (i : Fin 1) (n : Fin 4096) : val_main_v118 (F := Ideal) x0 x1 x2 x3 x4 x5 (ix3 s i n)
    = Layer.dCb (args x0 x1 x2 x3 x4 x5) cubic cubic3 s n := by
  rw [val_main_v118_apply, val_main_v77_apply, Fin.sum_univ_one, val_main_v76_apply, val_main_v75_apply, val_main_cst_13_apply,
    val_main_cst_12_apply, zero_eq, zero_add, zero_add]
  refine Finset.sum_congr rfl fun t _ => (congrArg _ (ix2_of rfl ?_)).trans (dC_eq x0 x1 x2 x3 x4 x5 hA s n t)
  show 0 * 8192 + ((s.val * 1 + i.val) * 4096 + n.val) = 4096 * s.val + n.val
  omega

/-- The gradient of the input. -/
theorem dH_eq (t : Fin 2048) (j : Fin 1024) : val_main_v113 (F := Ideal) x0 x1 x2 x3 x4 x5 (ix2 t j)
    = Layer.dH (args x0 x1 x2 x3 x4 x5) cubic cubic3 t j := by
  rw [val_main_v113_apply, Shift.sum_quarters]
  have e : ∀ (k : Fin 2048) (n : Fin 8192) (s : Fin 2) (n' : Fin 4096), n.val = 4096 * s.val + n'.val →
      val_main_v110 (F := Ideal) x0 x1 x2 x3 x4 x5 (lidx_main_v113 (ix2 t j) n) * x1 (ridx_main_v113 (ix2 t j) n)
        = Layer.dU (args x0 x1 x2 x3 x4 x5) cubic cubic3 s n' t * (args x0 x1 x2 x3 x4 x5).Wu j n := fun k n s n' h =>
    congrArg₂ (· * ·) ((congrArg _ (ix2_of rfl h)).trans (dU_eq x0 x1 x2 x3 x4 x5 hA s n' t)) (congrArg x1 (ix2_of rfl rfl))
  refine congrArg₂ (· + ·) (congrArg₂ (· + ·) (congrArg₂ (· + ·) ?_ ?_) ?_) ?_ <;>
    refine Finset.sum_congr rfl fun k _ => e k _ _ _ ?_
  · show k.val = 4096 * 0 + k.val; omega
  · show 2048 + k.val = 4096 * 0 + (2048 + k.val); omega
  · show 4096 + k.val = 4096 * 1 + k.val; omega
  · show 6144 + k.val = 4096 * 1 + (2048 + k.val); omega

/-- The gradient of the widening weight, as the reference returns it. -/
theorem dWu_eq (s : Fin 4) (k : Fin 1024) (j : Fin 2048) : val_main_v115 (F := Ideal) x0 x1 x2 x3 x4 x5 (ix3 s k j)
    = Layer.dWu (args x0 x1 x2 x3 x4 x5) cubic cubic3 s k j := by
  rw [val_main_v115_apply, val_main_v114_apply, val_main_v112_apply, val_main_v111_apply]
  refine Finset.sum_congr rfl fun t _ => (mul_comm _ _).trans (congrArg₂ (· * ·) (congrArg x0 (ix2_of rfl ?_))
    ((congrArg _ (ix2_of rfl ?_)).trans (dU_eq x0 x1 x2 x3 x4 x5 hA _ _ t)))
  · show ((k.val * 4 + s.val) * 2048 + j.val) / 8192 = k.val
    omega
  · show ((k.val * 4 + s.val) * 2048 + j.val) % 8192 = 4096 * (s.val / 2) + (s.val % 2 * 2048 + j.val)
    omega

end Cert.ReferenceIdeal.Backward

end
-- ==== Proof.Finite.lean ====
/- What the precondition says: every entry of the arguments is a real number. -/
module

public import proofs.«01_k».proof.Defs
public import proofs.«01_k».proof.Proof.GateGrad
public import proofs.«01_k».proof.Proof.HostIn
public import Idealize.ShloMosaic.Lib.ReduceAll

@[expose] public section

set_option maxRecDepth 16384

noncomputable section

namespace Cert.Finite

open Cert.GateGrad Cert.Pre_finite_arguments
open Idealize.ShloMosaic Idealize.ShloMosaic.TcCoe Idealize.SL.Sem

/-- The shape relations of the precondition's operations. -/
theorem facts : Cert.Pre_finite_arguments.Facts where
  bcast_S_S2048x1024 := by decide
  reducesTo_S2048x1024_S_d0_1 := by decide
  h_S_ := by decide
  bcast_S_S1024x8192 := by decide
  reducesTo_S1024x8192_S_d0_1 := by decide
  bcast_S_S3x8192 := by decide
  reducesTo_S3x8192_S_d0_1 := by decide
  bcast_S_S1x8192 := by decide
  reducesTo_S1x8192_S_d0_1 := by decide
  bcast_S_S4096x1024 := by decide
  reducesTo_S4096x1024_S_d0_1 := by decide

/-- A value whose size is below infinity is a real number. -/
theorem isReal_of_olt (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h2 : BitVec.ofBool (decide (max (x : EReal) (-(x : EReal)) < Ideal.ofBits .f32 0x7F800000#32)) = 1#1 := h
  rw [htop] at h2
  have h3 : max (x : EReal) (-(x : EReal)) < ⊤ := by
    by_contra hn
    rw [decide_eq_false hn] at h2
    exact absurd h2 (by decide)
  refine isReal_of_abs_lt (fun e => ?_) fun e => ?_ <;> rw [e] at h3 <;> simp at h3

/-- The one index of a scalar. -/
instance : Subsingleton S_.Idx := ⟨fun _ _ => funext fun a => a.elim0⟩

/-- An array all of whose values are below infinity in size holds real numbers. -/
theorem isReal_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : IsReal (x i) :=
  isReal_of_olt (x i) (Host.reduce_andi_all _ _ hr hu j e i)

/-- The precondition's function being one makes every entry of its arguments real. -/
theorem all_real [Cert.Pre_finite_arguments.Facts] (x0 : FVec Ideal S2048x1024 .f32) (x1 : FVec Ideal S1024x8192 .f32)
    (x2 : FVec Ideal S3x8192 .f32) (x3 : FVec Ideal S1x8192 .f32) (x4 : FVec Ideal S4096x1024 .f32) (x5 : FVec Ideal S2048x1024 .f32)
    (h : Cert.Pre_finite_arguments.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i))
      ∧ ∀ i, IsReal (x5 i) := by
  have h0 := congrFun h (Shape.Idx.first Facts.h_S_)
  unfold Cert.Pre_finite_arguments.fn Cert.Pre_finite_arguments.fn_part1 at h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨isReal_of_all x0 _ _ _ _ h0, isReal_of_all x1 _ _ _ _ h1, isReal_of_all x2 _ _ _ _ h2, isReal_of_all x3 _ _ _ _ h3,
    isReal_of_all x4 _ _ _ _ h4, isReal_of_all x5 _ _ _ _ h5⟩

end Cert.Finite

end
-- ==== Proof.Equation.lean ====
/- The equation: from arguments that are real numbers and agree, the kernel's six results and the reference's are one
   array each. -/
module

public import proofs.«01_k».proof.Proof.Chain
public import proofs.«01_k».proof.Proof.RefBackward
public import proofs.«01_k».proof.Proof.Finite

@[expose] public section

set_option maxRecDepth 16384

noncomputable section

namespace Cert.Equation

open Cert.GateGrad Cert.KernelIdeal Cert.KernelIdeal.Gen
open Idealize.ShloMosaic Idealize.ShloMosaic.TcCoe Idealize.SL.Sem

/-- The kernel's named coefficient is the reference's quotient. -/
theorem cubic_eq : Cert.KernelIdeal.UpActBlock.cubic = Cert.ReferenceIdeal.Forward.cubic :=
  IdealRules.named_const.ideal_named_scalar _ _ _ _ rfl

/-- And its triple the triple. -/
theorem cubic3_eq : Cert.KernelIdeal.UpActBlock.cubic3 = Cert.ReferenceIdeal.Backward.cubic3 :=
  IdealRules.named_const.ideal_named_scalar _ _ _ _ rfl

variable (m : (ℓ : Loc nD τ sig) → Buf (Elt Ideal) ℓ) (ρ : Dev nD → PrngReg) (c : Dev nD)
  (y0 : (⟨Cert.ReferenceIdeal.S2048x1024, .f32⟩ : BufTy).Contents (Elt Ideal))
  (y1 : (⟨Cert.ReferenceIdeal.S1024x8192, .f32⟩ : BufTy).Contents (Elt Ideal))
  (y2 : (⟨Cert.ReferenceIdeal.S3x8192, .f32⟩ : BufTy).Contents (Elt Ideal))
  (y3 : (⟨Cert.ReferenceIdeal.S1x8192, .f32⟩ : BufTy).Contents (Elt Ideal))
  (y4 : (⟨Cert.ReferenceIdeal.S4096x1024, .f32⟩ : BufTy).Contents (Elt Ideal))
  (y5 : (⟨Cert.ReferenceIdeal.S2048x1024, .f32⟩ : BufTy).Contents (Elt Ideal))
  (e : Cert.KernelIdeal.HostIn.args m c = Cert.ReferenceIdeal.Forward.args y0 y1 y2 y3 y4 y5)
  (hA : AllReal (Cert.ReferenceIdeal.Forward.args y0 y1 y2 y3 y4 y5))
include e

/-- The layer's result. -/
theorem out : Cert.ReferenceIdeal.Read.val_main_v56 (F := Ideal) y0 y1 y2 y3 y4 = V7 m ρ c main_v7 := by
  funext i
  obtain ⟨a, b, rfl⟩ : ∃ a b, i = ix2 a b := ⟨i 0, i 1, Cert.ReferenceIdeal.Forward.ix2_of rfl rfl⟩
  rw [Cert.KernelIdeal.Chain.out_eq, e, cubic_eq]
  exact Cert.ReferenceIdeal.Forward.out_eq y0 y1 y2 y3 y4 y5 a b

/-- The gradient of the narrowing weight. -/
theorem dWd : Cert.ReferenceIdeal.Read.val_main_v58 (F := Ideal) y0 y1 y2 y3 y5 = V7 m ρ c main_v8 := by
  funext i
  obtain ⟨a, b, rfl⟩ : ∃ a b, i = ix2 a b := ⟨i 0, i 1, Cert.ReferenceIdeal.Forward.ix2_of rfl rfl⟩
  rw [Cert.KernelIdeal.Chain.dwd_eq, e, cubic_eq]
  exact Cert.ReferenceIdeal.Forward.dWd_eq y0 y1 y2 y3 y4 y5 a b

include hA

/-- The gradient of the input. -/
theorem dH : Cert.ReferenceIdeal.Read.val_main_v113 (F := Ideal) y0 y1 y2 y3 y4 y5 = V7 m ρ c main_v10 := by
  funext i
  obtain ⟨a, b, rfl⟩ : ∃ a b, i = ix2 a b := ⟨i 0, i 1, Cert.ReferenceIdeal.Forward.ix2_of rfl rfl⟩
  rw [Cert.KernelIdeal.Chain.dH_eq, e, cubic_eq, cubic3_eq]
  exact Cert.ReferenceIdeal.Backward.dH_eq y0 y1 y2 y3 y4 y5 hA a b

/-- The gradient of the widening weight. -/
theorem dWu : Cert.ReferenceIdeal.Read.val_main_v115 (F := Ideal) y0 y1 y2 y3 y4 y5 = V7 m ρ c main_v11 := by
  funext i
  obtain ⟨s, a, b, rfl⟩ : ∃ s a b, i = ix3 s a b := ⟨i 0, i 1, i 2, eq_ix3 i⟩
  rw [Cert.KernelIdeal.Chain.dWu_eq, e, cubic_eq, cubic3_eq]
  exact Cert.ReferenceIdeal.Backward.dWu_eq y0 y1 y2 y3 y4 y5 hA s a b

/-- The gradients of the taps. -/
theorem dCw : Cert.ReferenceIdeal.Read.val_main_v117 (F := Ideal) y0 y1 y2 y3 y4 y5 = V7 m ρ c main_v9_1 := by
  funext i
  obtain ⟨s, a, b, rfl⟩ : ∃ s a b, i = ix3 s a b := ⟨i 0, i 1, i 2, eq_ix3 i⟩
  rw [Cert.KernelIdeal.Chain.dCw_eq, e, cubic_eq, cubic3_eq]
  exact Cert.ReferenceIdeal.Backward.dCw_eq y0 y1 y2 y3 y4 y5 hA s a b

/-- The gradient of the bias. -/
theorem dCb : Cert.ReferenceIdeal.Read.val_main_v118 (F := Ideal) y0 y1 y2 y3 y4 y5 = V7 m ρ c main_v9_2 := by
  funext i
  obtain ⟨s, a, b, rfl⟩ : ∃ s a b, i = ix3 s a b := ⟨i 0, i 1, i 2, eq_ix3 i⟩
  rw [Cert.KernelIdeal.Chain.dCb_eq, e, cubic_eq, cubic3_eq]
  exact Cert.ReferenceIdeal.Backward.dCb_eq y0 y1 y2 y3 y4 y5 hA s a b

end Cert.Equation

end
-- ==== Proof.Run.lean ====
/- The kernel's run: every argument is as it was, every counter is zero, and each result is what the last call left of it. -/
module

public import proofs.«01_k».proof.Proof.Gen.KernelIdeal.Frame
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The run of the kernel from any memory. -/
theorem run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v7) = V7 m ρ c main_v7
      ∧ r.2.mem ((c.tc : Thread nD τ).loc main_v10) = V7 m ρ c main_v10
      ∧ r.2.mem ((c.tc : Thread nD τ).loc main_v11) = V7 m ρ c main_v11
      ∧ r.2.mem ((c.tc : Thread nD τ).loc main_v9_1) = V7 m ρ c main_v9_1
      ∧ r.2.mem ((c.tc : Thread nD τ).loc main_v9_2) = V7 m ρ c main_v9_2
      ∧ r.2.mem ((c.tc : Thread nD τ).loc main_v8) = V7 m ρ c main_v8)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       h c _ (mem_uc main_v7 (by decide)),
       h c _ (mem_uc main_v10 (by decide)),
       h c _ (mem_uc main_v11 (by decide)),
       h c _ (mem_uc main_v9_1 (by decide)),
       h c _ (mem_uc main_v9_2 (by decide)),
       h c _ (mem_uc main_v8 (by decide))⟩), funext fun g => hz g (.inr (no_unscoped g.2))⟩)

end Cert.KernelIdeal.Run

end
-- ==== Proof.Claims.lean ====
/- The claims, one theorem each: the three programs run and leave their arguments alone, the idealized kernel is the
   printed one with two constants named, and it computes what the reference computes. -/
module

public import proofs.«01_k».proof.Proof.Equation
public import proofs.«01_k».proof.Proof.Run
public import proofs.«01_k».proof.Proof.Gen.Kernel.Frame
public import proofs.«01_k».proof.Proof.Gen.ReferenceIdeal.Run
public import Idealize.ShloMosaic.Lib.Quiescent
public import Idealize.ShloMosaic.Lib.Claim

@[expose] public section

set_option maxRecDepth 16384

noncomputable section

namespace Cert.Proof.Claims

open Idealize.ShloMosaic Idealize.ShloMosaic.TcCoe Idealize.SL.Sem Cert.GateGrad

theorem frame_p : Cert.quiescent_Kernel (hKernel := Cert.Kernel.Gen.facts) := fun m ρ _ => Cert.Kernel.Gen.frame m ρ

theorem frame_pi : Cert.quiescent_KernelIdeal (hKernelIdeal := Cert.KernelIdeal.Gen.facts) :=
  fun m ρ _ => Cert.KernelIdeal.Gen.frame m ρ

theorem frame_pi_pre : Cert.quiescent_KernelIdeal_pre_finite_arguments (hKernelIdeal := Cert.KernelIdeal.Gen.facts)
    (hPre_finite_arguments := Cert.Finite.facts) :=
  fun m ρ _ => Cert.KernelIdeal.Gen.frame m ρ

theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

theorem frame_ri_pre : Cert.quiescent_ReferenceIdeal_pre_finite_arguments (hReferenceIdeal := Cert.ReferenceIdeal.Gen.facts)
    (hPre_finite_arguments := Cert.Finite.facts) :=
  fun m ρ _ => frame_ri m ρ trivial

theorem preserves : Cert.preserves_Kernel_KernelIdeal :=
  ⟨IdealRules.named_const.statement Cert.KernelIdeal.κ "cubic" .f32 0x3D372713#32 ((8943 / 200000 : ℝ) : EReal) rfl,
    IdealRules.named_const.statement Cert.KernelIdeal.κ "cubic3" .f32 0x3E095D4F#32 ((26829 / 200000 : ℝ) : EReal) rfl⟩

/-- The precondition makes the arguments' entries real. -/
theorem real (m : (ℓ : Loc Cert.KernelIdeal.nD Cert.KernelIdeal.τ Cert.KernelIdeal.sig) → Buf (Elt Ideal) ℓ)
    (h : Cert.Pre_KernelIdeal_finite_arguments (hPre_finite_arguments := Cert.Finite.facts) m) (c : Dev Cert.KernelIdeal.nD) :
    AllReal (Cert.KernelIdeal.HostIn.args m c) := by
  obtain ⟨h0, h1, h2, h3, h4, h5⟩ := @Cert.Finite.all_real Cert.Finite.facts _ _ _ _ _ _ (h c)
  exact ⟨fun _ _ => h0 _, fun _ _ => h1 _, fun _ _ => h2 _, fun _ => h3 _, fun _ _ => h4 _, fun _ _ => h5 _⟩

theorem algebraic : Cert.algebraic_KernelIdeal_ReferenceIdeal_pre_finite_arguments (hKernelIdeal := Cert.KernelIdeal.Gen.facts)
    (hReferenceIdeal := Cert.ReferenceIdeal.Gen.facts) (hPre_finite_arguments := Cert.Finite.facts) := by
  intro m ρ m' ρ' hpre hagree
  refine ⟨fun c => Cert.KernelIdeal.Gen.V7 m ρ c Cert.KernelIdeal.main_v7, fun c => Cert.KernelIdeal.Gen.V7 m ρ c Cert.KernelIdeal.main_v10,
    fun c => Cert.KernelIdeal.Gen.V7 m ρ c Cert.KernelIdeal.main_v11, fun c => Cert.KernelIdeal.Gen.V7 m ρ c Cert.KernelIdeal.main_v9_1,
    fun c => Cert.KernelIdeal.Gen.V7 m ρ c Cert.KernelIdeal.main_v9_2, fun c => Cert.KernelIdeal.Gen.V7 m ρ c Cert.KernelIdeal.main_v8,
    ?_, ?_⟩
  · refine (θ_run Cert.KernelIdeal.defs _ _).mono (fun r h c => ?_) (Cert.KernelIdeal.Run.run m ρ)
    obtain ⟨a0, a1, a2, a3, a4, a5, r0, r1, r2, r3, r4, r5⟩ := h.1 c
    exact ⟨r0, r1, r2, r3, r4, r5, a0, a1, a2, a3, a4, a5⟩
  · refine (θ_run Cert.ReferenceIdeal.defs _ _).mono (fun r h c => ?_) (Cert.ReferenceIdeal.Value.run (F := Ideal) m' ρ')
    obtain ⟨r0, r1, r2, r3, r4, r5, a⟩ := h c
    have e : Cert.KernelIdeal.HostIn.args m c = Cert.ReferenceIdeal.Forward.args
        (m' ((c : Thread Cert.ReferenceIdeal.nD Cert.ReferenceIdeal.τ).loc Cert.ReferenceIdeal.main_arg0))
        (m' ((c : Thread Cert.ReferenceIdeal.nD Cert.ReferenceIdeal.τ).loc Cert.ReferenceIdeal.main_arg1))
        (m' ((c : Thread Cert.ReferenceIdeal.nD Cert.ReferenceIdeal.τ).loc Cert.ReferenceIdeal.main_arg2))
        (m' ((c : Thread Cert.ReferenceIdeal.nD Cert.ReferenceIdeal.τ).loc Cert.ReferenceIdeal.main_arg3))
        (m' ((c : Thread Cert.ReferenceIdeal.nD Cert.ReferenceIdeal.τ).loc Cert.ReferenceIdeal.main_arg4))
        (m' ((c : Thread Cert.ReferenceIdeal.nD Cert.ReferenceIdeal.τ).loc Cert.ReferenceIdeal.main_arg5)) := by
      obtain ⟨e0, e1, e2, e3, e4, e5⟩ := hagree c
      rw [e0, e1, e2, e3, e4, e5]
      rfl
    have hA := e ▸ real m hpre c
    exact ⟨r0.trans ((Cert.ReferenceIdeal.Read.val_main_v56_eq _).trans (Cert.Equation.out m ρ c _ _ _ _ _ _ e)),
      r1.trans ((Cert.ReferenceIdeal.Read.val_main_v113_eq _).trans (Cert.Equation.dH m ρ c _ _ _ _ _ _ e hA)),
      r2.trans ((Cert.ReferenceIdeal.Read.val_main_v115_eq _).trans (Cert.Equation.dWu m ρ c _ _ _ _ _ _ e hA)),
      r3.trans ((Cert.ReferenceIdeal.Read.val_main_v117_eq _).trans (Cert.Equation.dCw m ρ c _ _ _ _ _ _ e hA)),
      r4.trans ((Cert.ReferenceIdeal.Read.val_main_v118_eq _).trans (Cert.Equation.dCb m ρ c _ _ _ _ _ _ e hA)),
      r5.trans ((Cert.ReferenceIdeal.Read.val_main_v58_eq _).trans (Cert.Equation.dWd m ρ c _ _ _ _ _ _ e)), a⟩

end Cert.Proof.Claims

end
-- ==== Proof.Norm.lean ====
/- The root-mean-square norm of one row and its gradient, on extended reals; on real numbers the gradient as the reference
   chains it (through the reciprocal root's derivative, the row's sum of squares counted from both factors) is the
   kernel's closed form. -/
module

public import proofs.«01_k».proof.Proof.GateGrad

@[expose] public section

set_option maxRecDepth 16384

noncomputable section

namespace Cert.Norm

open Idealize.ShloMosaic Cert.GateGrad
open scoped BigOperators

/-- The row's width, 1024. -/
def width : EReal := Ideal.ofBits .f32 0x44800000#32

/-- The small number under the root, as the programs round it. -/
def eps : EReal := Ideal.ofBits .f32 0x358637BD#32

/-- Minus one half. -/
def mhalf : EReal := Ideal.ofBits .f32 0xBF000000#32

/-- The mean of the row's squares, and the small number. -/
def var (x : Fin 1024 → EReal) : EReal := Ideal.div (∑ k, x k * x k) width + eps

/-- The reciprocal of the row's root mean square. -/
def rstd (x : Fin 1024 → EReal) : EReal := Ideal.rsqrt (var x)

/-- The norm: the row over its root mean square, times the gains. -/
def normed (x g : Fin 1024 → EReal) (j : Fin 1024) : EReal := x j * rstd x * g j

/-- The gradient of the norm by the row, as the kernel writes it: `gy` the gradient of the result times the gains. -/
def back (x gy : Fin 1024 → EReal) (j : Fin 1024) : EReal :=
  rstd x * gy j - x j * ((rstd x * rstd x * rstd x) * Ideal.div (∑ k, x k * gy k) width)

/-- What the reference sends back to each factor of the row's squares. -/
def tail (x gy : Fin 1024 → EReal) : EReal :=
  Ideal.div ((∑ k, x k * gy k) * (mhalf * Ideal.div (rstd x) (var x))) width

theorem width_eq : width = ((1024 : ℝ) : EReal) := by
  unfold width
  simp [Ideal.ofBits, Ideal.ieee, -EReal.coe_mul]; norm_num

theorem mhalf_eq : mhalf = ((-(1 / 2) : ℝ) : EReal) := by
  unfold mhalf
  simp [Ideal.ofBits, Ideal.ieee, -EReal.coe_mul]; norm_num

theorem eps_eq : ∃ e : ℝ, 0 < e ∧ eps = (e : EReal) := by
  refine ⟨8796093 / 8796093022208, by norm_num, ?_⟩
  unfold eps
  simp [Ideal.ofBits, Ideal.ieee, -EReal.coe_mul]; norm_num

/-- A row of real numbers as a row of reals. -/
theorem exists_row {x : Fin 1024 → EReal} (hx : ∀ k, IsReal (x k)) : ∃ a : Fin 1024 → ℝ, x = fun k => (a k : EReal) :=
  ⟨fun k => (hx k).choose, funext fun k => (hx k).choose_spec⟩

theorem coe_sum {N : ℕ} (a : Fin N → ℝ) : (∑ k, (a k : EReal)) = ((∑ k, a k : ℝ) : EReal) := by
  induction N with
  | zero => simp
  | succ n ih => rw [Fin.sum_univ_castSucc, Fin.sum_univ_castSucc, ih, EReal.coe_add]

/-- On real numbers the variance is a positive real and the reciprocal root its reciprocal root. -/
theorem rstd_real (a : Fin 1024 → ℝ) : ∃ v r : ℝ, v ≠ 0 ∧ 1 / v = r * r ∧ var (fun k => (a k : EReal)) = (v : EReal)
    ∧ rstd (fun k => (a k : EReal)) = (r : EReal) := by
  obtain ⟨e, he, hee⟩ := eps_eq
  have hs : 0 ≤ ∑ k, a k * a k := Finset.sum_nonneg fun k _ => mul_self_nonneg (a k)
  have hv : var (fun k => (a k : EReal)) = (((∑ k, a k * a k) * (1 / 1024) + e : ℝ) : EReal) := by
    unfold var
    rw [width_eq, hee, Ideal.div_coe (by norm_num)]
    simp only [← EReal.coe_mul]
    rw [coe_sum, ← EReal.coe_mul, ← EReal.coe_add]
  have hp : 0 < (∑ k, a k * a k) * (1 / 1024) + e := by positivity
  refine ⟨_, (Real.sqrt ((∑ k, a k * a k) * (1 / 1024) + e))⁻¹, hp.ne', ?_, hv, ?_⟩
  · rw [← mul_inv, Real.mul_self_sqrt hp.le, one_div]
  · unfold rstd
    rw [hv, Ideal.rsqrt_coe, if_neg (not_lt.2 hp.le), if_neg hp.ne']

theorem isReal_rstd {x : Fin 1024 → EReal} (hx : ∀ k, IsReal (x k)) : IsReal (rstd x) := by
  obtain ⟨a, rfl⟩ := exists_row hx
  obtain ⟨_, r, _, _, _, h⟩ := rstd_real a
  exact ⟨r, h⟩

theorem IsReal.sub {x y : EReal} : IsReal x → IsReal y → IsReal (x - y)
  | ⟨a, ha⟩, ⟨b, hb⟩ => ⟨a - b, by rw [ha, hb, EReal.coe_sub]⟩

theorem isReal_div_width {x : EReal} : IsReal x → IsReal (Ideal.div x width)
  | ⟨a, ha⟩ => ⟨a * (1 / 1024), by rw [ha, width_eq, Ideal.div_coe (by norm_num), EReal.coe_mul]⟩

theorem isReal_normed {x g : Fin 1024 → EReal} (hx : ∀ k, IsReal (x k)) (hg : ∀ k, IsReal (g k)) (j : Fin 1024) :
    IsReal (normed x g j) := ((hx j).mul (isReal_rstd hx)).mul (hg j)

theorem isReal_back {x gy : Fin 1024 → EReal} (hx : ∀ k, IsReal (x k)) (hg : ∀ k, IsReal (gy k)) (j : Fin 1024) :
    IsReal (back x gy j) := by
  have hr := isReal_rstd hx
  exact IsReal.sub (hr.mul (hg j)) ((hx j).mul (((hr.mul hr).mul hr).mul
    (isReal_div_width (IsReal.sum fun k => (hx k).mul (hg k)))))

/-- The reference's chain is the kernel's closed form, on real numbers. -/
theorem chain_eq {x gy : Fin 1024 → EReal} (hx : ∀ k, IsReal (x k)) (hg : ∀ k, IsReal (gy k)) (j : Fin 1024) :
    (gy j * rstd x + x j * tail x gy) + tail x gy * x j = back x gy j := by
  obtain ⟨a, rfl⟩ := exists_row hx
  obtain ⟨b, rfl⟩ := exists_row hg
  obtain ⟨v, r, hv, hr, ev, er⟩ := rstd_real a
  unfold back tail
  rw [ev, er, width_eq, mhalf_eq, Ideal.div_coe hv, Ideal.div_coe (by norm_num), Ideal.div_coe (by norm_num), hr]
  simp only [← EReal.coe_mul]
  rw [coe_sum]
  simp only [← EReal.coe_mul, ← EReal.coe_add, ← EReal.coe_sub]
  exact congrArg _ (by ring)

/-- The same with what comes before it added first. -/
theorem chain_add_eq {x gy : Fin 1024 → EReal} (hx : ∀ k, IsReal (x k)) (hg : ∀ k, IsReal (gy k)) (a : EReal) (j : Fin 1024) :
    ((a + gy j * rstd x) + x j * tail x gy) + tail x gy * x j = a + back x gy j := by
  rw [← chain_eq hx hg, add_assoc a, add_assoc a]

end Cert.Norm

end
-- ==== Proof.MidBlocks.lean ====
/- What one point of each call around the mixer's output writes, at an index of its block. -/
module

public import proofs.«01_k».proof.Proof.Gen.Kernel2Ideal.Skeleton
public import proofs.«01_k».proof.Proof.Norm
public import Idealize.ShloMosaic.Lib.Pointwise

@[expose] public section

set_option maxRecDepth 16384

noncomputable section

namespace Cert.Kernel2Ideal.MidBlocks

open Cert.Kernel2Ideal Cert.Kernel2Ideal.Gen Cert.Norm
open Idealize.ShloMosaic Idealize.SL.Sem
open scoped BigOperators

/-- The output product: rows of the mixer's outputs against columns of the weight. -/
theorem k0_apply (a : Vec Ideal S2048x1024 .bf16) (b : Vec Ideal S1024x512 .bf16) (y : S2048x512.Idx) :
    k0_pay1 (F := Ideal) a b y = ∑ k : Fin 1024, a (ix2 (y 0) k) * b (ix2 k (y 1)) := by
  idx_vars y
  pointwise [k0_pay1]

/-- The residual stream and the normed product. -/
theorem k1_next (m x : Vec Ideal S512x1024 .f32) (g : Vec Ideal S1x1024 .f32) (y : S512x1024.Idx) :
    k1_pay1 (F := Ideal) m x g y = x y + normed (fun k => m (ix2 (y 0) k)) (fun k => g (ix2 0 k)) (y 1) := by
  idx_vars y
  unfold normed rstd var width eps
  pointwise [k1_pay1]

/-- The norm of the stream. -/
theorem k1_out (m x : Vec Ideal S512x1024 .f32) (g g' : Vec Ideal S1x1024 .f32) (y : S512x1024.Idx) :
    k1_pay2 (F := Ideal) m x g g' y = normed (fun k => k1_pay1 (F := Ideal) m x g (ix2 (y 0) k)) (fun k => g' (ix2 0 k)) (y 1) := by
  idx_vars y
  unfold normed rstd var width eps
  unfold k1_pay2
  generalize k1_pay1 (F := Ideal) m x g = d
  pointwise

/-- The gradient of the stream. -/
theorem k2_dnext (x d r : Vec Ideal S512x1024 .f32) (g : Vec Ideal S1x1024 .f32) (y : S512x1024.Idx) :
    k2_pay4 (F := Ideal) x d r g y
      = r y + back (fun k => x (ix2 (y 0) k)) (fun k => d (ix2 (y 0) k) * g (ix2 0 k)) (y 1) := by
  idx_vars y
  unfold back rstd var width eps
  pointwise [k2_pay4, k2_pay3, k2_pay1]

/-- The gradient of the output product, from the gradient of the stream. -/
theorem k2_dmix (m : Vec Ideal S512x1024 .f32) (d : FVec Ideal S512x1024 .f32) (g : Vec Ideal S1x1024 .f32) (y : S512x1024.Idx) :
    k2_pay8 (F := Ideal) (k2_pay2 (F := Ideal) m) d (k2_pay5 (F := Ideal) m) (k2_pay6 (F := Ideal)) g y
      = back (fun k => m (ix2 (y 0) k)) (fun k => d (ix2 (y 0) k) * g (ix2 0 k)) (y 1) := by
  idx_vars y
  unfold back rstd var width eps
  pointwise [k2_pay8, k2_pay7, k2_pay6, k2_pay5, k2_pay2]

theorem k2_zero2 (y : S1x1024.Idx) : k2_pay9 (F := Ideal) y = 0 := by
  idx_vars y
  pointwise [k2_pay9]

theorem k2_zero3 (y : S1x1024.Idx) : k2_pay10 (F := Ideal) y = 0 := by
  idx_vars y
  pointwise [k2_pay10]

/-- The second norm's gains' gradient so far and the block's. -/
theorem k2_dg3 (x d : Vec Ideal S512x1024 .f32) (a : Vec Ideal S1x1024 .f32) (y : S1x1024.Idx) :
    k2_pay11 (F := Ideal) (k2_pay1 (F := Ideal) x) d (k2_pay3 (F := Ideal) x) a y
      = a y + ∑ t : Fin 512, (d (ix2 t (y 1)) * x (ix2 t (y 1))) * rstd fun k => x (ix2 t k) := by
  idx_vars y
  unfold rstd var width eps
  pointwise [k2_pay11, k2_pay3, k2_pay1]

/-- The first norm's gains' gradient so far and the block's. -/
theorem k2_dg2 (m : Vec Ideal S512x1024 .f32) (d : FVec Ideal S512x1024 .f32) (a : Vec Ideal S1x1024 .f32) (y : S1x1024.Idx) :
    k2_pay12 (F := Ideal) (k2_pay2 (F := Ideal) m) d (k2_pay5 (F := Ideal) m) (k2_pay6 (F := Ideal)) a y
      = a y + ∑ t : Fin 512, (d (ix2 t (y 1)) * m (ix2 t (y 1))) * rstd fun k => m (ix2 t k) := by
  idx_vars y
  unfold rstd var width eps
  pointwise [k2_pay12, k2_pay7, k2_pay6, k2_pay5, k2_pay2]

/-- The gradient of the mixer's outputs: rows of the gradient against rows of the weight. -/
theorem k3_apply (a : Vec Ideal S2048x1024 .bf16) (b : Vec Ideal S512x1024 .bf16) (y : S2048x512.Idx) :
    k3_pay1 (F := Ideal) a b y = ∑ k : Fin 1024, a (ix2 (y 0) k) * b (ix2 (y 1) k) := by
  idx_vars y
  pointwise [k3_pay1]

/-- The gradient of the output weight: columns of the mixer's outputs against columns of the gradient. -/
theorem k4_apply (a : Vec Ideal S2048x512 .bf16) (b : Vec Ideal S2048x1024 .bf16) (y : S512x1024.Idx) :
    k4_pay1 (F := Ideal) a b y = ∑ k : Fin 2048, a (ix2 k (y 0)) * b (ix2 k (y 1)) := by
  idx_vars y
  pointwise [k4_pay1]

end Cert.Kernel2Ideal.MidBlocks

end
-- ==== Proof.MidArrays.lean ====
/- The arrays the calls around the mixer's output leave, each as a function of the arrays it finds. -/
module

public import proofs.«01_k».proof.Proof.Gen.Kernel2Ideal.Frame
public import proofs.«01_k».proof.Proof.MidBlocks
public import Idealize.ShloMosaic.Lib.Pipeline.ValueKit

@[expose] public section

set_option maxRecDepth 16384

noncomputable section

namespace Cert.Kernel2Ideal.MidArrays

open Cert.Kernel2Ideal Cert.Kernel2Ideal.Gen Cert.Kernel2Ideal.MidBlocks Cert.Norm
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## The output product -/

theorem idx0 : ∀ t : Fin cfg0.N, win0_0.index t = ![0, 0] ∧ win0_1.index t = ![0, t.val] ∧ win0_2.index t = ![0, t.val] :=
  (by decide +kernel : ∀ t : Fin grid0.N, win0_0.index t = ![0, 0] ∧ win0_1.index t = ![0, t.val] ∧ win0_2.index t = ![0, t.val])

/-- The output product. -/
def mixArr (a : FVec Ideal S2048x1024 .bf16) (w : FVec Ideal S1024x1024 .bf16) : FVec Ideal S2048x1024 .f32 :=
  fun y => ∑ k : Fin 1024, a (ix2 (y 0) k) * w (ix2 k (y 1))

theorem arr0 (c : Dev nD) : (dat0 V c).arrAt 2 cfg0.N = mixArr (V c main_v0) (V c main_v1) := by
  refine (dat0 V c).arrAt_eq_of_covers 2 _ (by decide +kernel) fun t hf y => ?_
  blk_simp
  rw [after0_2]
  frame_out
  refine (k0_apply _ _ y).trans ?_
  unfold mixArr
  refine Finset.sum_congr rfl fun k _ => ?_
  have e := idx0 t
  congr 1 <;> blk_ext [iblk0, e.1, e.2.1, e.2.2]

/-! ## The two norms -/

theorem idx1 : ∀ t : Fin cfg1.N, win1_0.index t = ![t.val, 0] ∧ win1_1.index t = ![t.val, 0] ∧ win1_2.index t = ![0, 0]
    ∧ win1_3.index t = ![0, 0] ∧ win1_4.index t = ![t.val, 0] ∧ win1_5.index t = ![t.val, 0] :=
  (by decide +kernel : ∀ t : Fin grid1.N, win1_0.index t = ![t.val, 0] ∧ win1_1.index t = ![t.val, 0] ∧ win1_2.index t = ![0, 0]
    ∧ win1_3.index t = ![0, 0] ∧ win1_4.index t = ![t.val, 0] ∧ win1_5.index t = ![t.val, 0])

/-- The row of the arrays that row `r` of block `t` is. -/
def row1 (t : Fin cfg1.N) (r : Fin 512) : Fin 2048 :=
  ⟨t.val * 512 + r.val, Fin.mul_add_lt_of_eq_mul (S := cfg1.N) (by decide +kernel) t r⟩

theorem blk1_0 (c : Dev nD) (t : Fin cfg1.N) (r : Fin 512) (k : Fin 1024) :
    (iblk1 V c 0 t : Vec Ideal S512x1024 .f32) (ix2 r k) = V c main_arg2 (ix2 (row1 t r) k) := by
  have e := idx1 t
  unfold row1
  blk_ext [iblk1, e.1]

theorem blk1_1 (c : Dev nD) (t : Fin cfg1.N) (r : Fin 512) (k : Fin 1024) :
    (iblk1 V c 1 t : Vec Ideal S512x1024 .f32) (ix2 r k) = V c main_v2 (ix2 (row1 t r) k) := by
  have e := idx1 t
  unfold row1
  blk_ext [iblk1, e.2.1]

theorem blk1_2 (c : Dev nD) (t : Fin cfg1.N) (k : Fin 1024) :
    (iblk1 V c 2 t : Vec Ideal S1x1024 .f32) (ix2 0 k) = V c main_arg3 (ix2 0 k) := by
  have e := idx1 t
  blk_ext [iblk1, e.2.2.1]

theorem blk1_3 (c : Dev nD) (t : Fin cfg1.N) (k : Fin 1024) :
    (iblk1 V c 3 t : Vec Ideal S1x1024 .f32) (ix2 0 k) = V c main_arg4 (ix2 0 k) := by
  have e := idx1 t
  blk_ext [iblk1, e.2.2.2.1]

/-- The residual stream and the normed product. -/
def nextArr (x m : FVec Ideal S2048x1024 .f32) (g : FVec Ideal S1x1024 .f32) : FVec Ideal S2048x1024 .f32 :=
  fun y => x (ix2 (y 0) (y 1)) + normed (fun k => m (ix2 (y 0) k)) (fun k => g (ix2 0 k)) (y 1)

/-- The norm of the stream. -/
def outArr (x m : FVec Ideal S2048x1024 .f32) (g g' : FVec Ideal S1x1024 .f32) : FVec Ideal S2048x1024 .bf16 :=
  fun y => normed (fun k => nextArr x m g (ix2 (y 0) k)) (fun k => g' (ix2 0 k)) (y 1)

theorem next_blk (c : Dev nD) (t : Fin cfg1.N) (y : S512x1024.Idx) :
    k1_pay1 (F := Ideal) (iblk1 V c 1 t) (iblk1 V c 0 t) (iblk1 V c 2 t) y
      = nextArr (V c main_arg2) (V c main_v2) (V c main_arg3) (ix2 (row1 t (y 0)) (y 1)) := by
  refine (k1_next _ _ _ y).trans ?_
  exact congrArg₂ (· + ·) ((congrArg _ (eq_ix2 y)).trans (blk1_0 V c t (y 0) (y 1)))
    (congrArg₂ (fun a b => normed a b (y 1)) (funext fun k => blk1_1 V c t (y 0) k) (funext fun k => blk1_2 V c t k))

theorem arr1_4 (c : Dev nD) : (dat1 V c).arrAt 4 cfg1.N = nextArr (V c main_arg2) (V c main_v2) (V c main_arg3) := by
  refine (dat1 V c).arrAt_eq_of_covers 4 _ (by decide +kernel) fun t hf y => ?_
  blk_simp
  rw [after1_4]
  frame_out
  refine (next_blk V c t y).trans ?_
  have e := idx1 t
  blk_ext [row1, e.2.2.2.2.1]

theorem arr1_5 (c : Dev nD) : (dat1 V c).arrAt 5 cfg1.N = outArr (V c main_arg2) (V c main_v2) (V c main_arg3) (V c main_arg4) := by
  refine (dat1 V c).arrAt_eq_of_covers 5 _ (by decide +kernel) fun t hf y => ?_
  blk_simp
  rw [after1_5]
  frame_out
  refine (k1_out _ _ _ _ y).trans ?_
  refine (congrArg₂ (fun a b => normed a b (y 1)) (funext fun k => next_blk V c t (ix2 (y 0) k)) (funext fun k => blk1_3 V c t k)).trans ?_
  show outArr (V c main_arg2) (V c main_v2) (V c main_arg3) (V c main_arg4) (ix2 (row1 t (y 0)) (y 1)) = _
  have e := idx1 t
  blk_ext [row1, e.2.2.2.2.2]

/-! ## The norms' gradients -/

theorem idx2 : ∀ t : Fin cfg2.N, win2_0.index t = ![t.val, 0] ∧ win2_1.index t = ![t.val, 0] ∧ win2_2.index t = ![t.val, 0]
    ∧ win2_3.index t = ![t.val, 0] ∧ win2_4.index t = ![0, 0] ∧ win2_5.index t = ![0, 0] ∧ win2_6.index t = ![t.val, 0]
    ∧ win2_7.index t = ![t.val, 0] :=
  (by decide +kernel : ∀ t : Fin grid2.N, win2_0.index t = ![t.val, 0] ∧ win2_1.index t = ![t.val, 0] ∧ win2_2.index t = ![t.val, 0]
    ∧ win2_3.index t = ![t.val, 0] ∧ win2_4.index t = ![0, 0] ∧ win2_5.index t = ![0, 0] ∧ win2_6.index t = ![t.val, 0]
    ∧ win2_7.index t = ![t.val, 0])

/-- The row of the arrays that row `r` of block `t` is. -/
def row2 (t : Fin cfg2.N) (r : Fin 512) : Fin 2048 :=
  ⟨t.val * 512 + r.val, Fin.mul_add_lt_of_eq_mul (S := cfg2.N) (by decide +kernel) t r⟩

theorem blk2_0 (c : Dev nD) (t : Fin cfg2.N) (r : Fin 512) (k : Fin 1024) :
    (iblk2 V c 0 t : Vec Ideal S512x1024 .f32) (ix2 r k) = V c main_v3_0 (ix2 (row2 t r) k) := by
  have e := idx2 t
  unfold row2
  blk_ext [iblk2, e.1]

theorem blk2_1 (c : Dev nD) (t : Fin cfg2.N) (r : Fin 512) (k : Fin 1024) :
    (iblk2 V c 1 t : Vec Ideal S512x1024 .f32) (ix2 r k) = V c main_v2 (ix2 (row2 t r) k) := by
  have e := idx2 t
  unfold row2
  blk_ext [iblk2, e.2.1]

theorem blk2_2 (c : Dev nD) (t : Fin cfg2.N) (r : Fin 512) (k : Fin 1024) :
    (iblk2 V c 2 t : Vec Ideal S512x1024 .f32) (ix2 r k) = V c main_arg5 (ix2 (row2 t r) k) := by
  have e := idx2 t
  unfold row2
  blk_ext [iblk2, e.2.2.1]

theorem blk2_3 (c : Dev nD) (t : Fin cfg2.N) (r : Fin 512) (k : Fin 1024) :
    (iblk2 V c 3 t : Vec Ideal S512x1024 .f32) (ix2 r k) = V c main_arg6 (ix2 (row2 t r) k) := by
  have e := idx2 t
  unfold row2
  blk_ext [iblk2, e.2.2.2.1]

theorem blk2_4 (c : Dev nD) (t : Fin cfg2.N) (k : Fin 1024) :
    (iblk2 V c 4 t : Vec Ideal S1x1024 .f32) (ix2 0 k) = V c main_arg3 (ix2 0 k) := by
  have e := idx2 t
  blk_ext [iblk2, e.2.2.2.2.1]

theorem blk2_5 (c : Dev nD) (t : Fin cfg2.N) (k : Fin 1024) :
    (iblk2 V c 5 t : Vec Ideal S1x1024 .f32) (ix2 0 k) = V c main_arg4 (ix2 0 k) := by
  have e := idx2 t
  blk_ext [iblk2, e.2.2.2.2.2.1]

/-- The gradient of the stream. -/
def dnextArr (x r d : FVec Ideal S2048x1024 .f32) (g : FVec Ideal S1x1024 .f32) : FVec Ideal S2048x1024 .f32 := fun y =>
  r (ix2 (y 0) (y 1)) + back (fun k => x (ix2 (y 0) k)) (fun k => d (ix2 (y 0) k) * g (ix2 0 k)) (y 1)

/-- The gradient of the output product, from the gradient of the stream. -/
def dmixArr (m d : FVec Ideal S2048x1024 .f32) (g : FVec Ideal S1x1024 .f32) : FVec Ideal S2048x1024 .bf16 := fun y =>
  back (fun k => m (ix2 (y 0) k)) (fun k => d (ix2 (y 0) k) * g (ix2 0 k)) (y 1)

/-- What one row gives to the gradient of a norm's gains. -/
def dgTerm (x d : FVec Ideal S2048x1024 .f32) (j : Fin 1024) (t : Fin 2048) : EReal :=
  (d (ix2 t j) * x (ix2 t j)) * rstd fun k => x (ix2 t k)

/-- The gradient of a norm's gains. -/
def dgArr (x d : FVec Ideal S2048x1024 .f32) : FVec Ideal S1x1024 .f32 := fun y => ∑ t : Fin 2048, dgTerm x d (y 1) t

/-- The gradient of the stream that the call leaves on device `c`. -/
def dnextOf (c : Dev nD) : FVec Ideal S2048x1024 .f32 := dnextArr (V c main_v3_0) (V c main_arg5) (V c main_arg6) (V c main_arg4)

theorem dnext_blk (c : Dev nD) (t : Fin cfg2.N) (y : S512x1024.Idx) :
    k2_pay4 (F := Ideal) (iblk2 V c 0 t) (iblk2 V c 3 t) (iblk2 V c 2 t) (iblk2 V c 5 t) y
      = dnextOf V c (ix2 (row2 t (y 0)) (y 1)) := by
  refine (k2_dnext _ _ _ _ y).trans ?_
  exact congrArg₂ (· + ·) ((congrArg _ (eq_ix2 y)).trans (blk2_2 V c t (y 0) (y 1)))
    (congrArg₂ (fun a b => back a b (y 1)) (funext fun k => blk2_0 V c t (y 0) k)
      (funext fun k => congrArg₂ (· * ·) (blk2_3 V c t (y 0) k) (blk2_5 V c t k)))

theorem dmix_blk (c : Dev nD) (t : Fin cfg2.N) (y : S512x1024.Idx) :
    k2_pay8 (F := Ideal) (k2_pay2 (F := Ideal) (iblk2 V c 1 t))
        (k2_pay4 (F := Ideal) (iblk2 V c 0 t) (iblk2 V c 3 t) (iblk2 V c 2 t) (iblk2 V c 5 t)) (k2_pay5 (F := Ideal) (iblk2 V c 1 t))
        (k2_pay6 (F := Ideal)) (iblk2 V c 4 t) y
      = dmixArr (V c main_v2) (dnextOf V c) (V c main_arg3) (ix2 (row2 t (y 0)) (y 1)) := by
  refine (k2_dmix _ _ _ y).trans ?_
  exact congrArg₂ (fun a b => back a b (y 1)) (funext fun k => blk2_1 V c t (y 0) k)
    (funext fun k => congrArg₂ (fun a b : EReal => a * b) (dnext_blk V c t (ix2 (y 0) k)) (blk2_4 V c t k))

/-- What one block adds to the second norm's gains' gradient. -/
theorem dg3_blk (c : Dev nD) (t : Fin cfg2.N) (a : FVec Ideal S1x1024 .f32) (y : S1x1024.Idx) :
    k2_pay11 (F := Ideal) (k2_pay1 (F := Ideal) (iblk2 V c 0 t)) (iblk2 V c 3 t) (k2_pay3 (F := Ideal) (iblk2 V c 0 t)) a y
      = a y + ∑ r : Fin 512, dgTerm (V c main_v3_0) (V c main_arg6) (y 1) (row2 t r) := by
  refine (k2_dg3 _ _ _ y).trans ?_
  exact congrArg (a y + ·) (Finset.sum_congr rfl fun r _ => congrArg₂ (fun a b : EReal => a * b)
    (congrArg₂ (fun a b : EReal => a * b) (blk2_3 V c t r (y 1)) (blk2_0 V c t r (y 1))) (congrArg rstd (funext fun k => blk2_0 V c t r k)))

/-- What one block adds to the first norm's gains' gradient. -/
theorem dg2_blk (c : Dev nD) (t : Fin cfg2.N) (a : FVec Ideal S1x1024 .f32) (y : S1x1024.Idx) :
    k2_pay12 (F := Ideal) (k2_pay2 (F := Ideal) (iblk2 V c 1 t))
        (k2_pay4 (F := Ideal) (iblk2 V c 0 t) (iblk2 V c 3 t) (iblk2 V c 2 t) (iblk2 V c 5 t)) (k2_pay5 (F := Ideal) (iblk2 V c 1 t))
        (k2_pay6 (F := Ideal)) a y
      = a y + ∑ r : Fin 512, dgTerm (V c main_v2) (dnextOf V c) (y 1) (row2 t r) := by
  refine (k2_dg2 _ _ _ y).trans ?_
  exact congrArg (a y + ·) (Finset.sum_congr rfl fun r _ => congrArg₂ (fun a b : EReal => a * b)
    (congrArg₂ (fun a b : EReal => a * b) (dnext_blk V c t (ix2 r (y 1))) (blk2_1 V c t r (y 1)))
    (congrArg rstd (funext fun k => blk2_1 V c t r k)))

theorem arr2_6 (c : Dev nD) : (dat2 V c).arrAt 6 cfg2.N = dnextOf V c := by
  refine (dat2 V c).arrAt_eq_of_covers 6 _ (by decide +kernel) fun t hf y => ?_
  blk_simp
  rw [after2_6]
  have e := idx2 t
  by_cases h : t.val % 4 = 0
  · rw [outsAt2_A V c t h]
    frame_out
    refine (dnext_blk V c t y).trans ?_
    blk_ext [row2, e.2.2.2.2.2.2.1]
  · rw [outsAt2_B V c t h]
    frame_out
    refine (dnext_blk V c t y).trans ?_
    blk_ext [row2, e.2.2.2.2.2.2.1]

theorem arr2_7 (c : Dev nD) : (dat2 V c).arrAt 7 cfg2.N = dmixArr (V c main_v2) (dnextOf V c) (V c main_arg3) := by
  refine (dat2 V c).arrAt_eq_of_covers 7 _ (by decide +kernel) fun t hf y => ?_
  blk_simp
  rw [after2_7]
  have e := idx2 t
  by_cases h : t.val % 4 = 0
  · rw [outsAt2_A V c t h]
    frame_out
    refine (dmix_blk V c t y).trans ?_
    blk_ext [row2, e.2.2.2.2.2.2.2]
  · rw [outsAt2_B V c t h]
    frame_out
    refine (dmix_blk V c t y).trans ?_
    blk_ext [row2, e.2.2.2.2.2.2.2]

theorem arr2_8 (c : Dev nD) : (dat2 V c).arrAt 8 cfg2.N = dgArr (V c main_v2) (dnextOf V c) := by
  refine (dat2 V c).arrAt_eq_of_after_last 8 t2_3 (by decide +kernel) _ fun j => ?_
  blk_simp
  rw [after2_8, Pipeline.eq_sum_fin_of_reset_step_apply_last (fun n h => (outsAt2 V c n h).2.2.1) 4 (fun _ => 0) _
    (fun t h j => by rw [outsAt2_A V c t h]; frame_out; rw [dg2_blk, k2_zero2])
    (fun t h j => by rw [outsAt2_B V c t h]; frame_out; rw [dg2_blk]) (le_of_eq N_2) t2_3 rfl j, zero_add]
  refine Fin.sum_mul_add_congr (f := dgTerm (V c main_v2) (dnextOf V c) (j 1)) (fun s k hl => ?_) (by decide +kernel : 2048 = cfg2.N * 512)
  rfl

theorem arr2_9 (c : Dev nD) : (dat2 V c).arrAt 9 cfg2.N = dgArr (V c main_v3_0) (V c main_arg6) := by
  refine (dat2 V c).arrAt_eq_of_after_last 9 t2_3 (by decide +kernel) _ fun j => ?_
  blk_simp
  rw [after2_9, Pipeline.eq_sum_fin_of_reset_step_apply_last (fun n h => (outsAt2 V c n h).2.2.2) 4 (fun _ => 0) _
    (fun t h j => by rw [outsAt2_A V c t h]; frame_out; rw [dg3_blk, k2_zero3])
    (fun t h j => by rw [outsAt2_B V c t h]; frame_out; rw [dg3_blk]) (le_of_eq N_2) t2_3 rfl j, zero_add]
  refine Fin.sum_mul_add_congr (f := dgTerm (V c main_v3_0) (V c main_arg6) (j 1)) (fun s k hl => ?_) (by decide +kernel : 2048 = cfg2.N * 512)
  rfl

/-! ## The gradient of the mixer's outputs -/

theorem idx3 : ∀ t : Fin cfg3.N, win3_0.index t = ![0, 0] ∧ win3_1.index t = ![t.val, 0] ∧ win3_2.index t = ![0, t.val] :=
  (by decide +kernel : ∀ t : Fin grid3.N, win3_0.index t = ![0, 0] ∧ win3_1.index t = ![t.val, 0] ∧ win3_2.index t = ![0, t.val])

/-- The gradient of the mixer's outputs. -/
def dcatArr (d : FVec Ideal S2048x1024 .bf16) (w : FVec Ideal S1024x1024 .bf16) : FVec Ideal S2048x1024 .f32 :=
  fun y => ∑ k : Fin 1024, d (ix2 (y 0) k) * w (ix2 (y 1) k)

theorem arr3 (c : Dev nD) : (dat3 V c).arrAt 2 cfg3.N = dcatArr (V c main_v4_1) (V c main_v1) := by
  refine (dat3 V c).arrAt_eq_of_covers 2 _ (by decide +kernel) fun t hf y => ?_
  blk_simp
  rw [after3_2]
  frame_out
  refine (k3_apply _ _ y).trans ?_
  unfold dcatArr
  refine Finset.sum_congr rfl fun k _ => ?_
  have e := idx3 t
  congr 1 <;> blk_ext [iblk3, e.1, e.2.1, e.2.2]

/-! ## The gradient of the output weight -/

theorem idx4 : ∀ t : Fin cfg4.N, win4_0.index t = ![0, t.val] ∧ win4_1.index t = ![0, 0] ∧ win4_2.index t = ![t.val, 0] :=
  (by decide +kernel : ∀ t : Fin grid4.N, win4_0.index t = ![0, t.val] ∧ win4_1.index t = ![0, 0] ∧ win4_2.index t = ![t.val, 0])

/-- The gradient of the output weight. -/
def dwoArr (a d : FVec Ideal S2048x1024 .bf16) : FVec Ideal S1024x1024 .f32 :=
  fun y => ∑ k : Fin 2048, a (ix2 k (y 0)) * d (ix2 k (y 1))

theorem arr4 (c : Dev nD) : (dat4 V c).arrAt 2 cfg4.N = dwoArr (V c main_v0) (V c main_v4_1) := by
  refine (dat4 V c).arrAt_eq_of_covers 2 _ (by decide +kernel) fun t hf y => ?_
  blk_simp
  rw [after4_2]
  frame_out
  refine (k4_apply _ _ y).trans ?_
  unfold dwoArr
  refine Finset.sum_congr rfl fun k _ => ?_
  have e := idx4 t
  congr 1 <;> blk_ext [iblk4, e.1, e.2.1, e.2.2]

end Cert.Kernel2Ideal.MidArrays

end
-- ==== Proof.Mid.lean ====
/- The mixer's output product, its norm into the residual stream and the norm of the stream, with their gradients, on
   extended reals: one function of the arguments' entries for each array. -/
module

public import proofs.«01_k».proof.Proof.Norm

@[expose] public section

set_option maxRecDepth 16384

noncomputable section

namespace Cert.Mid

open Idealize.ShloMosaic Cert.GateGrad Cert.Norm
open scoped BigOperators

/-- The entries of the arguments: the mixer's concatenated outputs, the output weight, the residual stream, the gains of the
    two norms, the gradient that comes down the residual stream, the gradient of the second norm's result. -/
structure Args where
  Cat : Fin 2048 → Fin 1024 → EReal
  Wo : Fin 1024 → Fin 1024 → EReal
  X : Fin 2048 → Fin 1024 → EReal
  G2 : Fin 1024 → EReal
  G3 : Fin 1024 → EReal
  Dy : Fin 2048 → Fin 1024 → EReal
  Dh : Fin 2048 → Fin 1024 → EReal

variable (A : Args)

/-- The output product. -/
def mix (t : Fin 2048) (j : Fin 1024) : EReal := ∑ k, A.Cat t k * A.Wo k j

/-- The residual stream and the normed product. -/
def next (t : Fin 2048) (j : Fin 1024) : EReal := A.X t j + normed (mix A t) A.G2 j

/-- The norm of the stream. -/
def out (t : Fin 2048) (j : Fin 1024) : EReal := normed (next A t) A.G3 j

/-- The gradient of the stream. -/
def dNext (t : Fin 2048) (j : Fin 1024) : EReal := A.Dy t j + back (next A t) (fun k => A.Dh t k * A.G3 k) j

/-- The gradient of the output product. -/
def dMix (t : Fin 2048) (j : Fin 1024) : EReal := back (mix A t) (fun k => dNext A t k * A.G2 k) j

/-- The gradient of the mixer's outputs. -/
def dCat (t : Fin 2048) (k : Fin 1024) : EReal := ∑ j, dMix A t j * A.Wo k j

/-- The gradient of the output weight. -/
def dWo (k j : Fin 1024) : EReal := ∑ t, A.Cat t k * dMix A t j

/-- The gradient of the first norm's gains. -/
def dG2 (j : Fin 1024) : EReal := ∑ t, (dNext A t j * mix A t j) * rstd (mix A t)

/-- The gradient of the second norm's gains. -/
def dG3 (j : Fin 1024) : EReal := ∑ t, (A.Dh t j * next A t j) * rstd (next A t)

/-- The arguments' entries are real numbers. -/
structure AllReal : Prop where
  cat : ∀ t k, IsReal (A.Cat t k)
  wo : ∀ k j, IsReal (A.Wo k j)
  x : ∀ t k, IsReal (A.X t k)
  g2 : ∀ k, IsReal (A.G2 k)
  g3 : ∀ k, IsReal (A.G3 k)
  dy : ∀ t k, IsReal (A.Dy t k)
  dh : ∀ t k, IsReal (A.Dh t k)

variable {A} (hA : AllReal A)
include hA

theorem AllReal.mix (t : Fin 2048) (j : Fin 1024) : IsReal (Mid.mix A t j) := IsReal.sum fun k => (hA.cat t k).mul (hA.wo k j)

theorem AllReal.next (t : Fin 2048) (j : Fin 1024) : IsReal (Mid.next A t j) := (hA.x t j).add (isReal_normed (hA.mix t) hA.g2 j)

theorem AllReal.dNext (t : Fin 2048) (j : Fin 1024) : IsReal (Mid.dNext A t j) :=
  (hA.dy t j).add (isReal_back (hA.next t) (fun k => (hA.dh t k).mul (hA.g3 k)) j)

end Cert.Mid

end
-- ==== Proof.MidChain.lean ====
/- The results of the mixed norm's program from its arguments: each call's arrays are those of the model at the arguments'
   entries, call after call. -/
module

public import proofs.«01_k».proof.Proof.MidArrays
public import proofs.«01_k».proof.Proof.Mid
public import Idealize.ShloMosaic.Lib.StableHlo.ReadAt

@[expose] public section

set_option maxRecDepth 16384

noncomputable section

namespace Cert.Kernel2Ideal.MidChain

open Cert.Kernel2Ideal Cert.Kernel2Ideal.Gen Cert.Kernel2Ideal.MidArrays Cert.Norm
open Idealize.ShloMosaic Idealize.ShloMosaic.TcCoe Idealize.SL.Sem
open scoped BigOperators

variable (m : (ℓ : Loc nD τ sig) → Buf (Elt Ideal) ℓ) (ρ : Dev nD → PrngReg) (c : Dev nD)

/-- The entries of the program's arguments on device `c`. -/
def args : Mid.Args where
  Cat t k := m ((c : Thread nD τ).loc main_arg0) (ix2 t k)
  Wo k j := m ((c : Thread nD τ).loc main_arg1) (ix2 k j)
  X t k := m ((c : Thread nD τ).loc main_arg2) (ix2 t k)
  G2 k := m ((c : Thread nD τ).loc main_arg3) (ix2 0 k)
  G3 k := m ((c : Thread nD τ).loc main_arg4) (ix2 0 k)
  Dy t k := m ((c : Thread nD τ).loc main_arg5) (ix2 t k)
  Dh t k := m ((c : Thread nD τ).loc main_arg6) (ix2 t k)

/-- A sum of products, factor by factor. -/
theorem sum_mul_eq {N : Nat} {f g f' g' : Fin N → EReal} (h : ∀ k, f k = f' k) (h' : ∀ k, g k = g' k) :
    (∑ k, f k * g k) = ∑ k, f' k * g' k := Finset.sum_congr rfl fun k _ => congrArg₂ (· * ·) (h k) (h' k)

/-! ## What the host lines leave -/

/-- The mixer's outputs. -/
theorem in_cat (t : Fin 2048) (k : Fin 1024) : V1 m ρ c main_v0 (ix2 t k) = (args m c).Cat t k := by
  show StableHlo.after hostOps0 (W0 m ρ c) (Proc.devRef .tc main_v0) (ix2 t k) = _
  unfold hostOps0
  after_reads_at
  rfl

/-- The output weight. -/
theorem in_w (k j : Fin 1024) : V1 m ρ c main_v1 (ix2 k j) = (args m c).Wo k j := by
  show StableHlo.after hostOps0 (W0 m ρ c) (Proc.devRef .tc main_v1) (ix2 k j) = _
  unfold hostOps0
  after_reads_at
  rfl

/-! ## The output product and the two norms -/

theorem mix_eq (t : Fin 2048) (j : Fin 1024) : V2 m ρ c main_v2 (ix2 t j) = Mid.mix (args m c) t j := by
  refine (congrFun ((W2_arr m ρ c 2).trans (arr0 (V1 m ρ) c)) (ix2 t j)).trans ?_
  exact sum_mul_eq (fun k => in_cat m ρ c t k) fun k => in_w m ρ c k j

/-- The stream that the norms' call leaves. -/
theorem nextArr_eq (t : Fin 2048) (j : Fin 1024) :
    nextArr (V2 m ρ c main_arg2) (V2 m ρ c main_v2) (V2 m ρ c main_arg3) (ix2 t j) = Mid.next (args m c) t j :=
  congrArg₂ (fun a b : EReal => a + b) (congrFun (W2_args m ρ c main_arg2 (by decide)) _)
    (congrArg₂ (fun a b => normed a b j) (funext fun k => mix_eq m ρ c t k)
      (funext fun k => congrFun (W2_args m ρ c main_arg3 (by decide)) (ix2 0 k)))

theorem next_mid (t : Fin 2048) (j : Fin 1024) : V3 m ρ c main_v3_0 (ix2 t j) = Mid.next (args m c) t j :=
  (congrFun ((W3_arr m ρ c 4).trans (arr1_4 (V2 m ρ) c)) (ix2 t j)).trans (nextArr_eq m ρ c t j)

theorem next_eq (t : Fin 2048) (j : Fin 1024) : V6 m ρ c main_v3_0 (ix2 t j) = Mid.next (args m c) t j := by
  have e : V6 m ρ c main_v3_0 = V3 m ρ c main_v3_0 :=
    (W6_of m ρ c main_v3_0 (by decide)).trans ((W5_of m ρ c main_v3_0 (by decide)).trans (W4_of m ρ c main_v3_0 (by decide)))
  exact (congrFun e _).trans (next_mid m ρ c t j)

theorem out_eq (t : Fin 2048) (j : Fin 1024) : V6 m ρ c main_v3_1 (ix2 t j) = Mid.out (args m c) t j := by
  have e : V6 m ρ c main_v3_1 = V3 m ρ c main_v3_1 :=
    (W6_of m ρ c main_v3_1 (by decide)).trans ((W5_of m ρ c main_v3_1 (by decide)).trans (W4_of m ρ c main_v3_1 (by decide)))
  refine (congrFun (e.trans ((W3_arr m ρ c 5).trans (arr1_5 (V2 m ρ) c))) (ix2 t j)).trans ?_
  exact congrArg₂ (fun a b => normed a b j) (funext fun k => nextArr_eq m ρ c t k)
    (funext fun k => congrFun (W2_args m ρ c main_arg4 (by decide)) (ix2 0 k))

/-! ## The norms' gradients -/

theorem mix_keep (t : Fin 2048) (j : Fin 1024) : V3 m ρ c main_v2 (ix2 t j) = Mid.mix (args m c) t j :=
  (congrFun (W3_of m ρ c main_v2 (by decide)) _).trans (mix_eq m ρ c t j)

theorem dh_keep (t : Fin 2048) (j : Fin 1024) : V3 m ρ c main_arg6 (ix2 t j) = (args m c).Dh t j :=
  congrFun (W3_args m ρ c main_arg6 (by decide)) _

theorem dNextOf_eq (t : Fin 2048) (j : Fin 1024) : dnextOf (V3 m ρ) c (ix2 t j) = Mid.dNext (args m c) t j :=
  congrArg₂ (fun a b : EReal => a + b) (congrFun (W3_args m ρ c main_arg5 (by decide)) _)
    (congrArg₂ (fun a b => back a b j) (funext fun k => next_mid m ρ c t k)
      (funext fun k => congrArg₂ (fun a b : EReal => a * b) (dh_keep m ρ c t k) (congrFun (W3_args m ρ c main_arg4 (by decide)) (ix2 0 k))))

theorem dNext_eq (t : Fin 2048) (j : Fin 1024) : V6 m ρ c main_v4_0 (ix2 t j) = Mid.dNext (args m c) t j := by
  have e : V6 m ρ c main_v4_0 = V4 m ρ c main_v4_0 := (W6_of m ρ c main_v4_0 (by decide)).trans (W5_of m ρ c main_v4_0 (by decide))
  exact (congrFun (e.trans ((W4_arr m ρ c 6).trans (arr2_6 (V3 m ρ) c))) (ix2 t j)).trans (dNextOf_eq m ρ c t j)

theorem dMix_eq (t : Fin 2048) (j : Fin 1024) : V4 m ρ c main_v4_1 (ix2 t j) = Mid.dMix (args m c) t j := by
  refine (congrFun ((W4_arr m ρ c 7).trans (arr2_7 (V3 m ρ) c)) (ix2 t j)).trans ?_
  exact congrArg₂ (fun a b => back a b j) (funext fun k => mix_keep m ρ c t k)
    (funext fun k => congrArg₂ (fun a b : EReal => a * b) (dNextOf_eq m ρ c t k) (congrFun (W3_args m ρ c main_arg3 (by decide)) (ix2 0 k)))

theorem dG2_eq (j : Fin 1024) : V6 m ρ c main_v4_2 (ix2 0 j) = Mid.dG2 (args m c) j := by
  have e : V6 m ρ c main_v4_2 = V4 m ρ c main_v4_2 := (W6_of m ρ c main_v4_2 (by decide)).trans (W5_of m ρ c main_v4_2 (by decide))
  refine (congrFun (e.trans ((W4_arr m ρ c 8).trans (arr2_8 (V3 m ρ) c))) (ix2 0 j)).trans ?_
  exact sum_mul_eq (fun t => congrArg₂ (fun a b : EReal => a * b) (dNextOf_eq m ρ c t j) (mix_keep m ρ c t j))
    fun t => congrArg rstd (funext fun k => mix_keep m ρ c t k)

theorem dG3_eq (j : Fin 1024) : V6 m ρ c main_v4_3 (ix2 0 j) = Mid.dG3 (args m c) j := by
  have e : V6 m ρ c main_v4_3 = V4 m ρ c main_v4_3 := (W6_of m ρ c main_v4_3 (by decide)).trans (W5_of m ρ c main_v4_3 (by decide))
  refine (congrFun (e.trans ((W4_arr m ρ c 9).trans (arr2_9 (V3 m ρ) c))) (ix2 0 j)).trans ?_
  exact sum_mul_eq (fun t => congrArg₂ (fun a b : EReal => a * b) (dh_keep m ρ c t j) (next_mid m ρ c t j))
    fun t => congrArg rstd (funext fun k => next_mid m ρ c t k)

/-! ## The product's gradients -/

theorem dCat_eq (t : Fin 2048) (k : Fin 1024) : V6 m ρ c main_v5 (ix2 t k) = Mid.dCat (args m c) t k := by
  have e : V6 m ρ c main_v5 = V5 m ρ c main_v5 := W6_of m ρ c main_v5 (by decide)
  refine (congrFun (e.trans ((W5_arr m ρ c 2).trans (arr3 (V4 m ρ) c))) (ix2 t k)).trans ?_
  refine sum_mul_eq (fun j => dMix_eq m ρ c t j) fun j => ?_
  exact (congrFun ((W4_of m ρ c main_v1 (by decide)).trans ((W3_of m ρ c main_v1 (by decide)).trans (W2_of m ρ c main_v1 (by decide)))) _).trans
    (in_w m ρ c k j)

theorem dWo_eq (k j : Fin 1024) : V6 m ρ c main_v6 (ix2 k j) = Mid.dWo (args m c) k j := by
  refine (congrFun ((W6_arr m ρ c 2).trans (arr4 (V5 m ρ) c)) (ix2 k j)).trans ?_
  refine sum_mul_eq (fun t => ?_) fun t => (congrFun (W5_of m ρ c main_v4_1 (by decide)) _).trans (dMix_eq m ρ c t j)
  exact (congrFun ((W5_of m ρ c main_v0 (by decide)).trans ((W4_of m ρ c main_v0 (by decide)).trans
    ((W3_of m ρ c main_v0 (by decide)).trans (W2_of m ρ c main_v0 (by decide))))) _).trans (in_cat m ρ c t k)

end Cert.Kernel2Ideal.MidChain

end
-- ==== Proof.FiniteMid.lean ====
/- What the precondition of the mixed norm's program says: every entry of its arguments is a real number. -/
module

public import proofs.«01_k».proof.Proof.Finite
public import proofs.«01_k».proof.Proof.MidChain

@[expose] public section

set_option maxRecDepth 16384

noncomputable section

namespace Cert.FiniteMid

open Cert.GateGrad Cert.Pre_finite_arguments2
open Idealize.ShloMosaic Idealize.ShloMosaic.TcCoe Idealize.SL.Sem

/-- The shape relations of the precondition's operations. -/
theorem facts : Cert.Pre_finite_arguments2.Facts where
  bcast_S_S2048x1024 := by decide
  reducesTo_S2048x1024_S_d0_1 := by decide
  h_S_ := by decide
  bcast_S_S1024x1024 := by decide
  reducesTo_S1024x1024_S_d0_1 := by decide
  bcast_S_S1x1024 := by decide
  reducesTo_S1x1024_S_d0_1 := by decide

/-- The precondition's function being one makes every entry of its arguments real. -/
theorem all_real [Cert.Pre_finite_arguments2.Facts] (x0 : FVec Ideal S2048x1024 .f32) (x1 : FVec Ideal S1024x1024 .f32)
    (x2 : FVec Ideal S2048x1024 .f32) (x3 x4 : FVec Ideal S1x1024 .f32) (x5 x6 : FVec Ideal S2048x1024 .f32)
    (h : Cert.Pre_finite_arguments2.fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ ∀ i, IsReal (x6 i) := by
  have h0 := congrFun h (Shape.Idx.first Facts.h_S_)
  unfold Cert.Pre_finite_arguments2.fn Cert.Pre_finite_arguments2.fn_part1 at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨Cert.Finite.isReal_of_all x0 _ _ _ _ h0, Cert.Finite.isReal_of_all x1 _ _ _ _ h1, Cert.Finite.isReal_of_all x2 _ _ _ _ h2,
    Cert.Finite.isReal_of_all x3 _ _ _ _ h3, Cert.Finite.isReal_of_all x4 _ _ _ _ h4, Cert.Finite.isReal_of_all x5 _ _ _ _ h5,
    Cert.Finite.isReal_of_all x6 _ _ _ _ h6⟩

/-- The precondition makes the arguments' entries real. -/
theorem real (m : (ℓ : Loc Cert.Kernel2Ideal.nD Cert.Kernel2Ideal.τ Cert.Kernel2Ideal.sig) → Buf (Elt Ideal) ℓ)
    (h : Cert.Pre_Kernel2Ideal_finite_arguments2 (hPre_finite_arguments2 := facts) m) (c : Dev Cert.Kernel2Ideal.nD) :
    Mid.AllReal (Cert.Kernel2Ideal.MidChain.args m c) := by
  obtain ⟨h0, h1, h2, h3, h4, h5, h6⟩ := @all_real facts _ _ _ _ _ _ _ (h c)
  exact ⟨fun _ _ => h0 _, fun _ _ => h1 _, fun _ _ => h2 _, fun _ => h3 _, fun _ => h4 _, fun _ _ => h5 _, fun _ _ => h6 _⟩

end Cert.FiniteMid

end
-- ==== Proof.MidRun.lean ====
/- The run of the mixed norm's program: every argument is as it was, every counter is zero, and each result is what the last call left of it. -/
module

public import proofs.«01_k».proof.Proof.Gen.Kernel2Ideal.Frame
public import Idealize.ShloMosaic.Lib.Pipeline.ValueKit

@[expose] public section

set_option maxRecDepth 16384

noncomputable section

namespace Cert.Kernel2Ideal.MidRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The run of the program from any memory. -/
theorem run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v3_0) = V6 m ρ c main_v3_0
      ∧ r.2.mem ((c.tc : Thread nD τ).loc main_v3_1) = V6 m ρ c main_v3_1
      ∧ r.2.mem ((c.tc : Thread nD τ).loc main_v4_0) = V6 m ρ c main_v4_0
      ∧ r.2.mem ((c.tc : Thread nD τ).loc main_v5) = V6 m ρ c main_v5
      ∧ r.2.mem ((c.tc : Thread nD τ).loc main_v6) = V6 m ρ c main_v6
      ∧ r.2.mem ((c.tc : Thread nD τ).loc main_v4_2) = V6 m ρ c main_v4_2
      ∧ r.2.mem ((c.tc : Thread nD τ).loc main_v4_3) = V6 m ρ c main_v4_3)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       h c _ (mem_uc main_v3_0 (by decide)),
       h c _ (mem_uc main_v3_1 (by decide)),
       h c _ (mem_uc main_v4_0 (by decide)),
       h c _ (mem_uc main_v5 (by decide)),
       h c _ (mem_uc main_v6 (by decide)),
       h c _ (mem_uc main_v4_2 (by decide)),
       h c _ (mem_uc main_v4_3 (by decide))⟩), funext fun g => hz g (.inr (no_unscoped g.2))⟩)

end Cert.Kernel2Ideal.MidRun

end
-- ==== Proof.LossHead.lean ====
/- The loss head on all rows, as functions of the entries of its arguments: the difference from the target, the gradient of
   the output, of the layer's output and of the gains, and the loss. -/
module

public import proofs.«01_k».proof.Proof.Norm
public import Idealize.ShloMosaic.Lib.Pipeline.ValueKit

@[expose] public section

set_option maxRecDepth 16384

noncomputable section

namespace Cert.LossHead

open Idealize.ShloMosaic Cert.GateGrad Cert.Norm
open scoped BigOperators

/-- The entries of the arguments: the residual stream, the layer's output, the gains, the target. -/
structure Args where
  X : Fin 2048 → Fin 1024 → EReal
  F : Fin 2048 → Fin 1024 → EReal
  G : Fin 1024 → EReal
  T : Fin 2048 → Fin 1024 → EReal

/-- One over the width, as the kernel writes it. -/
def perWidth : EReal := Ideal.ofBits .f32 0x3A800000#32

theorem perWidth_eq : perWidth = ((1 / 1024 : ℝ) : EReal) := by
  unfold perWidth
  simp [Ideal.ofBits, Ideal.ieee, -EReal.coe_mul]; norm_num

variable (A : Args)

/-- The output less the target. -/
def diff (t : Fin 2048) (j : Fin 1024) : EReal := (A.X t j + normed (A.F t) A.G j) - A.T t j

/-- The gradient of the output. -/
def dOut (t : Fin 2048) (j : Fin 1024) : EReal := diff A t j * perWidth

/-- The gradient of the layer's output. -/
def dF (t : Fin 2048) (j : Fin 1024) : EReal := back (A.F t) (fun k => dOut A t k * A.G k) j

/-- The gradient of the gains. -/
def dG (j : Fin 1024) : EReal := ∑ t, (dOut A t j * A.F t j) * rstd (A.F t)

/-- The sum of the squares of row `t`. -/
def sq (t : Fin 2048) : EReal := ∑ k, diff A t k * diff A t k

/-- The loss: half the sum over the rows of the mean square. -/
def loss : EReal := Ffn.half * ∑ t, Ideal.div (sq A t) width

/-- The arguments' entries are real numbers. -/
structure AllReal : Prop where
  x : ∀ t k, IsReal (A.X t k)
  f : ∀ t k, IsReal (A.F t k)
  g : ∀ k, IsReal (A.G k)
  t : ∀ t k, IsReal (A.T t k)

variable {A} (hA : AllReal A)
include hA

theorem AllReal.diff (t : Fin 2048) (j : Fin 1024) : IsReal (LossHead.diff A t j) :=
  IsReal.sub ((hA.x t j).add (isReal_normed (hA.f t) hA.g j)) (hA.t t j)

theorem AllReal.dOut (t : Fin 2048) (j : Fin 1024) : IsReal (LossHead.dOut A t j) := (hA.diff t j).mul ⟨_, perWidth_eq⟩

theorem AllReal.sq (t : Fin 2048) : IsReal (LossHead.sq A t) := IsReal.sum fun k => (hA.diff t k).mul (hA.diff t k)

/-- The loss summed block by block, each block's sum halved and divided, is the loss. -/
theorem loss_blocks {N : ℕ} (hN : 2048 = N * 512) :
    (∑ p : Fin N, Ffn.half * (∑ r : Fin 512, LossHead.sq A ⟨p.val * 512 + r.val, Fin.mul_add_lt_of_eq_mul hN p r⟩) * perWidth)
      = loss A := by
  obtain ⟨s, hs⟩ : ∃ s : Fin 2048 → ℝ, ∀ t, LossHead.sq A t = (s t : EReal) :=
    ⟨fun t => (hA.sq t).choose, fun t => (hA.sq t).choose_spec⟩
  unfold loss Ffn.half
  simp only [hs, width_eq, perWidth_eq, Consts.ofBits_half, Ideal.div_coe (by norm_num : (1024 : ℝ) ≠ 0), coe_sum, ← EReal.coe_mul]
  refine congrArg _ ?_
  rw [← Fin.sum_mul_add_fin N 512 (fun t => s t * (1 / 1024)) hN, Finset.mul_sum]
  refine Finset.sum_congr rfl fun p _ => ?_
  rw [← Finset.sum_mul]
  ring

end Cert.LossHead

end
-- ==== Proof.RefLoss.lean ====
/- The loss head's reference at an index: the norm of each row, the difference, the loss and the gradients, each as the
   loss head's function of the arguments' entries; the chains of the reference agree with the closed forms on real numbers. -/
module

public import proofs.«01_k».proof.Proof.Gen.Reference4Ideal.Read
public import proofs.«01_k».proof.Proof.LossHead
public import proofs.«01_k».proof.Proof.RefForward
public import Idealize.ShloMosaic.Lib.ValueIdx
public import Idealize.ShloMosaic.Lib.IdealHost

@[expose] public section

set_option maxRecDepth 16384

noncomputable section

namespace Cert.Reference4Ideal.Loss

open Cert.Reference4Ideal Cert.Reference4Ideal.Gen Cert.Reference4Ideal.Read Cert.Norm Cert.LossHead Cert.GateGrad
open Cert.ReferenceIdeal.Forward (ix2_of)
open Idealize.ShloMosaic Idealize.ShloMosaic.TcCoe Idealize.SL.Sem
open scoped BigOperators

variable (x0 x1 : (⟨S2048x1024, .f32⟩ : BufTy).Contents (Elt Ideal)) (x2 : (⟨S1x1024, .f32⟩ : BufTy).Contents (Elt Ideal))
  (x3 : (⟨S2048x1024, .f32⟩ : BufTy).Contents (Elt Ideal))

/-- The entries of the reference's arguments. -/
def args : LossHead.Args where
  X t k := x0 (ix2 t k)
  F t k := x1 (ix2 t k)
  G k := x2 (ix2 0 k)
  T t k := x3 (ix2 t k)

/-- A sum from zero. -/
theorem init_sum {a s s' : EReal} (h : a = Ideal.ofBits .f32 0x00000000#32) (e : s = s') : a + s = s' := by
  rw [h, Ideal.ofBits_zero, zero_add, e]

/-- Row `i` of the layer's output. -/
abbrev rowOf (t : Fin 2048) : Fin 1024 → EReal := fun k => x1 (ix2 t k)

theorem var_eq (i : S2048x1.Idx) : val_main_v7 (F := Ideal) x1 i = var (rowOf x1 (i 0)) := by
  rw [val_main_v7_apply, val_main_v5_apply, val_main_v3_apply, val_main_v2_apply, val_main_v4_apply, val_main_v6_apply,
    val_main_cst_0_apply, val_main_cst_1_apply]
  exact congrArg (fun s => Ideal.div s width + eps) (init_sum rfl (Finset.sum_congr rfl fun k _ =>
    congrArg₂ (· * ·) (congrArg x1 (ix2_of rfl rfl)) (congrArg x1 (ix2_of rfl rfl))))

theorem rstd_eq (i : S2048x1.Idx) : val_main_v8 (F := Ideal) x1 i = rstd (rowOf x1 (i 0)) := by
  rw [val_main_v8_apply, var_eq]
  rfl

theorem slope_eq (i : S2048x1.Idx) :
    val_main_v11 (F := Ideal) x1 i = mhalf * Ideal.div (rstd (rowOf x1 (i 0))) (var (rowOf x1 (i 0))) := by
  rw [val_main_v11_apply, val_main_v9_apply, rstd_eq, var_eq, val_main_v10_apply, val_main_cst_2_apply]
  rfl

theorem over_eq (t : Fin 2048) (j : Fin 1024) : val_main_v13 (F := Ideal) x1 (ix2 t j) = x1 (ix2 t j) * rstd (rowOf x1 t) := by
  rw [val_main_v13_apply, val_main_v12_apply, rstd_eq]
  rfl

theorem gain_eq (i : S1x1024.Idx) : val_main_v14 (F := Ideal) x2 i = x2 (ix2 0 (i 1)) := by
  rw [val_main_v14_apply, val_main_v0_apply]
  exact congrArg x2 (ix2_of rfl (Nat.mod_eq_of_lt (i 1).isLt))

theorem normed_eq (t : Fin 2048) (j : Fin 1024) :
    val_main_v16 (F := Ideal) x1 x2 (ix2 t j) = normed (rowOf x1 t) (fun k => x2 (ix2 0 k)) j := by
  rw [val_main_v16_apply, over_eq, val_main_v15_apply, gain_eq]
  rfl

theorem diff_eq (t : Fin 2048) (j : Fin 1024) : val_main_v18 (F := Ideal) x0 x1 x2 x3 (ix2 t j) = diff (args x0 x1 x2 x3) t j := by
  rw [val_main_v18_apply, val_main_v17_apply, normed_eq]
  rfl

/-- One row's mean square. -/
theorem mean_eq (t : Fin 2048) : val_main_v24 (F := Ideal) x0 x1 x2 x3 (ix1 t) = Ideal.div (sq (args x0 x1 x2 x3) t) width := by
  rw [val_main_v24_apply, val_main_v22_apply, val_main_v23_apply, val_main_cst_5_apply]
  refine congrArg (fun s => Ideal.div s width) (init_sum rfl (Finset.sum_congr rfl fun k _ => ?_))
  rw [show idx_main_v22 (ix1 t) k = ix2 t k from ix2_of rfl rfl, val_main_v19_apply, diff_eq]
  rfl

/-- The loss, in every entry. -/
theorem loss_eq (i : S8x128.Idx) : val_main_v53 (F := Ideal) x0 x1 x2 x3 i = loss (args x0 x1 x2 x3) := by
  rw [val_main_v53_apply, val_main_v26_apply, val_main_cst_7_apply, val_main_v25_apply]
  refine congrArg (fun s => Ffn.half * s) (init_sum rfl ?_)
  refine (Fintype.sum_equiv ⟨fun j => j 0, ix1, fun j => (eq_ix1 j).symm, fun t => rfl⟩ _ _ fun j => ?_)
  exact (congrArg (val_main_v24 (F := Ideal) x0 x1 x2 x3) (eq_ix1 j)).trans (mean_eq x0 x1 x2 x3 (j 0))

theorem scale_eq (i : S2048x1024.Idx) : val_main_v31 (F := Ideal) i = ((1 / 2048 : ℝ) : EReal) := by
  rw [val_main_v31_apply, val_main_v30_apply, val_main_v28_apply, val_main_v27_apply, val_main_v29_apply, val_main_cst_8_apply,
    val_main_cst_9_apply, val_main_cst_10_apply]
  show Ideal.div (Ideal.ofBits .f32 0x3F000000#32 * Ideal.ofBits .f32 0x3F800000#32) width = _
  rw [Consts.ofBits_half, show Ideal.ofBits .f32 0x3F800000#32 = ((1 : ℝ) : EReal) by simp [Ideal.ofBits, Ideal.ieee, -EReal.coe_mul]; norm_num,
    width_eq, Ideal.div_coe (by norm_num), ← EReal.coe_mul, ← EReal.coe_mul]
  norm_num

variable (hA : AllReal (args x0 x1 x2 x3))
include hA

/-- The gradient of the output. -/
theorem dOut_eq (t : Fin 2048) (j : Fin 1024) : val_main_v32 (F := Ideal) x0 x1 x2 x3 (ix2 t j) = dOut (args x0 x1 x2 x3) t j := by
  rw [val_main_v32_apply, val_main_v21_apply, scale_eq, val_main_v20_apply, val_main_cst_3_apply, diff_eq]
  obtain ⟨d, hd⟩ := hA.diff t j
  unfold dOut
  rw [hd, perWidth_eq]
  show _ * (Ideal.ofBits .f32 0x40000000#32 * _) = _
  rw [show Ideal.ofBits .f32 0x40000000#32 = ((2 : ℝ) : EReal) by simp [Ideal.ofBits, Ideal.ieee, -EReal.coe_mul]; norm_num]
  simp only [← EReal.coe_mul]
  exact congrArg _ (by ring)

/-- The gradient of the gains. -/
theorem dG_eq (j : Fin 1024) : val_main_v55 (F := Ideal) x0 x1 x2 x3 (ix2 0 j) = dG (args x0 x1 x2 x3) j := by
  rw [val_main_v55_apply, val_main_v38_apply]
  refine init_sum rfl (Fin.sum_univ_one _ |>.trans ?_)
  rw [val_main_v35_apply, val_main_v34_apply]
  refine init_sum rfl (Finset.sum_congr rfl fun t _ => ?_)
  refine (congrArg (val_main_v33 (F := Ideal) x0 x1 x2 x3) (ix2_of (p := t) (q := j) rfl
    (by show 0 * 1024 + (0 * 1024 + j.val) = j.val; omega))).trans ?_
  rw [val_main_v33_apply, over_eq, dOut_eq x0 x1 x2 x3 hA]
  show x1 (ix2 t j) * rstd (rowOf x1 t) * dOut (args x0 x1 x2 x3) t j = dOut (args x0 x1 x2 x3) t j * x1 (ix2 t j) * rstd (rowOf x1 t)
  rw [mul_comm, mul_assoc]

/-- The gradient of the norm's row times the gains. -/
theorem gy_eq (t : Fin 2048) (j : Fin 1024) :
    val_main_v37 (F := Ideal) x0 x1 x2 x3 (ix2 t j) = dOut (args x0 x1 x2 x3) t j * x2 (ix2 0 j) := by
  rw [val_main_v37_apply, dOut_eq x0 x1 x2 x3 hA, val_main_v36_apply, gain_eq]
  rfl

theorem tail_eq (t : Fin 2048) (j : Fin 1024) : val_main_v48 (F := Ideal) x0 x1 x2 x3 (ix2 t j)
    = tail (rowOf x1 t) (fun k => dOut (args x0 x1 x2 x3) t k * x2 (ix2 0 k)) := by
  rw [val_main_v48_apply, val_main_v47_apply]
  refine init_sum rfl (Fin.sum_univ_one _ |>.trans ?_)
  rw [val_main_v46_apply, val_main_v44_apply, slope_eq, val_main_v45_apply, val_main_cst_14_apply, val_main_v41_apply, val_main_v40_apply]
  refine congrArg (fun s => Ideal.div (s * _) width) (init_sum rfl (Finset.sum_congr rfl fun k _ => ?_))
  refine (congrArg (val_main_v39 (F := Ideal) x0 x1 x2 x3) (ix2_of (p := t) (q := k)
    (by show t.val * 1 + 0 = t.val; omega) rfl)).trans ?_
  rw [val_main_v39_apply, gy_eq x0 x1 x2 x3 hA]
  rfl

/-- The gradient of the layer's output. -/
theorem dF_eq (t : Fin 2048) (j : Fin 1024) : val_main_v54 (F := Ideal) x0 x1 x2 x3 (ix2 t j) = dF (args x0 x1 x2 x3) t j := by
  rw [val_main_v54_apply, val_main_v52_apply, val_main_v50_apply, val_main_v51_apply, val_main_v49_apply, val_main_v43_apply,
    tail_eq x0 x1 x2 x3 hA, gy_eq x0 x1 x2 x3 hA, val_main_v42_apply, rstd_eq]
  exact chain_eq (hA.f t) (fun k => (hA.dOut t k).mul (hA.g k)) j

end Cert.Reference4Ideal.Loss

end
-- ==== Proof.RefMid.lean ====
/- The reference of the mixed norm's program at an index: the output product, the two norms and the gradients, each as the
   function of the arguments' entries; the chains of the reference agree with the closed forms on real numbers. -/
module

public import proofs.«01_k».proof.Proof.Gen.Reference2Ideal.Read
public import proofs.«01_k».proof.Proof.Mid
public import proofs.«01_k».proof.Proof.RefForward
public import proofs.«01_k».proof.Proof.RefLoss
public import Idealize.ShloMosaic.Lib.ValueIdx
public import Idealize.ShloMosaic.Lib.IdealHost

@[expose] public section

set_option maxRecDepth 16384

noncomputable section

namespace Cert.Reference2Ideal.Mixed

open Cert.Reference2Ideal Cert.Reference2Ideal.Gen Cert.Reference2Ideal.Read Cert.Norm Cert.GateGrad
open Cert.Mid (mix next out dNext dMix dCat dWo dG2 dG3 AllReal)
open Cert.ReferenceIdeal.Forward (ix2_of)
open Cert.Reference4Ideal.Loss (init_sum)
open Idealize.ShloMosaic Idealize.ShloMosaic.TcCoe Idealize.SL.Sem
open scoped BigOperators

variable (x0 : (⟨S2048x1024, .f32⟩ : BufTy).Contents (Elt Ideal)) (x1 : (⟨S1024x1024, .f32⟩ : BufTy).Contents (Elt Ideal))
  (x2 : (⟨S2048x1024, .f32⟩ : BufTy).Contents (Elt Ideal)) (x3 x4 : (⟨S1x1024, .f32⟩ : BufTy).Contents (Elt Ideal))
  (x5 x6 : (⟨S2048x1024, .f32⟩ : BufTy).Contents (Elt Ideal))

/-- The entries of the reference's arguments. -/
def args : Mid.Args where
  Cat t k := x0 (ix2 t k)
  Wo k j := x1 (ix2 k j)
  X t k := x2 (ix2 t k)
  G2 k := x3 (ix2 0 k)
  G3 k := x4 (ix2 0 k)
  Dy t k := x5 (ix2 t k)
  Dh t k := x6 (ix2 t k)

/-! ## The output product and its norm -/

/-- The output product. -/
theorem mix_eq (t : Fin 2048) (j : Fin 1024) : val_main_v2 (F := Ideal) x0 x1 (ix2 t j) = mix (args x0 x1 x2 x3 x4 x5 x6) t j := by
  rw [val_main_v2_apply]
  exact Finset.sum_congr rfl fun k _ => congrArg₂ (fun a b : EReal => a * b) (congrArg x0 (ix2_of rfl rfl)) (congrArg x1 (ix2_of rfl rfl))

theorem var_eq (i : S2048x1.Idx) : val_main_v9 (F := Ideal) x0 x1 i = var (mix (args x0 x1 x2 x3 x4 x5 x6) (i 0)) := by
  rw [val_main_v9_apply, val_main_v7_apply, val_main_v5_apply, val_main_v4_apply, val_main_v6_apply, val_main_v8_apply,
    val_main_cst_0_apply, val_main_cst_1_apply]
  refine congrArg (fun s => Ideal.div s width + eps) (init_sum rfl (Finset.sum_congr rfl fun k _ => ?_))
  rw [val_main_v3_apply]
  exact congrArg (fun a : EReal => a * a)
    ((congrArg (val_main_v2 (F := Ideal) x0 x1) (ix2_of rfl rfl)).trans (mix_eq x0 x1 x2 x3 x4 x5 x6 (i 0) k))

theorem rstd_eq (i : S2048x1.Idx) : val_main_v10 (F := Ideal) x0 x1 i = rstd (mix (args x0 x1 x2 x3 x4 x5 x6) (i 0)) := by
  rw [val_main_v10_apply, var_eq x0 x1 x2 x3 x4 x5 x6]
  rfl

theorem slope_eq (i : S2048x1.Idx) : val_main_v13 (F := Ideal) x0 x1 i
    = mhalf * Ideal.div (rstd (mix (args x0 x1 x2 x3 x4 x5 x6) (i 0))) (var (mix (args x0 x1 x2 x3 x4 x5 x6) (i 0))) := by
  rw [val_main_v13_apply, val_main_v11_apply, rstd_eq x0 x1 x2 x3 x4 x5 x6, var_eq x0 x1 x2 x3 x4 x5 x6, val_main_v12_apply,
    val_main_cst_2_apply]
  rfl

theorem over_eq (t : Fin 2048) (j : Fin 1024) : val_main_v15 (F := Ideal) x0 x1 (ix2 t j)
    = mix (args x0 x1 x2 x3 x4 x5 x6) t j * rstd (mix (args x0 x1 x2 x3 x4 x5 x6) t) := by
  rw [val_main_v15_apply, mix_eq x0 x1 x2 x3 x4 x5 x6, val_main_v14_apply, rstd_eq x0 x1 x2 x3 x4 x5 x6]
  rfl

theorem gain2_eq (i : S1x1024.Idx) : val_main_v16 (F := Ideal) x3 i = x3 (ix2 0 (i 1)) := by
  rw [val_main_v16_apply, val_main_v0_apply]
  exact congrArg x3 (ix2_of rfl (Nat.mod_eq_of_lt (i 1).isLt))

theorem gain3_eq (i : S1x1024.Idx) : val_main_v33 (F := Ideal) x4 i = x4 (ix2 0 (i 1)) := by
  rw [val_main_v33_apply, val_main_v1_apply]
  exact congrArg x4 (ix2_of rfl (Nat.mod_eq_of_lt (i 1).isLt))

/-- The residual stream and the normed product. -/
theorem next_eq (t : Fin 2048) (j : Fin 1024) :
    val_main_v19 (F := Ideal) x0 x1 x2 x3 (ix2 t j) = next (args x0 x1 x2 x3 x4 x5 x6) t j := by
  rw [val_main_v19_apply, val_main_v18_apply, over_eq x0 x1 x2 x3 x4 x5 x6, val_main_v17_apply, gain2_eq]
  rfl

/-! ## The norm of the stream -/

theorem var3_eq (i : S2048x1.Idx) : val_main_v26 (F := Ideal) x0 x1 x2 x3 i = var (next (args x0 x1 x2 x3 x4 x5 x6) (i 0)) := by
  rw [val_main_v26_apply, val_main_v24_apply, val_main_v22_apply, val_main_v21_apply, val_main_v23_apply, val_main_v25_apply,
    val_main_cst_4_apply, val_main_cst_5_apply]
  refine congrArg (fun s => Ideal.div s width + eps) (init_sum rfl (Finset.sum_congr rfl fun k _ => ?_))
  rw [val_main_v20_apply]
  exact congrArg (fun a : EReal => a * a)
    ((congrArg (val_main_v19 (F := Ideal) x0 x1 x2 x3) (ix2_of rfl rfl)).trans (next_eq x0 x1 x2 x3 x4 x5 x6 (i 0) k))

theorem rstd3_eq (i : S2048x1.Idx) : val_main_v27 (F := Ideal) x0 x1 x2 x3 i = rstd (next (args x0 x1 x2 x3 x4 x5 x6) (i 0)) := by
  rw [val_main_v27_apply, var3_eq x0 x1 x2 x3 x4 x5 x6]
  rfl

theorem slope3_eq (i : S2048x1.Idx) : val_main_v30 (F := Ideal) x0 x1 x2 x3 i
    = mhalf * Ideal.div (rstd (next (args x0 x1 x2 x3 x4 x5 x6) (i 0))) (var (next (args x0 x1 x2 x3 x4 x5 x6) (i 0))) := by
  rw [val_main_v30_apply, val_main_v28_apply, rstd3_eq x0 x1 x2 x3 x4 x5 x6, var3_eq x0 x1 x2 x3 x4 x5 x6, val_main_v29_apply,
    val_main_cst_6_apply]
  rfl

theorem over3_eq (t : Fin 2048) (j : Fin 1024) : val_main_v32 (F := Ideal) x0 x1 x2 x3 (ix2 t j)
    = next (args x0 x1 x2 x3 x4 x5 x6) t j * rstd (next (args x0 x1 x2 x3 x4 x5 x6) t) := by
  rw [val_main_v32_apply, next_eq x0 x1 x2 x3 x4 x5 x6, val_main_v31_apply, rstd3_eq x0 x1 x2 x3 x4 x5 x6]
  rfl

/-- The norm of the stream. -/
theorem out_eq (t : Fin 2048) (j : Fin 1024) :
    val_main_v81 (F := Ideal) x0 x1 x2 x3 x4 (ix2 t j) = out (args x0 x1 x2 x3 x4 x5 x6) t j := by
  rw [val_main_v81_apply, val_main_v35_apply, over3_eq x0 x1 x2 x3 x4 x5 x6, val_main_v34_apply, gain3_eq]
  rfl

/-! ## The gradients of the second norm -/

/-- The gradient of the second norm's gains. -/
theorem dG3_eq (j : Fin 1024) : val_main_v83 (F := Ideal) x0 x1 x2 x3 x6 (ix2 0 j) = dG3 (args x0 x1 x2 x3 x4 x5 x6) j := by
  rw [val_main_v83_apply, val_main_v41_apply]
  refine init_sum rfl (Fin.sum_univ_one _ |>.trans ?_)
  rw [val_main_v38_apply, val_main_v37_apply]
  refine init_sum rfl (Finset.sum_congr rfl fun t _ => ?_)
  refine (congrArg (val_main_v36 (F := Ideal) x0 x1 x2 x3 x6) (ix2_of (p := t) (q := j) rfl
    (by show 0 * 1024 + (0 * 1024 + j.val) = j.val; omega))).trans ?_
  rw [val_main_v36_apply, over3_eq x0 x1 x2 x3 x4 x5 x6]
  show _ * x6 (ix2 t j) = x6 (ix2 t j) * next (args x0 x1 x2 x3 x4 x5 x6) t j * _
  rw [mul_comm, mul_assoc]

theorem gy3_eq (t : Fin 2048) (j : Fin 1024) : val_main_v40 (F := Ideal) x4 x6 (ix2 t j) = x6 (ix2 t j) * x4 (ix2 0 j) := by
  rw [val_main_v40_apply, val_main_v39_apply, gain3_eq]
  rfl

theorem tail3_eq (t : Fin 2048) (j : Fin 1024) : val_main_v52 (F := Ideal) x0 x1 x2 x3 x4 x6 (ix2 t j)
    = tail (next (args x0 x1 x2 x3 x4 x5 x6) t) (fun k => x6 (ix2 t k) * x4 (ix2 0 k)) := by
  rw [val_main_v52_apply, val_main_v51_apply]
  refine init_sum rfl (Fin.sum_univ_one _ |>.trans ?_)
  rw [val_main_v50_apply, val_main_v48_apply, slope3_eq x0 x1 x2 x3 x4 x5 x6, val_main_v49_apply, val_main_cst_10_apply,
    val_main_v44_apply, val_main_v43_apply]
  refine congrArg (fun s => Ideal.div (s * _) width) (init_sum rfl (Finset.sum_congr rfl fun k _ => ?_))
  refine (congrArg (val_main_v42 (F := Ideal) x0 x1 x2 x3 x4 x6) (ix2_of (p := t) (q := k)
    (by show t.val * 1 + 0 = t.val; omega) rfl)).trans ?_
  rw [val_main_v42_apply, gy3_eq, next_eq x0 x1 x2 x3 x4 x5 x6]
  rfl

variable (hA : AllReal (args x0 x1 x2 x3 x4 x5 x6))
include hA

/-- The gradient of the stream. -/
theorem dNext_eq (t : Fin 2048) (j : Fin 1024) :
    val_main_v56 (F := Ideal) x0 x1 x2 x3 x4 x5 x6 (ix2 t j) = dNext (args x0 x1 x2 x3 x4 x5 x6) t j := by
  rw [val_main_v56_apply, val_main_v54_apply, val_main_v47_apply, val_main_v46_apply, val_main_v53_apply, val_main_v55_apply,
    tail3_eq x0 x1 x2 x3 x4 x5 x6, gy3_eq, next_eq x0 x1 x2 x3 x4 x5 x6, val_main_v45_apply, rstd3_eq x0 x1 x2 x3 x4 x5 x6]
  exact chain_add_eq (hA.next t) (fun k => (hA.dh t k).mul (hA.g3 k)) _ j

/-! ## The gradients of the first norm and of the product -/

theorem dNext_cast_eq (t : Fin 2048) (j : Fin 1024) :
    val_main_v57 (F := Ideal) x0 x1 x2 x3 x4 x5 x6 (ix2 t j) = dNext (args x0 x1 x2 x3 x4 x5 x6) t j := by
  rw [val_main_v57_apply]
  exact (congrArg (val_main_v56 (F := Ideal) x0 x1 x2 x3 x4 x5 x6) (ix2_of (p := t) (q := j)
    (by show (t.val * 1024 + j.val) / 1024 = t.val; omega) (by show (t.val * 1024 + j.val) % 1024 = j.val; omega))).trans
    (dNext_eq x0 x1 x2 x3 x4 x5 x6 hA t j)

/-- The gradient of the first norm's gains. -/
theorem dG2_eq (j : Fin 1024) : val_main_v82 (F := Ideal) x0 x1 x2 x3 x4 x5 x6 (ix2 0 j) = dG2 (args x0 x1 x2 x3 x4 x5 x6) j := by
  rw [val_main_v82_apply, val_main_v63_apply]
  refine init_sum rfl (Fin.sum_univ_one _ |>.trans ?_)
  rw [val_main_v60_apply, val_main_v59_apply]
  refine init_sum rfl (Finset.sum_congr rfl fun t _ => ?_)
  refine (congrArg (val_main_v58 (F := Ideal) x0 x1 x2 x3 x4 x5 x6) (ix2_of (p := t) (q := j) rfl
    (by show 0 * 1024 + (0 * 1024 + j.val) = j.val; omega))).trans ?_
  rw [val_main_v58_apply, over_eq x0 x1 x2 x3 x4 x5 x6, dNext_cast_eq x0 x1 x2 x3 x4 x5 x6 hA]
  show _ * dNext (args x0 x1 x2 x3 x4 x5 x6) t j = dNext (args x0 x1 x2 x3 x4 x5 x6) t j * mix (args x0 x1 x2 x3 x4 x5 x6) t j * _
  rw [mul_comm, mul_assoc]

theorem gy_eq (t : Fin 2048) (j : Fin 1024) : val_main_v62 (F := Ideal) x0 x1 x2 x3 x4 x5 x6 (ix2 t j)
    = dNext (args x0 x1 x2 x3 x4 x5 x6) t j * x3 (ix2 0 j) := by
  rw [val_main_v62_apply, dNext_cast_eq x0 x1 x2 x3 x4 x5 x6 hA, val_main_v61_apply, gain2_eq]
  rfl

theorem tail_eq (t : Fin 2048) (j : Fin 1024) : val_main_v73 (F := Ideal) x0 x1 x2 x3 x4 x5 x6 (ix2 t j)
    = tail (mix (args x0 x1 x2 x3 x4 x5 x6) t) (fun k => dNext (args x0 x1 x2 x3 x4 x5 x6) t k * x3 (ix2 0 k)) := by
  rw [val_main_v73_apply, val_main_v72_apply]
  refine init_sum rfl (Fin.sum_univ_one _ |>.trans ?_)
  rw [val_main_v71_apply, val_main_v69_apply, slope_eq x0 x1 x2 x3 x4 x5 x6, val_main_v70_apply, val_main_cst_15_apply,
    val_main_v66_apply, val_main_v65_apply]
  refine congrArg (fun s => Ideal.div (s * _) width) (init_sum rfl (Finset.sum_congr rfl fun k _ => ?_))
  refine (congrArg (val_main_v64 (F := Ideal) x0 x1 x2 x3 x4 x5 x6) (ix2_of (p := t) (q := k)
    (by show t.val * 1 + 0 = t.val; omega) rfl)).trans ?_
  rw [val_main_v64_apply, gy_eq x0 x1 x2 x3 x4 x5 x6 hA, mix_eq x0 x1 x2 x3 x4 x5 x6]
  rfl

/-- The gradient of the output product. -/
theorem dMix_eq (t : Fin 2048) (j : Fin 1024) :
    val_main_v77 (F := Ideal) x0 x1 x2 x3 x4 x5 x6 (ix2 t j) = dMix (args x0 x1 x2 x3 x4 x5 x6) t j := by
  rw [val_main_v77_apply, val_main_v75_apply, val_main_v68_apply, val_main_v74_apply, val_main_v76_apply,
    tail_eq x0 x1 x2 x3 x4 x5 x6 hA, gy_eq x0 x1 x2 x3 x4 x5 x6 hA, mix_eq x0 x1 x2 x3 x4 x5 x6, val_main_v67_apply,
    rstd_eq x0 x1 x2 x3 x4 x5 x6]
  exact chain_eq (hA.mix t) (fun k => (hA.dNext t k).mul (hA.g2 k)) j

/-- The gradient of the mixer's outputs. -/
theorem dCat_eq (t : Fin 2048) (k : Fin 1024) :
    val_main_v80 (F := Ideal) x0 x1 x2 x3 x4 x5 x6 (ix2 t k) = dCat (args x0 x1 x2 x3 x4 x5 x6) t k := by
  rw [val_main_v80_apply]
  exact Finset.sum_congr rfl fun j _ => congrArg₂ (fun a b : EReal => a * b)
    ((congrArg (val_main_v77 (F := Ideal) x0 x1 x2 x3 x4 x5 x6) (ix2_of rfl rfl)).trans (dMix_eq x0 x1 x2 x3 x4 x5 x6 hA t j))
    (congrArg x1 (ix2_of rfl rfl))

/-- The gradient of the output weight. -/
theorem dWo_eq (k j : Fin 1024) : val_main_v79 (F := Ideal) x0 x1 x2 x3 x4 x5 x6 (ix2 k j) = dWo (args x0 x1 x2 x3 x4 x5 x6) k j := by
  rw [val_main_v79_apply, val_main_v78_apply]
  refine Finset.sum_congr rfl fun t _ => (mul_comm _ _).trans ?_
  exact congrArg₂ (fun a b : EReal => a * b) (congrArg x0 (ix2_of rfl rfl))
    ((congrArg (val_main_v77 (F := Ideal) x0 x1 x2 x3 x4 x5 x6) (ix2_of rfl rfl)).trans (dMix_eq x0 x1 x2 x3 x4 x5 x6 hA t j))

end Cert.Reference2Ideal.Mixed

end
-- ==== Proof.ClaimsMid.lean ====
/- The claims of the mixed norm's program, one theorem each: the three programs run and leave their arguments alone, and the
   idealized kernel computes what the reference computes. -/
module

public import proofs.«01_k».proof.Proof.FiniteMid
public import proofs.«01_k».proof.Proof.MidRun
public import proofs.«01_k».proof.Proof.RefMid
public import proofs.«01_k».proof.Proof.Gen.Kernel2.Frame
public import proofs.«01_k».proof.Proof.Gen.Reference2Ideal.Run
public import Idealize.ShloMosaic.Lib.Quiescent
public import Idealize.ShloMosaic.Lib.Claim

@[expose] public section

set_option maxRecDepth 16384

noncomputable section

namespace Cert.Proof.ClaimsMid

open Idealize.ShloMosaic Idealize.ShloMosaic.TcCoe Idealize.SL.Sem Cert.GateGrad
open Cert.ReferenceIdeal.Forward (ix2_of)

theorem frame_p : Cert.quiescent_Kernel2 (hKernel2 := Cert.Kernel2.Gen.facts) := fun m ρ _ => Cert.Kernel2.Gen.frame m ρ

theorem frame_pi : Cert.quiescent_Kernel2Ideal (hKernel2Ideal := Cert.Kernel2Ideal.Gen.facts) :=
  fun m ρ _ => Cert.Kernel2Ideal.Gen.frame m ρ

theorem frame_pi_pre : Cert.quiescent_Kernel2Ideal_pre_finite_arguments2 (hKernel2Ideal := Cert.Kernel2Ideal.Gen.facts)
    (hPre_finite_arguments2 := Cert.FiniteMid.facts) :=
  fun m ρ _ => Cert.Kernel2Ideal.Gen.frame m ρ

theorem frame_ri : Cert.quiescent_Reference2Ideal (hReference2Ideal := Cert.Reference2Ideal.Gen.facts) := fun m ρ _ =>
  (θ_run Cert.Reference2Ideal.defs _ _).mono (fun r h => ⟨fun c => (h c).2.2.2.2.2.2.2,
      Idealize.ShloMosaic.sem_eq_zero_of_no_sems (by decide) r.2⟩)
    (Cert.Reference2Ideal.Value.run (F := Ideal) m ρ)

theorem frame_ri_pre : Cert.quiescent_Reference2Ideal_pre_finite_arguments2 (hReference2Ideal := Cert.Reference2Ideal.Gen.facts)
    (hPre_finite_arguments2 := Cert.FiniteMid.facts) :=
  fun m ρ _ => frame_ri m ρ trivial

theorem preserves : Cert.preserves_Kernel2_Kernel2Ideal := trivial

open Cert.Kernel2Ideal Cert.Kernel2Ideal.Gen Cert.Kernel2Ideal.MidChain in
/-- The seven arrays of the kernel and of the reference, from arguments that are real numbers and agree. -/
theorem equation (m : (ℓ : Loc nD τ sig) → Buf (Elt Ideal) ℓ) (ρ : Dev nD → PrngReg) (c : Dev nD)
    (y0 : (⟨Cert.Reference2Ideal.S2048x1024, .f32⟩ : BufTy).Contents (Elt Ideal))
    (y1 : (⟨Cert.Reference2Ideal.S1024x1024, .f32⟩ : BufTy).Contents (Elt Ideal))
    (y2 : (⟨Cert.Reference2Ideal.S2048x1024, .f32⟩ : BufTy).Contents (Elt Ideal))
    (y3 : (⟨Cert.Reference2Ideal.S1x1024, .f32⟩ : BufTy).Contents (Elt Ideal))
    (y4 : (⟨Cert.Reference2Ideal.S1x1024, .f32⟩ : BufTy).Contents (Elt Ideal))
    (y5 : (⟨Cert.Reference2Ideal.S2048x1024, .f32⟩ : BufTy).Contents (Elt Ideal))
    (y6 : (⟨Cert.Reference2Ideal.S2048x1024, .f32⟩ : BufTy).Contents (Elt Ideal))
    (e : args m c = Cert.Reference2Ideal.Mixed.args y0 y1 y2 y3 y4 y5 y6) (hA : Mid.AllReal (args m c)) :
    Cert.Reference2Ideal.Read.val_main_v19 (F := Ideal) y0 y1 y2 y3 = V6 m ρ c main_v3_0
    ∧ Cert.Reference2Ideal.Read.val_main_v81 (F := Ideal) y0 y1 y2 y3 y4 = V6 m ρ c main_v3_1
    ∧ Cert.Reference2Ideal.Read.val_main_v56 (F := Ideal) y0 y1 y2 y3 y4 y5 y6 = V6 m ρ c main_v4_0
    ∧ Cert.Reference2Ideal.Read.val_main_v80 (F := Ideal) y0 y1 y2 y3 y4 y5 y6 = V6 m ρ c main_v5
    ∧ Cert.Reference2Ideal.Read.val_main_v79 (F := Ideal) y0 y1 y2 y3 y4 y5 y6 = V6 m ρ c main_v6
    ∧ Cert.Reference2Ideal.Read.val_main_v82 (F := Ideal) y0 y1 y2 y3 y4 y5 y6 = V6 m ρ c main_v4_2
    ∧ Cert.Reference2Ideal.Read.val_main_v83 (F := Ideal) y0 y1 y2 y3 y6 = V6 m ρ c main_v4_3 := by
  refine ⟨?_, ?_, ?_, ?_, ?_, ?_, ?_⟩
  · funext i
    obtain ⟨a, b, rfl⟩ : ∃ a b, i = ix2 a b := ⟨i 0, i 1, ix2_of rfl rfl⟩
    rw [next_eq, e]
    exact Cert.Reference2Ideal.Mixed.next_eq y0 y1 y2 y3 y4 y5 y6 a b
  · funext i
    obtain ⟨a, b, rfl⟩ : ∃ a b, i = ix2 a b := ⟨i 0, i 1, ix2_of rfl rfl⟩
    rw [out_eq, e]
    exact Cert.Reference2Ideal.Mixed.out_eq y0 y1 y2 y3 y4 y5 y6 a b
  · funext i
    obtain ⟨a, b, rfl⟩ : ∃ a b, i = ix2 a b := ⟨i 0, i 1, ix2_of rfl rfl⟩
    rw [dNext_eq, e]
    exact Cert.Reference2Ideal.Mixed.dNext_eq y0 y1 y2 y3 y4 y5 y6 (e ▸ hA) a b
  · funext i
    obtain ⟨a, b, rfl⟩ : ∃ a b, i = ix2 a b := ⟨i 0, i 1, ix2_of rfl rfl⟩
    rw [dCat_eq, e]
    exact Cert.Reference2Ideal.Mixed.dCat_eq y0 y1 y2 y3 y4 y5 y6 (e ▸ hA) a b
  · funext i
    obtain ⟨a, b, rfl⟩ : ∃ a b, i = ix2 a b := ⟨i 0, i 1, ix2_of rfl rfl⟩
    rw [dWo_eq, e]
    exact Cert.Reference2Ideal.Mixed.dWo_eq y0 y1 y2 y3 y4 y5 y6 (e ▸ hA) a b
  · funext i
    obtain ⟨b, rfl⟩ : ∃ b, i = ix2 0 b := ⟨i 1, ix2_of (Nat.lt_one_iff.1 (i 0).isLt) rfl⟩
    rw [dG2_eq, e]
    exact Cert.Reference2Ideal.Mixed.dG2_eq y0 y1 y2 y3 y4 y5 y6 (e ▸ hA) b
  · funext i
    obtain ⟨b, rfl⟩ : ∃ b, i = ix2 0 b := ⟨i 1, ix2_of (Nat.lt_one_iff.1 (i 0).isLt) rfl⟩
    rw [dG3_eq, e]
    exact Cert.Reference2Ideal.Mixed.dG3_eq y0 y1 y2 y3 y4 y5 y6 b

theorem algebraic : Cert.algebraic_Kernel2Ideal_Reference2Ideal_pre_finite_arguments2 (hKernel2Ideal := Cert.Kernel2Ideal.Gen.facts)
    (hReference2Ideal := Cert.Reference2Ideal.Gen.facts) (hPre_finite_arguments2 := Cert.FiniteMid.facts) := by
  intro m ρ m' ρ' hpre hagree
  refine ⟨fun c => Cert.Kernel2Ideal.Gen.V6 m ρ c Cert.Kernel2Ideal.main_v3_0,
    fun c => Cert.Kernel2Ideal.Gen.V6 m ρ c Cert.Kernel2Ideal.main_v3_1,
    fun c => Cert.Kernel2Ideal.Gen.V6 m ρ c Cert.Kernel2Ideal.main_v4_0,
    fun c => Cert.Kernel2Ideal.Gen.V6 m ρ c Cert.Kernel2Ideal.main_v5,
    fun c => Cert.Kernel2Ideal.Gen.V6 m ρ c Cert.Kernel2Ideal.main_v6,
    fun c => Cert.Kernel2Ideal.Gen.V6 m ρ c Cert.Kernel2Ideal.main_v4_2,
    fun c => Cert.Kernel2Ideal.Gen.V6 m ρ c Cert.Kernel2Ideal.main_v4_3, ?_, ?_⟩
  · refine (θ_run Cert.Kernel2Ideal.defs _ _).mono (fun r h c => ?_) (Cert.Kernel2Ideal.MidRun.run m ρ)
    obtain ⟨a0, a1, a2, a3, a4, a5, a6, r0, r1, r2, r3, r4, r5, r6⟩ := h.1 c
    exact ⟨r0, r1, r2, r3, r4, r5, r6, a0, a1, a2, a3, a4, a5, a6⟩
  · refine (θ_run Cert.Reference2Ideal.defs _ _).mono (fun r h c => ?_) (Cert.Reference2Ideal.Value.run (F := Ideal) m' ρ')
    obtain ⟨r0, r1, r2, r3, r4, r5, r6, a⟩ := h c
    have e : Cert.Kernel2Ideal.MidChain.args m c = Cert.Reference2Ideal.Mixed.args
        (m' ((c : Thread Cert.Reference2Ideal.nD Cert.Reference2Ideal.τ).loc Cert.Reference2Ideal.main_arg0))
        (m' ((c : Thread Cert.Reference2Ideal.nD Cert.Reference2Ideal.τ).loc Cert.Reference2Ideal.main_arg1))
        (m' ((c : Thread Cert.Reference2Ideal.nD Cert.Reference2Ideal.τ).loc Cert.Reference2Ideal.main_arg2))
        (m' ((c : Thread Cert.Reference2Ideal.nD Cert.Reference2Ideal.τ).loc Cert.Reference2Ideal.main_arg3))
        (m' ((c : Thread Cert.Reference2Ideal.nD Cert.Reference2Ideal.τ).loc Cert.Reference2Ideal.main_arg4))
        (m' ((c : Thread Cert.Reference2Ideal.nD Cert.Reference2Ideal.τ).loc Cert.Reference2Ideal.main_arg5))
        (m' ((c : Thread Cert.Reference2Ideal.nD Cert.Reference2Ideal.τ).loc Cert.Reference2Ideal.main_arg6)) := by
      obtain ⟨e0, e1, e2, e3, e4, e5, e6⟩ := hagree c
      rw [e0, e1, e2, e3, e4, e5, e6]
      rfl
    obtain ⟨q0, q1, q2, q3, q4, q5, q6⟩ := equation m ρ c _ _ _ _ _ _ _ e (Cert.FiniteMid.real m hpre c)
    exact ⟨r0.trans ((Cert.Reference2Ideal.Read.val_main_v19_eq _ _ _ _).trans q0),
      r1.trans ((Cert.Reference2Ideal.Read.val_main_v81_eq _ _ _ _ _).trans q1),
      r2.trans ((Cert.Reference2Ideal.Read.val_main_v56_eq _ _).trans q2),
      r3.trans ((Cert.Reference2Ideal.Read.val_main_v80_eq _ _).trans q3),
      r4.trans ((Cert.Reference2Ideal.Read.val_main_v79_eq _ _).trans q4),
      r5.trans ((Cert.Reference2Ideal.Read.val_main_v82_eq _ _).trans q5),
      r6.trans ((Cert.Reference2Ideal.Read.val_main_v83_eq _ _).trans q6), a⟩

end Cert.Proof.ClaimsMid

end
-- ==== Proof.FirstBlocks.lean ====
/- What the calls of the first norm and its projection write into their blocks. -/
module

public import proofs.«01_k».proof.Proof.Gen.Kernel3Ideal.Skeleton
public import proofs.«01_k».proof.Proof.Norm
public import Idealize.ShloMosaic.Lib.Pointwise

@[expose] public section

set_option maxRecDepth 16384

noncomputable section

namespace Cert.Kernel3Ideal.FirstBlocks

open Cert.Kernel3Ideal Cert.Kernel3Ideal.Gen Cert.Norm
open Idealize.ShloMosaic Idealize.SL.Sem
open scoped BigOperators

/-- The norm. -/
theorem k0_apply (x : Vec Ideal S512x1024 .f32) (g : Vec Ideal S1x1024 .f32) (y : S512x1024.Idx) :
    k0_pay1 (F := Ideal) x g y = normed (fun k => x (ix2 (y 0) k)) (fun k => g (ix2 0 k)) (y 1) := by
  idx_vars y
  unfold normed rstd var width eps
  pointwise [k0_pay1]

/-- The projection, one shard: rows of the normed input against columns of the weight. -/
theorem k1_apply (a : Vec Ideal S2048x1024 .bf16) (b : Vec Ideal S1x1024x640 .bf16) (y : S2048x640.Idx) :
    k1_pay1 (F := Ideal) a b y = ∑ k : Fin 1024, a (ix2 (y 0) k) * b (ix3 0 k (y 1)) := by
  idx_vars y
  pointwise [k1_pay1]

/-- The weight's gradient, one shard: columns of the normed input against columns of the gradient. -/
theorem k2_apply (a : Vec Ideal S2048x1024 .bf16) (b : Vec Ideal S2048x640 .bf16) (y : S1x1024x640.Idx) :
    k2_pay1 (F := Ideal) a b y = ∑ k : Fin 2048, a (ix2 k (y 1)) * b (ix2 k (y 2)) := by
  idx_vars y
  pointwise [k2_pay1]

/-- The gradient of the normed input: the four shards' products added up. -/
theorem k3_apply (a0 : Vec Ideal S1024x640 .bf16) (b0 : Vec Ideal S1x1024x640 .bf16) (a1 : Vec Ideal S1024x640 .bf16)
    (b1 : Vec Ideal S1x1024x640 .bf16) (a2 : Vec Ideal S1024x640 .bf16) (b2 : Vec Ideal S1x1024x640 .bf16)
    (a3 : Vec Ideal S1024x640 .bf16) (b3 : Vec Ideal S1x1024x640 .bf16) (y : S1024x1024.Idx) :
    k3_pay1 (F := Ideal) a0 b0 a1 b1 a2 b2 a3 b3 y
      = (((∑ k : Fin 640, a0 (ix2 (y 0) k) * b0 (ix3 0 (y 1) k)) + ∑ k : Fin 640, a1 (ix2 (y 0) k) * b1 (ix3 0 (y 1) k))
          + ∑ k : Fin 640, a2 (ix2 (y 0) k) * b2 (ix3 0 (y 1) k)) + ∑ k : Fin 640, a3 (ix2 (y 0) k) * b3 (ix3 0 (y 1) k) := by
  idx_vars y
  pointwise [k3_pay1]

/-- The input's gradient: what came down the residual stream and the norm's. -/
theorem k4_dx (x d r : Vec Ideal S512x1024 .f32) (g : Vec Ideal S1x1024 .f32) (y : S512x1024.Idx) :
    k4_pay4 (F := Ideal) x d r g y
      = r y + back (fun k => x (ix2 (y 0) k)) (fun k => d (ix2 (y 0) k) * g (ix2 0 k)) (y 1) := by
  idx_vars y
  unfold back rstd var width eps
  pointwise [k4_pay4, k4_pay3, k4_pay2]

theorem k4_zero (y : S1x1024.Idx) : k4_pay6 (F := Ideal) (k4_pay5 (F := Ideal)) y = 0 := by
  idx_vars y
  pointwise [k4_pay6, k4_pay5]

theorem k4_id (a : Vec Ideal S1x1024 .f32) (y : S1x1024.Idx) : k4_pay6 (F := Ideal) a y = a y := by
  idx_vars y
  pointwise [k4_pay6]

theorem k4_term (x d : Vec Ideal S512x1024 .f32) (y : S512x1024.Idx) :
    k4_pay7 (F := Ideal) x d y = (d y * x y) * rstd fun k => x (ix2 (y 0) k) := by
  idx_vars y
  unfold rstd var width eps
  pointwise [k4_pay7, k4_pay3, k4_pay2]

/-- The gains' gradient so far and the block's. -/
theorem k4_acc (a : FVec Ideal S1x1024 .f32) (q : FVec Ideal S512x1024 .f32) (y : S1x1024.Idx) :
    k4_pay1 (F := Ideal) a q y = a y + ∑ t : Fin 512, q (ix2 t (y 1)) := by
  idx_vars y
  pointwise [k4_pay1]

end Cert.Kernel3Ideal.FirstBlocks

end
-- ==== Proof.First.lean ====
/- The first norm and the projection behind it, forward and backward, as functions of the entries of the arguments. -/
module

public import proofs.«01_k».proof.Proof.Norm
public import Idealize.ShloMosaic.Lib.Pipeline.ValueKit

@[expose] public section

set_option maxRecDepth 16384

noncomputable section

namespace Cert.First

open Idealize.ShloMosaic Cert.GateGrad Cert.Norm
open scoped BigOperators

/-- The entries of the arguments: the input, the gains, the projection's weight, the gradient that comes down the
    residual stream, the gradient of the projection. -/
structure Args where
  X : Fin 2048 → Fin 1024 → EReal
  G : Fin 1024 → EReal
  W : Fin 1024 → Fin 2560 → EReal
  D : Fin 2048 → Fin 1024 → EReal
  P : Fin 2048 → Fin 2560 → EReal

variable (A : Args)

/-- The normed input. -/
def H (t : Fin 2048) (k : Fin 1024) : EReal := normed (A.X t) A.G k

/-- The projection. -/
def proj (t : Fin 2048) (n : Fin 2560) : EReal := ∑ k, H A t k * A.W k n

/-- Column `n` of shard `s` of the projection. -/
def col (s : Fin 4) (n : Fin 640) : Fin 2560 := ⟨s.val * 640 + n.val, by omega⟩

/-- The gradient of the weight, shard `s`. -/
def dW (s : Fin 4) (k : Fin 1024) (n : Fin 640) : EReal := ∑ t, H A t k * A.P t (col s n)

/-- The gradient of the normed input. -/
def dH (t : Fin 2048) (k : Fin 1024) : EReal := ∑ n, A.P t n * A.W k n

/-- The gradient of the input. -/
def dX (t : Fin 2048) (j : Fin 1024) : EReal := A.D t j + back (A.X t) (fun k => dH A t k * A.G k) j

/-- The gradient of the gains. -/
def dG (j : Fin 1024) : EReal := ∑ t, (dH A t j * A.X t j) * rstd (A.X t)

/-- A sum over all columns is the four shards' sums added up in order. -/
theorem sum_shards (f : Fin 2560 → EReal) : (((∑ k : Fin 640, f (col 0 k)) + ∑ k : Fin 640, f (col 1 k)) + ∑ k : Fin 640, f (col 2 k))
    + ∑ k : Fin 640, f (col 3 k) = ∑ n, f n := by
  rw [← Fin.sum_mul_add_fin 4 640 f (by norm_num)]
  rw [Fin.sum_univ_four]
  rfl

/-- The arguments' entries are real numbers. -/
structure AllReal : Prop where
  x : ∀ t k, IsReal (A.X t k)
  g : ∀ k, IsReal (A.G k)
  w : ∀ k n, IsReal (A.W k n)
  p : ∀ t n, IsReal (A.P t n)

variable {A}

theorem AllReal.dH (hA : AllReal A) (t : Fin 2048) (k : Fin 1024) : IsReal (First.dH A t k) :=
  IsReal.sum fun n => (hA.p t n).mul (hA.w k n)

end Cert.First

end
-- ==== Proof.FirstArrays.lean ====
/- The arrays the calls of the first norm and its projection leave, each as a function of the arrays it finds. -/
module

public import proofs.«01_k».proof.Proof.Gen.Kernel3Ideal.Frame
public import proofs.«01_k».proof.Proof.FirstBlocks
public import proofs.«01_k».proof.Proof.First
public import Idealize.ShloMosaic.Lib.Pipeline.ValueKit

@[expose] public section

set_option maxRecDepth 16384

noncomputable section

namespace Cert.Kernel3Ideal.FirstArrays

open Cert.Kernel3Ideal Cert.Kernel3Ideal.Gen Cert.Kernel3Ideal.FirstBlocks Cert.Norm
open Cert.First (col)
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## The norm -/

theorem idx0 : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The row of the arrays that row `r` of block `t` is. -/
def row0 (t : Fin cfg0.N) (r : Fin 512) : Fin 2048 :=
  ⟨t.val * 512 + r.val, Fin.mul_add_lt_of_eq_mul (S := cfg0.N) (by decide +kernel) t r⟩

/-- The normed input. -/
def normArr (x : FVec Ideal S2048x1024 .f32) (g : FVec Ideal S1x1024 .f32) : FVec Ideal S2048x1024 .bf16 :=
  fun y => normed (fun k => x (ix2 (y 0) k)) (fun k => g (ix2 0 k)) (y 1)

theorem blk0_0 (c : Dev nD) (t : Fin cfg0.N) (r : Fin 512) (k : Fin 1024) :
    (iblk0 V c 0 t : Vec Ideal S512x1024 .f32) (ix2 r k) = V c main_arg0 (ix2 (row0 t r) k) := by
  have e := idx0 t
  unfold row0
  blk_ext [iblk0, e.1]

theorem blk0_1 (c : Dev nD) (t : Fin cfg0.N) (k : Fin 1024) :
    (iblk0 V c 1 t : Vec Ideal S1x1024 .f32) (ix2 0 k) = V c main_arg1 (ix2 0 k) := by
  have e := idx0 t
  blk_ext [iblk0, e.2.1]

theorem arr0 (c : Dev nD) : (dat0 V c).arrAt 2 cfg0.N = normArr (V c main_arg0) (V c main_arg1) := by
  refine (dat0 V c).arrAt_eq_of_covers 2 _ (by decide +kernel) fun t hf y => ?_
  blk_simp
  rw [after0_2]
  frame_out
  refine (k0_apply _ _ y).trans ?_
  refine (congrArg₂ (fun a b => normed a b (y 1)) (funext fun k => blk0_0 V c t (y 0) k) (funext fun k => blk0_1 V c t k)).trans ?_
  show normArr (V c main_arg0) (V c main_arg1) (ix2 (row0 t (y 0)) (y 1)) = _
  have e := idx0 t
  blk_ext [row0, e.2.2]

/-! ## The projection -/

theorem idx1 : ∀ t : Fin cfg1.N, win1_0.index t = ![0, 0] ∧ win1_1.index t = ![t.val, 0, 0] ∧ win1_2.index t = ![0, t.val] :=
  (by decide +kernel : ∀ t : Fin grid1.N, win1_0.index t = ![0, 0] ∧ win1_1.index t = ![t.val, 0, 0] ∧ win1_2.index t = ![0, t.val])

theorem lt1 : ∀ t : Fin cfg1.N, t.val < 4 := (by decide +kernel : ∀ t : Fin grid1.N, t.val < 4)

/-- The projection, each column from its shard. -/
def projArr (h : FVec Ideal S2048x1024 .bf16) (w : FVec Ideal S4x1024x640 .bf16) : FVec Ideal S2048x2560 .f32 :=
  fun y => ∑ k : Fin 1024, h (ix2 (y 0) k) * w (ix3 ⟨(y 1).val / 640, by have := (y 1).isLt; show _ < 4; change _ < 2560 at this; omega⟩ k
    ⟨(y 1).val % 640, Nat.mod_lt _ (by norm_num)⟩)

theorem arr1 (c : Dev nD) : (dat1 V c).arrAt 2 cfg1.N = projArr (V c main_v4) (V c main_v2) := by
  refine (dat1 V c).arrAt_eq_of_covers 2 _ (by decide +kernel) fun t hf y => ?_
  blk_simp
  rw [after1_2]
  frame_out
  refine (k1_apply _ _ y).trans ?_
  unfold projArr
  refine Finset.sum_congr rfl fun k _ => ?_
  have e := idx1 t
  have e' := lt1 t
  congr 1 <;> blk_ext [iblk1, e.1, e.2.1, e.2.2]

/-! ## The gradient of the weight -/

theorem idx2 : ∀ t : Fin cfg2.N, win2_0.index t = ![0, 0] ∧ win2_1.index t = ![0, t.val] ∧ win2_2.index t = ![t.val, 0, 0] :=
  (by decide +kernel : ∀ t : Fin grid2.N, win2_0.index t = ![0, 0] ∧ win2_1.index t = ![0, t.val] ∧ win2_2.index t = ![t.val, 0, 0])

/-- The weight's gradient, shard by shard. -/
def dwinArr (h : FVec Ideal S2048x1024 .bf16) (p : FVec Ideal S2048x2560 .bf16) : FVec Ideal S4x1024x640 .f32 :=
  fun y => ∑ k : Fin 2048, h (ix2 k (y 1)) * p (ix2 k (col (y 0) (y 2)))

theorem arr2 (c : Dev nD) : (dat2 V c).arrAt 2 cfg2.N = dwinArr (V c main_v4) (V c main_v3) := by
  refine (dat2 V c).arrAt_eq_of_covers 2 _ (by decide +kernel) fun t hf y => ?_
  blk_simp
  rw [after2_2]
  frame_out
  refine (k2_apply _ _ y).trans ?_
  unfold dwinArr col
  refine Finset.sum_congr rfl fun k _ => ?_
  have e := idx2 t
  congr 1 <;> blk_ext [iblk2, e.1, e.2.1, e.2.2]

/-! ## The gradient of the normed input -/

theorem idx3 : ∀ t : Fin cfg3.N, win3_0.index t = ![t.val, 0] ∧ win3_1.index t = ![0, 0, 0] ∧ win3_2.index t = ![t.val, 0] :=
  (by decide +kernel : ∀ t : Fin grid3.N, win3_0.index t = ![t.val, 0] ∧ win3_1.index t = ![0, 0, 0] ∧ win3_2.index t = ![t.val, 0])

/-- The gradient of the normed input: the four shards added up in order. -/
def dhArr (p : FVec Ideal S2048x2560 .bf16) (w : FVec Ideal S4x1024x640 .bf16) : FVec Ideal S2048x1024 .f32 := fun y =>
  (((∑ k : Fin 640, p (ix2 (y 0) (col 0 k)) * w (ix3 0 (y 1) k)) + ∑ k : Fin 640, p (ix2 (y 0) (col 1 k)) * w (ix3 1 (y 1) k))
    + ∑ k : Fin 640, p (ix2 (y 0) (col 2 k)) * w (ix3 2 (y 1) k)) + ∑ k : Fin 640, p (ix2 (y 0) (col 3 k)) * w (ix3 3 (y 1) k)

set_option maxHeartbeats 2000000 in
theorem arr3 (c : Dev nD) : (dat3 V c).arrAt 2 cfg3.N = dhArr (V c main_v3) (V c main_v2) := by
  refine (dat3 V c).arrAt_eq_of_covers 2 _ (by decide +kernel) fun t hf y => ?_
  blk_simp
  rw [after3_2]
  frame_out
  refine (k3_apply _ _ _ _ _ _ _ _ y).trans ?_
  have e := idx3 t
  unfold dhArr
  refine congrArg₂ (· + ·) (congrArg₂ (· + ·) (congrArg₂ (· + ·) ?_ ?_) ?_) ?_ <;>
    refine Finset.sum_congr rfl fun k _ => congrArg₂ (· * ·) ?_ ?_ <;>
    rw [View.ld_apply] <;>
    blk_ext [iblk3, col, e.1, e.2.1, e.2.2, Rect.idx_unit_val]

/-! ## The norm's gradient -/

theorem idx4 : ∀ t : Fin cfg4.N, win4_0.index t = ![t.val, 0] ∧ win4_1.index t = ![t.val, 0] ∧ win4_2.index t = ![t.val, 0]
    ∧ win4_3.index t = ![0, 0] ∧ win4_4.index t = ![t.val, 0] :=
  (by decide +kernel : ∀ t : Fin grid4.N, win4_0.index t = ![t.val, 0] ∧ win4_1.index t = ![t.val, 0] ∧ win4_2.index t = ![t.val, 0]
    ∧ win4_3.index t = ![0, 0] ∧ win4_4.index t = ![t.val, 0])

/-- The row of the arrays that row `r` of block `t` is. -/
def row4 (t : Fin cfg4.N) (r : Fin 512) : Fin 2048 :=
  ⟨t.val * 512 + r.val, Fin.mul_add_lt_of_eq_mul (S := cfg4.N) (by decide +kernel) t r⟩

theorem blk4_0 (c : Dev nD) (t : Fin cfg4.N) (r : Fin 512) (k : Fin 1024) :
    (iblk4 V c 0 t : Vec Ideal S512x1024 .f32) (ix2 r k) = V c main_arg0 (ix2 (row4 t r) k) := by
  have e := idx4 t
  unfold row4
  blk_ext [iblk4, e.1]

theorem blk4_1 (c : Dev nD) (t : Fin cfg4.N) (r : Fin 512) (k : Fin 1024) :
    (iblk4 V c 1 t : Vec Ideal S512x1024 .f32) (ix2 r k) = V c main_arg3 (ix2 (row4 t r) k) := by
  have e := idx4 t
  unfold row4
  blk_ext [iblk4, e.2.1]

theorem blk4_2 (c : Dev nD) (t : Fin cfg4.N) (r : Fin 512) (k : Fin 1024) :
    (iblk4 V c 2 t : Vec Ideal S512x1024 .f32) (ix2 r k) = V c main_v7 (ix2 (row4 t r) k) := by
  have e := idx4 t
  unfold row4
  blk_ext [iblk4, e.2.2.1]

theorem blk4_3 (c : Dev nD) (t : Fin cfg4.N) (k : Fin 1024) :
    (iblk4 V c 3 t : Vec Ideal S1x1024 .f32) (ix2 0 k) = V c main_arg1 (ix2 0 k) := by
  have e := idx4 t
  blk_ext [iblk4, e.2.2.2.1]

/-- The gradient of the input. -/
def dxArr (x r d : FVec Ideal S2048x1024 .f32) (g : FVec Ideal S1x1024 .f32) : FVec Ideal S2048x1024 .f32 := fun y =>
  r (ix2 (y 0) (y 1)) + back (fun k => x (ix2 (y 0) k)) (fun k => d (ix2 (y 0) k) * g (ix2 0 k)) (y 1)

/-- What one row gives to the gradient of the gains. -/
def dgTerm (x d : FVec Ideal S2048x1024 .f32) (j : Fin 1024) (t : Fin 2048) : EReal :=
  (d (ix2 t j) * x (ix2 t j)) * rstd fun k => x (ix2 t k)

/-- The gradient of the gains. -/
def dgArr (x d : FVec Ideal S2048x1024 .f32) : FVec Ideal S1x1024 .f32 := fun y => ∑ t : Fin 2048, dgTerm x d (y 1) t

theorem dx_blk (c : Dev nD) (t : Fin cfg4.N) (y : S512x1024.Idx) :
    k4_pay4 (F := Ideal) (iblk4 V c 0 t) (iblk4 V c 2 t) (iblk4 V c 1 t) (iblk4 V c 3 t) y
      = dxArr (V c main_arg0) (V c main_arg3) (V c main_v7) (V c main_arg1) (ix2 (row4 t (y 0)) (y 1)) := by
  refine (k4_dx _ _ _ _ y).trans ?_
  exact congrArg₂ (· + ·) ((congrArg _ (eq_ix2 y)).trans (blk4_1 V c t (y 0) (y 1)))
    (congrArg₂ (fun a b => back a b (y 1)) (funext fun k => blk4_0 V c t (y 0) k)
      (funext fun k => congrArg₂ (· * ·) (blk4_2 V c t (y 0) k) (blk4_3 V c t k)))

/-- What one block adds to the gains' gradient. -/
theorem dg_blk (c : Dev nD) (t : Fin cfg4.N) (a : FVec Ideal S1x1024 .f32) (y : S1x1024.Idx) :
    k4_pay1 (F := Ideal) a (k4_pay7 (F := Ideal) (iblk4 V c 0 t) (iblk4 V c 2 t)) y
      = a y + ∑ r : Fin 512, dgTerm (V c main_arg0) (V c main_v7) (y 1) (row4 t r) := by
  refine (k4_acc _ _ y).trans ?_
  exact congrArg (a y + ·) (Finset.sum_congr rfl fun r _ => (k4_term _ _ (ix2 r (y 1))).trans (congrArg₂ (fun a b : EReal => a * b)
    (congrArg₂ (fun a b : EReal => a * b) (blk4_2 V c t r (y 1)) (blk4_0 V c t r (y 1))) (congrArg rstd (funext fun k => blk4_0 V c t r k))))

theorem arr4_4 (c : Dev nD) : (dat4 V c).arrAt 4 cfg4.N = dxArr (V c main_arg0) (V c main_arg3) (V c main_v7) (V c main_arg1) := by
  refine (dat4 V c).arrAt_eq_of_covers 4 _ (by decide +kernel) fun t hf y => ?_
  blk_simp
  rw [after4_4]
  have e := idx4 t
  by_cases h : t.val % 4 = 0
  · rw [outsAt4_A V c t h]
    frame_out
    refine (dx_blk V c t y).trans ?_
    blk_ext [row4, e.2.2.2.2]
  · rw [outsAt4_B V c t h]
    frame_out
    refine (dx_blk V c t y).trans ?_
    blk_ext [row4, e.2.2.2.2]

theorem arr4_5 (c : Dev nD) : (dat4 V c).arrAt 5 cfg4.N = dgArr (V c main_arg0) (V c main_v7) := by
  refine (dat4 V c).arrAt_eq_of_after_last 5 t4_3 (by decide +kernel) _ fun j => ?_
  blk_simp
  rw [after4_5, Pipeline.eq_sum_fin_of_reset_step_apply_last (fun n h => (outsAt4 V c n h).2) 4 (fun _ => 0) _
    (fun t h j => by rw [outsAt4_A V c t h]; frame_out; rw [dg_blk, k4_zero])
    (fun t h j => by rw [outsAt4_B V c t h]; frame_out; rw [dg_blk, k4_id]) (le_of_eq N_4) t4_3 rfl j, zero_add]
  refine Fin.sum_mul_add_congr (f := dgTerm (V c main_arg0) (V c main_v7) (j 1)) (fun s k hl => ?_) (by decide +kernel : 2048 = cfg4.N * 512)
  rfl

end Cert.Kernel3Ideal.FirstArrays

end
-- ==== Proof.FirstChain.lean ====
/- The results of the first norm's program from its arguments: each call's arrays are those of the norm and the projection
   at the arguments' entries, call after call. -/
module

public import proofs.«01_k».proof.Proof.FirstArrays
public import Idealize.ShloMosaic.Lib.StableHlo.ReadAt

@[expose] public section

set_option maxRecDepth 16384

noncomputable section

namespace Cert.Kernel3Ideal.FirstChain

open Cert.Kernel3Ideal Cert.Kernel3Ideal.Gen Cert.Kernel3Ideal.FirstArrays Cert.Norm
open Cert.First (col)
open Idealize.ShloMosaic Idealize.ShloMosaic.TcCoe Idealize.SL.Sem
open scoped BigOperators

variable (m : (ℓ : Loc nD τ sig) → Buf (Elt Ideal) ℓ) (ρ : Dev nD → PrngReg) (c : Dev nD)

/-- The entries of the program's arguments on device `c`. -/
def args : First.Args where
  X t k := m ((c : Thread nD τ).loc main_arg0) (ix2 t k)
  G k := m ((c : Thread nD τ).loc main_arg1) (ix2 0 k)
  W k n := m ((c : Thread nD τ).loc main_arg2) (ix2 k n)
  D t k := m ((c : Thread nD τ).loc main_arg3) (ix2 t k)
  P t n := m ((c : Thread nD τ).loc main_arg4) (ix2 t n)

/-- A sum of products, factor by factor. -/
theorem sum_mul_eq {N : Nat} {f g f' g' : Fin N → EReal} (h : ∀ k, f k = f' k) (h' : ∀ k, g k = g' k) :
    (∑ k, f k * g k) = ∑ k, f' k * g' k := Finset.sum_congr rfl fun k _ => congrArg₂ (· * ·) (h k) (h' k)

/-! ## What the host lines leave -/

/-- The weight's shard `s`. -/
theorem in_w (s : Fin 4) (k : Fin 1024) (n : Fin 640) : V1 m ρ c main_v2 (ix3 s k n) = (args m c).W k (col s n) := by
  show StableHlo.after hostOps0 (W0 m ρ c) (Proc.devRef .tc main_v2) (ix3 s k n) = _
  unfold hostOps0
  after_reads_at
  rfl

/-- The gradient of the projection. -/
theorem in_p (t : Fin 2048) (n : Fin 2560) : V1 m ρ c main_v3 (ix2 t n) = (args m c).P t n := by
  show StableHlo.after hostOps0 (W0 m ρ c) (Proc.devRef .tc main_v3) (ix2 t n) = _
  unfold hostOps0
  after_reads_at
  rfl

/-! ## The norm and the projection -/

theorem h_eq (t : Fin 2048) (k : Fin 1024) : V2 m ρ c main_v4 (ix2 t k) = First.H (args m c) t k := by
  refine (congrFun ((W2_arr m ρ c 2).trans (arr0 (V1 m ρ) c)) (ix2 t k)).trans ?_
  exact congrArg₂ (fun a b => normed a b k) (funext fun k => congrFun (W1_args m ρ c main_arg0 (by decide)) (ix2 t k))
    (funext fun k => congrFun (W1_args m ρ c main_arg1 (by decide)) (ix2 0 k))

/-- The column `n` is the column of its shard. -/
theorem col_split (n : Fin 2560) (h : n.val / 640 < 4) (h' : n.val % 640 < 640) : col ⟨n.val / 640, h⟩ ⟨n.val % 640, h'⟩ = n :=
  Fin.ext (by show n.val / 640 * 640 + n.val % 640 = n.val; omega)

theorem proj_eq (t : Fin 2048) (n : Fin 2560) : V6 m ρ c main_v5 (ix2 t n) = First.proj (args m c) t n := by
  have e : V6 m ρ c main_v5 = V3 m ρ c main_v5 :=
    (W6_of m ρ c main_v5 (by decide)).trans ((W5_of m ρ c main_v5 (by decide)).trans (W4_of m ρ c main_v5 (by decide)))
  refine (congrFun (e.trans ((W3_arr m ρ c 2).trans (arr1 (V2 m ρ) c))) (ix2 t n)).trans ?_
  refine sum_mul_eq (fun k => h_eq m ρ c t k) fun k => ?_
  refine (congrFun (W2_of m ρ c main_v2 (by decide)) _).trans ((in_w m ρ c _ k _).trans ?_)
  exact congrArg ((args m c).W k) (col_split n _ _)

/-! ## The gradients of the weight and of the normed input -/

theorem dW_eq (s : Fin 4) (k : Fin 1024) (n : Fin 640) : V6 m ρ c main_v6 (ix3 s k n) = First.dW (args m c) s k n := by
  have e : V6 m ρ c main_v6 = V4 m ρ c main_v6 := (W6_of m ρ c main_v6 (by decide)).trans (W5_of m ρ c main_v6 (by decide))
  refine (congrFun (e.trans ((W4_arr m ρ c 2).trans (arr2 (V3 m ρ) c))) (ix3 s k n)).trans ?_
  refine sum_mul_eq (fun t => ?_) fun t => ?_
  · exact (congrFun (W3_of m ρ c main_v4 (by decide)) _).trans (h_eq m ρ c t k)
  · exact (congrFun ((W3_of m ρ c main_v3 (by decide)).trans (W2_of m ρ c main_v3 (by decide))) _).trans (in_p m ρ c t _)

theorem dH_eq (t : Fin 2048) (k : Fin 1024) : V5 m ρ c main_v7 (ix2 t k) = First.dH (args m c) t k := by
  refine (congrFun ((W5_arr m ρ c 2).trans (arr3 (V4 m ρ) c)) (ix2 t k)).trans ?_
  have ew (s : Fin 4) (n : Fin 640) : V4 m ρ c main_v2 (ix3 s k n) = (args m c).W k (col s n) :=
    (congrFun ((W4_of m ρ c main_v2 (by decide)).trans ((W3_of m ρ c main_v2 (by decide)).trans (W2_of m ρ c main_v2 (by decide)))) _).trans
      (in_w m ρ c s k n)
  have ep (n : Fin 2560) : V4 m ρ c main_v3 (ix2 t n) = (args m c).P t n :=
    (congrFun ((W4_of m ρ c main_v3 (by decide)).trans ((W3_of m ρ c main_v3 (by decide)).trans (W2_of m ρ c main_v3 (by decide)))) _).trans
      (in_p m ρ c t n)
  refine Eq.trans ?_ (First.sum_shards fun n => (args m c).P t n * (args m c).W k n)
  exact congrArg₂ (· + ·) (congrArg₂ (· + ·) (congrArg₂ (· + ·)
    (sum_mul_eq (fun n => ep _) fun n => ew 0 n) (sum_mul_eq (fun n => ep _) fun n => ew 1 n))
    (sum_mul_eq (fun n => ep _) fun n => ew 2 n)) (sum_mul_eq (fun n => ep _) fun n => ew 3 n)

/-! ## The norm's gradients -/

theorem x_keep (t : Fin 2048) (k : Fin 1024) : V5 m ρ c main_arg0 (ix2 t k) = (args m c).X t k :=
  congrFun (W5_args m ρ c main_arg0 (by decide)) _

theorem dX_eq (t : Fin 2048) (j : Fin 1024) : V6 m ρ c main_v8_0 (ix2 t j) = First.dX (args m c) t j := by
  refine (congrFun ((W6_arr m ρ c 4).trans (arr4_4 (V5 m ρ) c)) (ix2 t j)).trans ?_
  exact congrArg₂ (fun a b : EReal => a + b) (congrFun (W5_args m ρ c main_arg3 (by decide)) _)
    (congrArg₂ (fun a b => back a b j) (funext fun k => x_keep m ρ c t k)
      (funext fun k => congrArg₂ (fun a b : EReal => a * b) (dH_eq m ρ c t k) (congrFun (W5_args m ρ c main_arg1 (by decide)) (ix2 0 k))))

theorem dG_eq (j : Fin 1024) : V6 m ρ c main_v8_1 (ix2 0 j) = First.dG (args m c) j := by
  refine (congrFun ((W6_arr m ρ c 5).trans (arr4_5 (V5 m ρ) c)) (ix2 0 j)).trans ?_
  exact sum_mul_eq (fun t => congrArg₂ (fun a b : EReal => a * b) (dH_eq m ρ c t j) (x_keep m ρ c t j))
    fun t => congrArg rstd (funext fun k => x_keep m ρ c t k)

end Cert.Kernel3Ideal.FirstChain

end
-- ==== Proof.FiniteFirst.lean ====
/- What the precondition of the first norm's program says: every entry of its arguments, but for the gradient that
   comes down the stream, is a real number. -/
module

public import proofs.«01_k».proof.Proof.Finite
public import proofs.«01_k».proof.Proof.FirstChain

@[expose] public section

set_option maxRecDepth 16384

noncomputable section

namespace Cert.FiniteFirst

open Cert.GateGrad Cert.Pre_finite_arguments3
open Idealize.ShloMosaic Idealize.ShloMosaic.TcCoe Idealize.SL.Sem

/-- The shape relations of the precondition's operations. -/
theorem facts : Cert.Pre_finite_arguments3.Facts where
  bcast_S_S2048x1024 := by decide
  reducesTo_S2048x1024_S_d0_1 := by decide
  h_S_ := by decide
  bcast_S_S1x1024 := by decide
  reducesTo_S1x1024_S_d0_1 := by decide
  bcast_S_S1024x2560 := by decide
  reducesTo_S1024x2560_S_d0_1 := by decide
  bcast_S_S2048x2560 := by decide
  reducesTo_S2048x2560_S_d0_1 := by decide

/-- The precondition's function being one makes every entry of these arguments real. -/
theorem all_real [Cert.Pre_finite_arguments3.Facts] (x0 : FVec Ideal S2048x1024 .f32) (x1 : FVec Ideal S1x1024 .f32)
    (x2 : FVec Ideal S1024x2560 .f32) (x3 : FVec Ideal S2048x1024 .f32) (x4 : FVec Ideal S2048x2560 .f32)
    (h : Cert.Pre_finite_arguments3.fn (F := Ideal) x0 x1 x2 x3 x4 = fun _ => 1#1) :
    (∀ i, IsReal (x0 i)) ∧ (∀ i, IsReal (x1 i)) ∧ (∀ i, IsReal (x2 i)) ∧ ∀ i, IsReal (x4 i) := by
  have h0 := congrFun h (Shape.Idx.first Facts.h_S_)
  unfold Cert.Pre_finite_arguments3.fn Cert.Pre_finite_arguments3.fn_part1 at h0
  obtain ⟨h0, h4⟩ := IntOp.andi_eq_one.1 h0
  obtain ⟨h0, h2⟩ := IntOp.andi_eq_one.1 h0
  obtain ⟨h0, h1⟩ := IntOp.andi_eq_one.1 h0
  exact ⟨Cert.Finite.isReal_of_all x0 _ _ _ _ h0, Cert.Finite.isReal_of_all x1 _ _ _ _ h1, Cert.Finite.isReal_of_all x2 _ _ _ _ h2,
    Cert.Finite.isReal_of_all x4 _ _ _ _ h4⟩

/-- The precondition makes the arguments' entries real. -/
theorem real (m : (ℓ : Loc Cert.Kernel3Ideal.nD Cert.Kernel3Ideal.τ Cert.Kernel3Ideal.sig) → Buf (Elt Ideal) ℓ)
    (h : Cert.Pre_Kernel3Ideal_finite_arguments3 (hPre_finite_arguments3 := facts) m) (c : Dev Cert.Kernel3Ideal.nD) :
    First.AllReal (Cert.Kernel3Ideal.FirstChain.args m c) := by
  obtain ⟨h0, h1, h2, h4⟩ := @all_real facts _ _ _ _ _ (h c)
  exact ⟨fun _ _ => h0 _, fun _ => h1 _, fun _ _ => h2 _, fun _ _ => h4 _⟩

end Cert.FiniteFirst

end
-- ==== Proof.FirstRun.lean ====
/- The run of the first norm's program: every argument is as it was, every counter is zero, and each result is what the last call left of it. -/
module

public import proofs.«01_k».proof.Proof.Gen.Kernel3Ideal.Frame
public import Idealize.ShloMosaic.Lib.Pipeline.ValueKit

@[expose] public section

set_option maxRecDepth 16384

noncomputable section

namespace Cert.Kernel3Ideal.FirstRun

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The run of the program from any memory. -/
theorem run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v5) = V6 m ρ c main_v5
      ∧ r.2.mem ((c.tc : Thread nD τ).loc main_v6) = V6 m ρ c main_v6
      ∧ r.2.mem ((c.tc : Thread nD τ).loc main_v8_0) = V6 m ρ c main_v8_0
      ∧ r.2.mem ((c.tc : Thread nD τ).loc main_v8_1) = V6 m ρ c main_v8_1)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       h c _ (mem_uc main_v5 (by decide)),
       h c _ (mem_uc main_v6 (by decide)),
       h c _ (mem_uc main_v8_0 (by decide)),
       h c _ (mem_uc main_v8_1 (by decide))⟩), funext fun g => hz g (.inr (no_unscoped g.2))⟩)

end Cert.Kernel3Ideal.FirstRun

end
-- ==== Proof.RefFirst.lean ====
/- The reference of the first norm's program at an index: the norm of each row, the projection and the gradients, each as
   the function of the arguments' entries; the chain of the reference agrees with the closed form on real numbers. -/
module

public import proofs.«01_k».proof.Proof.Gen.Reference3Ideal.Read
public import proofs.«01_k».proof.Proof.First
public import proofs.«01_k».proof.Proof.RefForward
public import proofs.«01_k».proof.Proof.RefLoss
public import Idealize.ShloMosaic.Lib.ValueIdx
public import Idealize.ShloMosaic.Lib.IdealHost

@[expose] public section

set_option maxRecDepth 16384

noncomputable section

namespace Cert.Reference3Ideal.Norm

open Cert.Reference3Ideal Cert.Reference3Ideal.Gen Cert.Reference3Ideal.Read Cert.Norm Cert.GateGrad
open Cert.First (H proj dW dH dX dG AllReal col)
open Cert.ReferenceIdeal.Forward (ix2_of)
open Cert.Reference4Ideal.Loss (init_sum)
open Idealize.ShloMosaic Idealize.ShloMosaic.TcCoe Idealize.SL.Sem
open scoped BigOperators

variable (x0 : (⟨S2048x1024, .f32⟩ : BufTy).Contents (Elt Ideal)) (x1 : (⟨S1x1024, .f32⟩ : BufTy).Contents (Elt Ideal))
  (x2 : (⟨S1024x2560, .f32⟩ : BufTy).Contents (Elt Ideal)) (x3 : (⟨S2048x1024, .f32⟩ : BufTy).Contents (Elt Ideal))
  (x4 : (⟨S2048x2560, .f32⟩ : BufTy).Contents (Elt Ideal))

/-- The entries of the reference's arguments. -/
def args : First.Args where
  X t k := x0 (ix2 t k)
  G k := x1 (ix2 0 k)
  W k n := x2 (ix2 k n)
  D t k := x3 (ix2 t k)
  P t n := x4 (ix2 t n)

/-- Row `t` of the input. -/
abbrev rowOf (t : Fin 2048) : Fin 1024 → EReal := fun k => x0 (ix2 t k)

theorem var_eq (i : S2048x1.Idx) : val_main_v7 (F := Ideal) x0 i = var (rowOf x0 (i 0)) := by
  rw [val_main_v7_apply, val_main_v5_apply, val_main_v3_apply, val_main_v2_apply, val_main_v4_apply, val_main_v6_apply,
    val_main_cst_0_apply, val_main_cst_1_apply]
  exact congrArg (fun s => Ideal.div s width + eps) (init_sum rfl (Finset.sum_congr rfl fun k _ =>
    congrArg₂ (· * ·) (congrArg x0 (ix2_of rfl rfl)) (congrArg x0 (ix2_of rfl rfl))))

theorem rstd_eq (i : S2048x1.Idx) : val_main_v8 (F := Ideal) x0 i = rstd (rowOf x0 (i 0)) := by
  rw [val_main_v8_apply, var_eq]
  rfl

theorem slope_eq (i : S2048x1.Idx) :
    val_main_v11 (F := Ideal) x0 i = mhalf * Ideal.div (rstd (rowOf x0 (i 0))) (var (rowOf x0 (i 0))) := by
  rw [val_main_v11_apply, val_main_v9_apply, rstd_eq, var_eq, val_main_v10_apply, val_main_cst_2_apply]
  rfl

theorem over_eq (t : Fin 2048) (j : Fin 1024) : val_main_v13 (F := Ideal) x0 (ix2 t j) = x0 (ix2 t j) * rstd (rowOf x0 t) := by
  rw [val_main_v13_apply, val_main_v12_apply, rstd_eq]
  rfl

theorem gain_eq (i : S1x1024.Idx) : val_main_v14 (F := Ideal) x1 i = x1 (ix2 0 (i 1)) := by
  rw [val_main_v14_apply, val_main_v0_apply]
  exact congrArg x1 (ix2_of rfl (Nat.mod_eq_of_lt (i 1).isLt))

theorem h_eq (t : Fin 2048) (j : Fin 1024) : val_main_v16 (F := Ideal) x0 x1 (ix2 t j) = H (args x0 x1 x2 x3 x4) t j := by
  rw [val_main_v16_apply, over_eq, val_main_v15_apply, gain_eq]
  rfl

/-- The projection. -/
theorem proj_eq (t : Fin 2048) (n : Fin 2560) :
    val_main_v17 (F := Ideal) x0 x1 x2 (ix2 t n) = proj (args x0 x1 x2 x3 x4) t n := by
  rw [val_main_v17_apply]
  exact Finset.sum_congr rfl fun k _ => congrArg₂ (fun a b : EReal => a * b)
    ((congrArg (val_main_v16 (F := Ideal) x0 x1) (ix2_of rfl rfl)).trans (h_eq x0 x1 x2 x3 x4 t k)) (congrArg x2 (ix2_of rfl rfl))

/-- The gradient of the weight. -/
theorem dW_eq (s : Fin 4) (k : Fin 1024) (n : Fin 640) :
    val_main_v43 (F := Ideal) x0 x1 x4 (ix3 s k n) = dW (args x0 x1 x2 x3 x4) s k n := by
  rw [val_main_v43_apply, val_main_v42_apply]
  refine (congrArg (val_main_v19 (F := Ideal) x0 x1 x4) (ix2_of (p := k) (q := col s n)
    (by show ((k.val * 4 + s.val) * 640 + n.val) / 2560 = k.val; omega)
    (by show ((k.val * 4 + s.val) * 640 + n.val) % 2560 = s.val * 640 + n.val; omega))).trans ?_
  rw [val_main_v19_apply, val_main_v18_apply]
  refine Finset.sum_congr rfl fun t _ => (mul_comm _ _).trans ?_
  exact congrArg₂ (fun a b : EReal => a * b)
    ((congrArg (val_main_v16 (F := Ideal) x0 x1) (ix2_of rfl rfl)).trans (h_eq x0 x1 x2 x3 x4 t k)) (congrArg x4 (ix2_of rfl rfl))

/-- The gradient of the normed input. -/
theorem dH_eq (t : Fin 2048) (k : Fin 1024) : val_main_v20 (F := Ideal) x2 x4 (ix2 t k) = dH (args x0 x1 x2 x3 x4) t k := by
  rw [val_main_v20_apply]
  exact Finset.sum_congr rfl fun n _ => congrArg₂ (fun a b : EReal => a * b) (congrArg x4 (ix2_of rfl rfl)) (congrArg x2 (ix2_of rfl rfl))

/-- The gradient of the gains. -/
theorem dG_eq (j : Fin 1024) : val_main_v44 (F := Ideal) x0 x2 x4 (ix2 0 j) = dG (args x0 x1 x2 x3 x4) j := by
  rw [val_main_v44_apply, val_main_v26_apply]
  refine init_sum rfl (Fin.sum_univ_one _ |>.trans ?_)
  rw [val_main_v23_apply, val_main_v22_apply]
  refine init_sum rfl (Finset.sum_congr rfl fun t _ => ?_)
  refine (congrArg (val_main_v21 (F := Ideal) x0 x2 x4) (ix2_of (p := t) (q := j) rfl
    (by show 0 * 1024 + (0 * 1024 + j.val) = j.val; omega))).trans ?_
  rw [val_main_v21_apply, over_eq, dH_eq x0 x1 x2 x3 x4]
  show x0 (ix2 t j) * rstd (rowOf x0 t) * dH (args x0 x1 x2 x3 x4) t j = dH (args x0 x1 x2 x3 x4) t j * x0 (ix2 t j) * rstd (rowOf x0 t)
  rw [mul_comm, mul_assoc]

/-- The gradient of the norm's row times the gains. -/
theorem gy_eq (t : Fin 2048) (j : Fin 1024) :
    val_main_v25 (F := Ideal) x1 x2 x4 (ix2 t j) = dH (args x0 x1 x2 x3 x4) t j * x1 (ix2 0 j) := by
  rw [val_main_v25_apply, dH_eq x0 x1 x2 x3 x4, val_main_v24_apply, gain_eq]
  rfl

theorem tail_eq (t : Fin 2048) (j : Fin 1024) : val_main_v37 (F := Ideal) x0 x1 x2 x4 (ix2 t j)
    = tail (rowOf x0 t) (fun k => dH (args x0 x1 x2 x3 x4) t k * x1 (ix2 0 k)) := by
  rw [val_main_v37_apply, val_main_v36_apply]
  refine init_sum rfl (Fin.sum_univ_one _ |>.trans ?_)
  rw [val_main_v35_apply, val_main_v33_apply, slope_eq, val_main_v34_apply, val_main_cst_6_apply, val_main_v29_apply, val_main_v28_apply]
  refine congrArg (fun s => Ideal.div (s * _) width) (init_sum rfl (Finset.sum_congr rfl fun k _ => ?_))
  refine (congrArg (val_main_v27 (F := Ideal) x0 x1 x2 x4) (ix2_of (p := t) (q := k)
    (by show t.val * 1 + 0 = t.val; omega) rfl)).trans ?_
  rw [val_main_v27_apply, gy_eq x0 x1 x2 x3 x4]
  rfl

/-- The gradient of the input. -/
theorem dX_eq (hA : AllReal (args x0 x1 x2 x3 x4)) (t : Fin 2048) (j : Fin 1024) :
    val_main_v41 (F := Ideal) x0 x1 x2 x3 x4 (ix2 t j) = dX (args x0 x1 x2 x3 x4) t j := by
  rw [val_main_v41_apply, val_main_v39_apply, val_main_v32_apply, val_main_v31_apply, val_main_v38_apply, val_main_v40_apply,
    tail_eq x0 x1 x2 x3 x4, gy_eq x0 x1 x2 x3 x4, val_main_v30_apply, rstd_eq]
  exact chain_add_eq (hA.x t) (fun k => (hA.dH t k).mul (hA.g k)) _ j

end Cert.Reference3Ideal.Norm

end
-- ==== Proof.ClaimsFirst.lean ====
/- The claims of the first norm's program, one theorem each: the three programs run and leave their arguments alone, and the
   idealized kernel computes what the reference computes. -/
module

public import proofs.«01_k».proof.Proof.FiniteFirst
public import proofs.«01_k».proof.Proof.FirstRun
public import proofs.«01_k».proof.Proof.RefFirst
public import proofs.«01_k».proof.Proof.Gen.Kernel3.Frame
public import proofs.«01_k».proof.Proof.Gen.Reference3Ideal.Run
public import Idealize.ShloMosaic.Lib.Quiescent
public import Idealize.ShloMosaic.Lib.Claim

@[expose] public section

set_option maxRecDepth 16384

noncomputable section

namespace Cert.Proof.ClaimsFirst

open Idealize.ShloMosaic Idealize.ShloMosaic.TcCoe Idealize.SL.Sem Cert.GateGrad
open Cert.ReferenceIdeal.Forward (ix2_of)

theorem frame_p : Cert.quiescent_Kernel3 (hKernel3 := Cert.Kernel3.Gen.facts) := fun m ρ _ => Cert.Kernel3.Gen.frame m ρ

theorem frame_pi : Cert.quiescent_Kernel3Ideal (hKernel3Ideal := Cert.Kernel3Ideal.Gen.facts) :=
  fun m ρ _ => Cert.Kernel3Ideal.Gen.frame m ρ

theorem frame_pi_pre : Cert.quiescent_Kernel3Ideal_pre_finite_arguments3 (hKernel3Ideal := Cert.Kernel3Ideal.Gen.facts)
    (hPre_finite_arguments3 := Cert.FiniteFirst.facts) :=
  fun m ρ _ => Cert.Kernel3Ideal.Gen.frame m ρ

theorem frame_ri : Cert.quiescent_Reference3Ideal (hReference3Ideal := Cert.Reference3Ideal.Gen.facts) := fun m ρ _ =>
  (θ_run Cert.Reference3Ideal.defs _ _).mono (fun r h => ⟨fun c => (h c).2.2.2.2,
      Idealize.ShloMosaic.sem_eq_zero_of_no_sems (by decide) r.2⟩)
    (Cert.Reference3Ideal.Value.run (F := Ideal) m ρ)

theorem frame_ri_pre : Cert.quiescent_Reference3Ideal_pre_finite_arguments3 (hReference3Ideal := Cert.Reference3Ideal.Gen.facts)
    (hPre_finite_arguments3 := Cert.FiniteFirst.facts) :=
  fun m ρ _ => frame_ri m ρ trivial

theorem preserves : Cert.preserves_Kernel3_Kernel3Ideal := trivial

open Cert.Kernel3Ideal Cert.Kernel3Ideal.Gen Cert.Kernel3Ideal.FirstChain in
/-- The four arrays of the kernel and of the reference, from arguments that are real numbers and agree. -/
theorem equation (m : (ℓ : Loc nD τ sig) → Buf (Elt Ideal) ℓ) (ρ : Dev nD → PrngReg) (c : Dev nD)
    (y0 : (⟨Cert.Reference3Ideal.S2048x1024, .f32⟩ : BufTy).Contents (Elt Ideal))
    (y1 : (⟨Cert.Reference3Ideal.S1x1024, .f32⟩ : BufTy).Contents (Elt Ideal))
    (y2 : (⟨Cert.Reference3Ideal.S1024x2560, .f32⟩ : BufTy).Contents (Elt Ideal))
    (y3 : (⟨Cert.Reference3Ideal.S2048x1024, .f32⟩ : BufTy).Contents (Elt Ideal))
    (y4 : (⟨Cert.Reference3Ideal.S2048x2560, .f32⟩ : BufTy).Contents (Elt Ideal))
    (e : args m c = Cert.Reference3Ideal.Norm.args y0 y1 y2 y3 y4) (hA : First.AllReal (args m c)) :
    Cert.Reference3Ideal.Read.val_main_v17 (F := Ideal) y0 y1 y2 = V6 m ρ c main_v5
    ∧ Cert.Reference3Ideal.Read.val_main_v43 (F := Ideal) y0 y1 y4 = V6 m ρ c main_v6
    ∧ Cert.Reference3Ideal.Read.val_main_v41 (F := Ideal) y0 y1 y2 y3 y4 = V6 m ρ c main_v8_0
    ∧ Cert.Reference3Ideal.Read.val_main_v44 (F := Ideal) y0 y2 y4 = V6 m ρ c main_v8_1 := by
  refine ⟨?_, ?_, ?_, ?_⟩
  · funext i
    obtain ⟨a, b, rfl⟩ : ∃ a b, i = ix2 a b := ⟨i 0, i 1, ix2_of rfl rfl⟩
    rw [proj_eq, e]
    exact Cert.Reference3Ideal.Norm.proj_eq y0 y1 y2 y3 y4 a b
  · funext i
    obtain ⟨s, a, b, rfl⟩ : ∃ s a b, i = ix3 s a b := ⟨i 0, i 1, i 2, eq_ix3 i⟩
    rw [dW_eq, e]
    exact Cert.Reference3Ideal.Norm.dW_eq y0 y1 y2 y3 y4 s a b
  · funext i
    obtain ⟨a, b, rfl⟩ : ∃ a b, i = ix2 a b := ⟨i 0, i 1, ix2_of rfl rfl⟩
    rw [dX_eq, e]
    exact Cert.Reference3Ideal.Norm.dX_eq y0 y1 y2 y3 y4 (e ▸ hA) a b
  · funext i
    obtain ⟨b, rfl⟩ : ∃ b, i = ix2 0 b := ⟨i 1, ix2_of (Nat.lt_one_iff.1 (i 0).isLt) rfl⟩
    rw [dG_eq, e]
    exact Cert.Reference3Ideal.Norm.dG_eq y0 y1 y2 y3 y4 b

theorem algebraic : Cert.algebraic_Kernel3Ideal_Reference3Ideal_pre_finite_arguments3 (hKernel3Ideal := Cert.Kernel3Ideal.Gen.facts)
    (hReference3Ideal := Cert.Reference3Ideal.Gen.facts) (hPre_finite_arguments3 := Cert.FiniteFirst.facts) := by
  intro m ρ m' ρ' hpre hagree
  refine ⟨fun c => Cert.Kernel3Ideal.Gen.V6 m ρ c Cert.Kernel3Ideal.main_v5, fun c => Cert.Kernel3Ideal.Gen.V6 m ρ c Cert.Kernel3Ideal.main_v6,
    fun c => Cert.Kernel3Ideal.Gen.V6 m ρ c Cert.Kernel3Ideal.main_v8_0, fun c => Cert.Kernel3Ideal.Gen.V6 m ρ c Cert.Kernel3Ideal.main_v8_1, ?_, ?_⟩
  · refine (θ_run Cert.Kernel3Ideal.defs _ _).mono (fun r h c => ?_) (Cert.Kernel3Ideal.FirstRun.run m ρ)
    obtain ⟨a0, a1, a2, a3, a4, r0, r1, r2, r3⟩ := h.1 c
    exact ⟨r0, r1, r2, r3, a0, a1, a2, a3, a4⟩
  · refine (θ_run Cert.Reference3Ideal.defs _ _).mono (fun r h c => ?_) (Cert.Reference3Ideal.Value.run (F := Ideal) m' ρ')
    obtain ⟨r0, r1, r2, r3, a⟩ := h c
    have e : Cert.Kernel3Ideal.FirstChain.args m c = Cert.Reference3Ideal.Norm.args
        (m' ((c : Thread Cert.Reference3Ideal.nD Cert.Reference3Ideal.τ).loc Cert.Reference3Ideal.main_arg0))
        (m' ((c : Thread Cert.Reference3Ideal.nD Cert.Reference3Ideal.τ).loc Cert.Reference3Ideal.main_arg1))
        (m' ((c : Thread Cert.Reference3Ideal.nD Cert.Reference3Ideal.τ).loc Cert.Reference3Ideal.main_arg2))
        (m' ((c : Thread Cert.Reference3Ideal.nD Cert.Reference3Ideal.τ).loc Cert.Reference3Ideal.main_arg3))
        (m' ((c : Thread Cert.Reference3Ideal.nD Cert.Reference3Ideal.τ).loc Cert.Reference3Ideal.main_arg4)) := by
      obtain ⟨e0, e1, e2, e3, e4⟩ := hagree c
      rw [e0, e1, e2, e3, e4]
      rfl
    obtain ⟨q0, q1, q2, q3⟩ := equation m ρ c _ _ _ _ _ e (Cert.FiniteFirst.real m hpre c)
    exact ⟨r0.trans ((Cert.Reference3Ideal.Read.val_main_v17_eq _ _ _).trans q0),
      r1.trans ((Cert.Reference3Ideal.Read.val_main_v43_eq _ _ _).trans q1),
      r2.trans ((Cert.Reference3Ideal.Read.val_main_v41_eq _ _).trans q2),
      r3.trans ((Cert.Reference3Ideal.Read.val_main_v44_eq _ _ _).trans q3), a⟩

end Cert.Proof.ClaimsFirst

end
-- ==== Proof.LossBlock.lean ====
/- What the loss head writes into its blocks, as the norm's functions of the rows of the blocks it reads. -/
module

public import proofs.«01_k».proof.Proof.Gen.Kernel4Ideal.Skeleton
public import proofs.«01_k».proof.Proof.LossHead
public import Idealize.ShloMosaic.Lib.Pointwise

@[expose] public section

set_option maxRecDepth 16384

noncomputable section

namespace Cert.Kernel4Ideal.LossBlock

open Cert.Kernel4Ideal Cert.Kernel4Ideal.Gen Cert.Norm
open Cert.LossHead (perWidth)
open Idealize.ShloMosaic Idealize.SL.Sem
open scoped BigOperators

/-- The difference of the block's output from the target: the residual stream, the normed layer output, the target. -/
def diff (f : Vec Ideal S512x1024 .f32) (g : Vec Ideal S1x1024 .f32) (x t : Vec Ideal S512x1024 .f32) (r : Fin 512) (j : Fin 1024) : EReal :=
  (x (ix2 r j) + normed (fun k => f (ix2 r k)) (fun k => g (ix2 0 k)) j) - t (ix2 r j)

theorem pay5_apply (f : Vec Ideal S512x1024 .f32) (y : S512x1.Idx) : k0_pay5 (F := Ideal) f y = rstd fun k => f (ix2 (y 0) k) := by
  idx_vars y
  unfold rstd var width eps
  pointwise [k0_pay5]

theorem pay6_apply (f : Vec Ideal S512x1024 .f32) (g : Vec Ideal S1x1024 .f32) (x t : Vec Ideal S512x1024 .f32) (y : S512x1024.Idx) :
    k0_pay6 (F := Ideal) f g x t y = diff f g x t (y 0) (y 1) := by
  idx_vars y
  unfold diff normed rstd var width eps
  pointwise [k0_pay6, k0_pay5]

/-- The gradient of the output. -/
theorem pay7_apply (f : Vec Ideal S512x1024 .f32) (g : Vec Ideal S1x1024 .f32) (x t : Vec Ideal S512x1024 .f32) (y : S512x1024.Idx) :
    k0_pay7 (F := Ideal) f g x t y = diff f g x t (y 0) (y 1) * perWidth := by
  rw [← pay6_apply]
  idx_vars y
  unfold perWidth
  pointwise [k0_pay7]

/-- The gradient of the layer's output. -/
theorem pay8_apply (f : Vec Ideal S512x1024 .f32) (g : Vec Ideal S1x1024 .f32) (x t : Vec Ideal S512x1024 .f32) (y : S512x1024.Idx) :
    k0_pay8 (F := Ideal) f g x t y
      = back (fun k => f (ix2 (y 0) k)) (fun k => (diff f g x t (y 0) k * perWidth) * g (ix2 0 k)) (y 1) := by
  have h : ∀ k, diff f g x t (y 0) k * perWidth = k0_pay7 (F := Ideal) f g x t (ix2 (y 0) k) := fun k => (pay7_apply f g x t (ix2 (y 0) k)).symm
  simp only [h]
  idx_vars y
  unfold back rstd var width eps k0_pay8
  generalize k0_pay7 (F := Ideal) f g x t = d
  pointwise [k0_pay5]

/-- The squares. -/
theorem pay9_apply (f : Vec Ideal S512x1024 .f32) (g : Vec Ideal S1x1024 .f32) (x t : Vec Ideal S512x1024 .f32) (y : S512x1024.Idx) :
    k0_pay9 (F := Ideal) f g x t y = diff f g x t (y 0) (y 1) * diff f g x t (y 0) (y 1) := by
  rw [← pay6_apply]
  idx_vars y
  pointwise [k0_pay9]

/-- The loss so far and the block's. -/
theorem pay3_apply (q : FVec Ideal S512x1024 .f32) (l : Vec Ideal S8x128 .f32) (y : S8x128.Idx) :
    k0_pay3 (F := Ideal) q l y = l y + Ffn.half * (∑ r : Fin 512, ∑ k : Fin 1024, q (ix2 r k)) * perWidth := by
  idx_vars y
  unfold perWidth Ffn.half
  pointwise [k0_pay3]

/-- The gains' gradient so far and the block's. -/
theorem pay4_apply (f : Vec Ideal S512x1024 .f32) (r : FVec Ideal S512x1 .f32) (d : FVec Ideal S512x1024 .f32) (a : Vec Ideal S1x1024 .f32)
    (y : S1x1024.Idx) :
    k0_pay4 (F := Ideal) f r d a y = a y + ∑ t : Fin 512, (d (ix2 t (y 1)) * f (ix2 t (y 1))) * r (ix2 t 0) := by
  idx_vars y
  pointwise [k0_pay4]

theorem pay1_apply (y : S8x128.Idx) : k0_pay1 (F := Ideal) y = 0 := by
  idx_vars y
  pointwise [k0_pay1]

theorem pay2_apply (y : S1x1024.Idx) : k0_pay2 (F := Ideal) y = 0 := by
  idx_vars y
  pointwise [k0_pay2]

end Cert.Kernel4Ideal.LossBlock

end
-- ==== Proof.LossArrays.lean ====
/- The four arrays the loss head leaves: the gradients row by row, and the loss and the gains' gradient summed over the
   row blocks. -/
module

public import proofs.«01_k».proof.Proof.Gen.Kernel4Ideal.Frame
public import proofs.«01_k».proof.Proof.LossBlock
public import proofs.«01_k».proof.Proof.LossHead
public import Idealize.ShloMosaic.Lib.Pipeline.ValueKit

@[expose] public section

set_option maxRecDepth 16384

noncomputable section

namespace Cert.Kernel4Ideal.LossArrays

open Cert.Kernel4Ideal Cert.Kernel4Ideal.Gen Cert.Kernel4Ideal.LossBlock Cert.Norm
open Idealize.ShloMosaic Idealize.ShloMosaic.TcCoe Idealize.SL.Sem
open Idealize.ShloMosaic.Pipeline (Dat)
open scoped BigOperators

variable (m : (ℓ : Loc nD τ sig) → Buf (Elt Ideal) ℓ)

/-- The entries of core `c`'s arguments. -/
def args (c : Dev nD) : LossHead.Args where
  X t k := m ((c : Thread nD τ).loc main_arg0) (ix2 t k)
  F t k := m ((c : Thread nD τ).loc main_arg1) (ix2 t k)
  G k := m ((c : Thread nD τ).loc main_arg2) (ix2 0 k)
  T t k := m ((c : Thread nD τ).loc main_arg3) (ix2 t k)

/-- An array from its entries. -/
def whole (f : Fin 2048 → Fin 1024 → EReal) : FVec Ideal S2048x1024 .f32 := fun y => f (y 0) (y 1)

/-- The row of the arrays that row `r` of block `t` is. -/
def row (t : Fin cfg0.N) (r : Fin 512) : Fin 2048 := ⟨t.val * 512 + r.val, Fin.mul_add_lt_of_eq_mul (S := cfg0.N) (by decide +kernel) t r⟩

theorem idx0 : ∀ t : Fin cfg0.N, win0_0.index t = ![t.val, 0] ∧ win0_1.index t = ![t.val, 0] ∧ win0_2.index t = ![0, 0]
    ∧ win0_3.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![0, 0]
    ∧ win0_3.index t = ![t.val, 0] ∧ win0_5.index t = ![t.val, 0] ∧ win0_6.index t = ![t.val, 0])

theorem blk0 (c : Dev nD) (t : Fin cfg0.N) (r : Fin 512) (k : Fin 1024) :
    (iblk m c 0 t : Vec Ideal S512x1024 .f32) (ix2 r k) = (args m c).X (row t r) k := by
  have e := idx0 t
  unfold args row
  blk_ext [iblk, V, e.1]

theorem blk1 (c : Dev nD) (t : Fin cfg0.N) (r : Fin 512) (k : Fin 1024) :
    (iblk m c 1 t : Vec Ideal S512x1024 .f32) (ix2 r k) = (args m c).F (row t r) k := by
  have e := idx0 t
  unfold args row
  blk_ext [iblk, V, e.2.1]

theorem blk2 (c : Dev nD) (t : Fin cfg0.N) (k : Fin 1024) :
    (iblk m c 2 t : Vec Ideal S1x1024 .f32) (ix2 0 k) = (args m c).G k := by
  have e := idx0 t
  unfold args
  blk_ext [iblk, V, e.2.2.1]

theorem blk3 (c : Dev nD) (t : Fin cfg0.N) (r : Fin 512) (k : Fin 1024) :
    (iblk m c 3 t : Vec Ideal S512x1024 .f32) (ix2 r k) = (args m c).T (row t r) k := by
  have e := idx0 t
  unfold args row
  blk_ext [iblk, V, e.2.2.2.1]

/-- The block's difference is the arrays' at the block's row. -/
theorem diff_blk (c : Dev nD) (t : Fin cfg0.N) (r : Fin 512) (j : Fin 1024) :
    diff (iblk m c 1 t) (iblk m c 2 t) (iblk m c 0 t) (iblk m c 3 t) r j = LossHead.diff (args m c) (row t r) j := by
  unfold diff LossHead.diff
  simp only [blk0, blk1, blk2, blk3]

/-- The gradient of the output, of one block. -/
theorem dy_blk (c : Dev nD) (t : Fin cfg0.N) (y : S512x1024.Idx) :
    k0_pay7 (F := Ideal) (iblk m c 1 t) (iblk m c 2 t) (iblk m c 0 t) (iblk m c 3 t) y = LossHead.dOut (args m c) (row t (y 0)) (y 1) := by
  exact (pay7_apply _ _ _ _ y).trans (congrArg (· * LossHead.perWidth) (diff_blk m c t (y 0) (y 1)))

/-- The gradient of the layer's output, of one block. -/
theorem df_blk (c : Dev nD) (t : Fin cfg0.N) (y : S512x1024.Idx) :
    k0_pay8 (F := Ideal) (iblk m c 1 t) (iblk m c 2 t) (iblk m c 0 t) (iblk m c 3 t) y = LossHead.dF (args m c) (row t (y 0)) (y 1) := by
  refine (pay8_apply _ _ _ _ y).trans ?_
  exact congrArg₂ (fun a b => back a b (y 1)) (funext fun k => blk1 m c t (y 0) k)
    (funext fun k => congrArg₂ (· * ·) (congrArg (· * LossHead.perWidth) (diff_blk m c t (y 0) k)) (blk2 m c t k))

/-- What one block adds to the loss. -/
theorem loss_blk (c : Dev nD) (t : Fin cfg0.N) (l : Vec Ideal S8x128 .f32) (y : S8x128.Idx) :
    k0_pay3 (F := Ideal) (k0_pay9 (F := Ideal) (iblk m c 1 t) (iblk m c 2 t) (iblk m c 0 t) (iblk m c 3 t)) l y
      = l y + Ffn.half * (∑ r : Fin 512, LossHead.sq (args m c) (row t r)) * LossHead.perWidth := by
  refine (pay3_apply _ l y).trans ?_
  exact congrArg (fun s => l y + Ffn.half * s * LossHead.perWidth) (Finset.sum_congr rfl fun r _ => Finset.sum_congr rfl fun k _ =>
    (pay9_apply _ _ _ _ (ix2 r k)).trans (congrArg₂ (· * ·) (diff_blk m c t r k) (diff_blk m c t r k)))

/-- What one block adds to the gains' gradient. -/
theorem dg_blk (c : Dev nD) (t : Fin cfg0.N) (a : Vec Ideal S1x1024 .f32) (y : S1x1024.Idx) :
    k0_pay4 (F := Ideal) (iblk m c 1 t) (k0_pay5 (F := Ideal) (iblk m c 1 t))
        (k0_pay7 (F := Ideal) (iblk m c 1 t) (iblk m c 2 t) (iblk m c 0 t) (iblk m c 3 t)) a y
      = a y + ∑ r : Fin 512, (LossHead.dOut (args m c) (row t r) (y 1) * (args m c).F (row t r) (y 1)) * rstd ((args m c).F (row t r)) := by
  rw [pay4_apply]
  exact congrArg (a y + ·) (Finset.sum_congr rfl fun r _ => congrArg₂ (· * ·)
    (congrArg₂ (· * ·) (dy_blk m c t (ix2 r (y 1))) (blk1 m c t r (y 1))) ((pay5_apply _ _).trans (congrArg rstd (funext fun k => blk1 m c t r k))))

/-- The gradient of the output. -/
theorem arr5 (c : Dev nD) : (dats m 0 c).arrAt 5 cfg0.N = whole (LossHead.dOut (args m c)) := by
  refine (dats m 0 c).arrAt_eq_of_covers 5 _ (by decide +kernel) fun t hf y => ?_
  blk_simp
  rw [after0_5]
  have e := idx0 t
  by_cases h : t.val % 4 = 0
  · rw [outsAt0_A m c t h]
    frame_out
    refine (dy_blk m c t y).trans ?_
    show whole (LossHead.dOut (args m c)) (ix2 (row t (y 0)) (y 1)) = _
    blk_ext [row, e.2.2.2.2.1]
  · rw [outsAt0_B m c t h]
    frame_out
    refine (dy_blk m c t y).trans ?_
    show whole (LossHead.dOut (args m c)) (ix2 (row t (y 0)) (y 1)) = _
    blk_ext [row, e.2.2.2.2.1]

/-- The gradient of the layer's output. -/
theorem arr6 (c : Dev nD) : (dats m 0 c).arrAt 6 cfg0.N = whole (LossHead.dF (args m c)) := by
  refine (dats m 0 c).arrAt_eq_of_covers 6 _ (by decide +kernel) fun t hf y => ?_
  blk_simp
  rw [after0_6]
  have e := idx0 t
  by_cases h : t.val % 4 = 0
  · rw [outsAt0_A m c t h]
    frame_out
    refine (df_blk m c t y).trans ?_
    show whole (LossHead.dF (args m c)) (ix2 (row t (y 0)) (y 1)) = _
    blk_ext [row, e.2.2.2.2.2]
  · rw [outsAt0_B m c t h]
    frame_out
    refine (df_blk m c t y).trans ?_
    show whole (LossHead.dF (args m c)) (ix2 (row t (y 0)) (y 1)) = _
    blk_ext [row, e.2.2.2.2.2]

/-- The loss, block by block, in every entry. -/
theorem arr4 (c : Dev nD) : (dats m 0 c).arrAt 4 cfg0.N = fun _ : S8x128.Idx =>
    ∑ p : Fin cfg0.N, Ffn.half * (∑ r : Fin 512, LossHead.sq (args m c) (row p r)) * LossHead.perWidth := by
  refine (dats m 0 c).arrAt_eq_of_after_last 4 t0_3 (by decide +kernel) _ fun j => ?_
  blk_simp
  rw [after0_4, Pipeline.eq_sum_fin_of_reset_step_apply_last (fun n h => (outsAt0 m c n h).1) 4 (fun _ => 0) _
    (fun t h j => by rw [outsAt0_A m c t h]; frame_out; rw [loss_blk, pay1_apply])
    (fun t h j => by rw [outsAt0_B m c t h]; frame_out; rw [loss_blk]) (le_of_eq N_0) t0_3 rfl j, zero_add]

/-- The gradient of the gains. -/
theorem arr7 (c : Dev nD) : (dats m 0 c).arrAt 7 cfg0.N = fun y : S1x1024.Idx => LossHead.dG (args m c) (y 1) := by
  refine (dats m 0 c).arrAt_eq_of_after_last 7 t0_3 (by decide +kernel) _ fun j => ?_
  blk_simp
  rw [after0_7, Pipeline.eq_sum_fin_of_reset_step_apply_last (fun n h => (outsAt0 m c n h).2.2.2) 4 (fun _ => 0) _
    (fun t h j => by rw [outsAt0_A m c t h]; frame_out; rw [dg_blk, pay2_apply])
    (fun t h j => by rw [outsAt0_B m c t h]; frame_out; rw [dg_blk]) (le_of_eq N_0) t0_3 rfl j, zero_add]
  refine Fin.sum_mul_add_congr (f := fun t => (LossHead.dOut (args m c) t (j 1) * (args m c).F t (j 1)) * rstd ((args m c).F t)) (fun s k hl => ?_)
    (by decide +kernel : 2048 = cfg0.N * 512)
  rfl

end Cert.Kernel4Ideal.LossArrays

end
-- ==== Proof.FiniteLoss.lean ====
/- What the loss head's precondition says: every entry of its arguments is a real number. -/
module

public import proofs.«01_k».proof.Proof.Finite
public import proofs.«01_k».proof.Proof.LossArrays

@[expose] public section

set_option maxRecDepth 16384

noncomputable section

namespace Cert.FiniteLoss

open Cert.GateGrad Cert.Pre_finite_arguments4
open Idealize.ShloMosaic Idealize.ShloMosaic.TcCoe Idealize.SL.Sem

/-- The shape relations of the precondition's operations. -/
theorem facts : Cert.Pre_finite_arguments4.Facts where
  bcast_S_S2048x1024 := by decide
  reducesTo_S2048x1024_S_d0_1 := by decide
  h_S_ := by decide
  bcast_S_S1x1024 := by decide
  reducesTo_S1x1024_S_d0_1 := by decide

/-- The precondition's function being one makes every entry of its arguments real. -/
theorem all_real [Cert.Pre_finite_arguments4.Facts] (x0 x1 : FVec Ideal S2048x1024 .f32) (x2 : FVec Ideal S1x1024 .f32)
    (x3 : FVec Ideal S2048x1024 .f32) (h : Cert.Pre_finite_arguments4.fn (F := Ideal) x0 x1 x2 x3 = fun _ => 1#1) :
    (∀ i, IsReal (x0 i)) ∧ (∀ i, IsReal (x1 i)) ∧ (∀ i, IsReal (x2 i)) ∧ ∀ i, IsReal (x3 i) := by
  have h0 := congrFun h (Shape.Idx.first Facts.h_S_)
  unfold Cert.Pre_finite_arguments4.fn Cert.Pre_finite_arguments4.fn_part1 at h0
  obtain ⟨h0, h3⟩ := IntOp.andi_eq_one.1 h0
  obtain ⟨h0, h2⟩ := IntOp.andi_eq_one.1 h0
  obtain ⟨h0, h1⟩ := IntOp.andi_eq_one.1 h0
  exact ⟨Cert.Finite.isReal_of_all x0 _ _ _ _ h0, Cert.Finite.isReal_of_all x1 _ _ _ _ h1, Cert.Finite.isReal_of_all x2 _ _ _ _ h2,
    Cert.Finite.isReal_of_all x3 _ _ _ _ h3⟩

/-- The precondition makes the arguments' entries real. -/
theorem real (m : (ℓ : Loc Cert.Kernel4Ideal.nD Cert.Kernel4Ideal.τ Cert.Kernel4Ideal.sig) → Buf (Elt Ideal) ℓ)
    (h : Cert.Pre_Kernel4Ideal_finite_arguments4 (hPre_finite_arguments4 := facts) m) (c : Dev Cert.Kernel4Ideal.nD) :
    LossHead.AllReal (Cert.Kernel4Ideal.LossArrays.args m c) := by
  obtain ⟨h0, h1, h2, h3⟩ := @all_real facts _ _ _ _ (h c)
  exact ⟨fun _ _ => h0 _, fun _ _ => h1 _, fun _ => h2 _, fun _ _ => h3 _⟩

end Cert.FiniteLoss

end
-- ==== Proof.ClaimsLoss.lean ====
/- The loss head's claims, one theorem each: the three programs run and leave their arguments alone, and the idealized
   kernel computes what the reference computes. -/
module

public import proofs.«01_k».proof.Proof.FiniteLoss
public import proofs.«01_k».proof.Proof.RefLoss
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent
public import Idealize.ShloMosaic.Lib.Claim

@[expose] public section

set_option maxRecDepth 16384

noncomputable section

namespace Cert.Proof.ClaimsLoss

open Idealize.ShloMosaic Idealize.ShloMosaic.TcCoe Idealize.SL.Sem Cert.GateGrad
open Cert.ReferenceIdeal.Forward (ix2_of)

theorem frame_p : Cert.quiescent_Kernel4 (hKernel4 := Cert.Kernel4.Gen.facts) := fun m ρ _ => Cert.Kernel4.Gen.frame m ρ

theorem frame_pi : Cert.quiescent_Kernel4Ideal (hKernel4Ideal := Cert.Kernel4Ideal.Gen.facts) :=
  fun m ρ _ => Cert.Kernel4Ideal.Gen.frame m ρ

theorem frame_pi_pre : Cert.quiescent_Kernel4Ideal_pre_finite_arguments4 (hKernel4Ideal := Cert.Kernel4Ideal.Gen.facts)
    (hPre_finite_arguments4 := Cert.FiniteLoss.facts) :=
  fun m ρ _ => Cert.Kernel4Ideal.Gen.frame m ρ

theorem frame_ri : Cert.quiescent_Reference4Ideal (hReference4Ideal := Cert.Reference4Ideal.Gen.facts) := fun m ρ _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m ρ)

theorem frame_ri_pre : Cert.quiescent_Reference4Ideal_pre_finite_arguments4 (hReference4Ideal := Cert.Reference4Ideal.Gen.facts)
    (hPre_finite_arguments4 := Cert.FiniteLoss.facts) :=
  fun m ρ _ => frame_ri m ρ trivial

theorem preserves : Cert.preserves_Kernel4_Kernel4Ideal := trivial

open Cert.Kernel4Ideal Cert.Kernel4Ideal.Gen Cert.Kernel4Ideal.LossArrays in
/-- The four arrays of the kernel and of the reference, from arguments that are real numbers and agree. -/
theorem equation (m : (ℓ : Loc nD τ sig) → Buf (Elt Ideal) ℓ) (c : Dev nD)
    (y0 y1 : (⟨Cert.Reference4Ideal.S2048x1024, .f32⟩ : BufTy).Contents (Elt Ideal))
    (y2 : (⟨Cert.Reference4Ideal.S1x1024, .f32⟩ : BufTy).Contents (Elt Ideal))
    (y3 : (⟨Cert.Reference4Ideal.S2048x1024, .f32⟩ : BufTy).Contents (Elt Ideal))
    (e : args m c = Cert.Reference4Ideal.Loss.args y0 y1 y2 y3) (hA : LossHead.AllReal (args m c)) :
    Cert.Reference4Ideal.Read.val_main_v53 (F := Ideal) y0 y1 y2 y3 = (dats m 0 c).arrAt 4 cfg0.N
    ∧ Cert.Reference4Ideal.Read.val_main_v32 (F := Ideal) y0 y1 y2 y3 = (dats m 0 c).arrAt 5 cfg0.N
    ∧ Cert.Reference4Ideal.Read.val_main_v54 (F := Ideal) y0 y1 y2 y3 = (dats m 0 c).arrAt 6 cfg0.N
    ∧ Cert.Reference4Ideal.Read.val_main_v55 (F := Ideal) y0 y1 y2 y3 = (dats m 0 c).arrAt 7 cfg0.N := by
  refine ⟨?_, ?_, ?_, ?_⟩
  · rw [arr4]
    funext i
    rw [Cert.Reference4Ideal.Loss.loss_eq, ← e]
    exact (LossHead.loss_blocks hA (by decide +kernel : 2048 = cfg0.N * 512)).symm
  · rw [arr5]
    funext i
    obtain ⟨a, b, rfl⟩ : ∃ a b, i = ix2 a b := ⟨i 0, i 1, ix2_of rfl rfl⟩
    rw [Cert.Reference4Ideal.Loss.dOut_eq y0 y1 y2 y3 (e ▸ hA), ← e]
    rfl
  · rw [arr6]
    funext i
    obtain ⟨a, b, rfl⟩ : ∃ a b, i = ix2 a b := ⟨i 0, i 1, ix2_of rfl rfl⟩
    rw [Cert.Reference4Ideal.Loss.dF_eq y0 y1 y2 y3 (e ▸ hA), ← e]
    rfl
  · rw [arr7]
    funext i
    obtain ⟨b, rfl⟩ : ∃ b, i = ix2 0 b := ⟨i 1, ix2_of (Nat.lt_one_iff.1 (i 0).isLt) rfl⟩
    rw [Cert.Reference4Ideal.Loss.dG_eq y0 y1 y2 y3 (e ▸ hA), ← e]
    rfl

theorem algebraic : Cert.algebraic_Kernel4Ideal_Reference4Ideal_pre_finite_arguments4 (hKernel4Ideal := Cert.Kernel4Ideal.Gen.facts)
    (hReference4Ideal := Cert.Reference4Ideal.Gen.facts) (hPre_finite_arguments4 := Cert.FiniteLoss.facts) := by
  intro m ρ m' ρ' hpre hagree
  refine ⟨fun c => (Cert.Kernel4Ideal.Gen.dats m 0 c).arrAt 4 Cert.Kernel4Ideal.cfg0.N,
    fun c => (Cert.Kernel4Ideal.Gen.dats m 0 c).arrAt 5 Cert.Kernel4Ideal.cfg0.N,
    fun c => (Cert.Kernel4Ideal.Gen.dats m 0 c).arrAt 6 Cert.Kernel4Ideal.cfg0.N,
    fun c => (Cert.Kernel4Ideal.Gen.dats m 0 c).arrAt 7 Cert.Kernel4Ideal.cfg0.N, ?_, ?_⟩
  · exact (θ_run Cert.Kernel4Ideal.defs _ _).mono (fun r h c => h c) (Cert.Kernel4Ideal.Value.run_blocks m ρ)
  · refine (θ_run Cert.Reference4Ideal.defs _ _).mono (fun r h c => ?_) (Cert.Reference4Ideal.Value.run (F := Ideal) m' ρ')
    obtain ⟨r0, r1, r2, r3, a⟩ := h c
    have e : Cert.Kernel4Ideal.LossArrays.args m c = Cert.Reference4Ideal.Loss.args
        (m' ((c : Thread Cert.Reference4Ideal.nD Cert.Reference4Ideal.τ).loc Cert.Reference4Ideal.main_arg0))
        (m' ((c : Thread Cert.Reference4Ideal.nD Cert.Reference4Ideal.τ).loc Cert.Reference4Ideal.main_arg1))
        (m' ((c : Thread Cert.Reference4Ideal.nD Cert.Reference4Ideal.τ).loc Cert.Reference4Ideal.main_arg2))
        (m' ((c : Thread Cert.Reference4Ideal.nD Cert.Reference4Ideal.τ).loc Cert.Reference4Ideal.main_arg3)) := by
      obtain ⟨e0, e1, e2, e3⟩ := hagree c
      rw [e0, e1, e2, e3]
      rfl
    obtain ⟨q0, q1, q2, q3⟩ := equation m c _ _ _ _ e (Cert.FiniteLoss.real m hpre c)
    exact ⟨r0.trans ((Cert.Reference4Ideal.Read.val_main_v53_eq _ _ _ _).trans q0),
      r1.trans ((Cert.Reference4Ideal.Read.val_main_v32_eq _ _ _ _).trans q1),
      r2.trans ((Cert.Reference4Ideal.Read.val_main_v54_eq _ _).trans q2),
      r3.trans ((Cert.Reference4Ideal.Read.val_main_v55_eq _ _ _ _).trans q3), a⟩

end Cert.Proof.ClaimsLoss

end
-- ==== Proof.Adam.lean ====
/- The optimiser's step of one weight, entry by entry: the two moments and the change, on extended reals, and the arrays of
   them over any shape. -/
module

public import Idealize.ShloMosaic.Lib.Pointwise

@[expose] public section

set_option maxRecDepth 16384

noncomputable section

namespace Cert.Adam

open Idealize.ShloMosaic Idealize.ShloMosaic.TcCoe

/-- A number as the programs round it. -/
def num (b : BitVec 32) : EReal := Ideal.ofBits .f32 b

/-- The new first moment, from the gradient and the old one. -/
def mom (g m : EReal) : EReal := num 0x3F666666#32 * m + num 0x3DCCCCCD#32 * g

/-- The new second moment, from the gradient and the old one. -/
def var (g v : EReal) : EReal := num 0x3F7FBE77#32 * v + num 0x3A83126F#32 * (g * g)

/-- The change of the weight: the corrected first moment over the root of the corrected second one, and the decay, times
    minus the rate. -/
def delta (w g m v : EReal) : EReal :=
  num 0xBA83126F#32 * (Ideal.div (Ideal.div (mom g m) (num 0x3F26BD02#32))
      (Ideal.sqrt (Ideal.div (var g v) (num 0x3C231ACC#32)) + num 0x322BCC77#32)
    + num 0x3C23D70A#32 * w)

theorem delta_congr {w g m v w' g' m' v' : EReal} (hw : w = w') (hg : g = g') (hm : m = m') (hv : v = v') :
    delta w g m v = delta w' g' m' v' := by rw [hw, hg, hm, hv]

variable {S : Shape}

/-- The first moments of a weight. -/
def momArr (g m : FVec Ideal S .f32) : FVec Ideal S .f32 := fun y => mom (g y) (m y)

/-- The second moments of a weight. -/
def varArr (g v : FVec Ideal S .f32) : FVec Ideal S .f32 := fun y => var (g y) (v y)

/-- The changes of a weight. -/
def deltaArr (w g m v : FVec Ideal S .f32) : FVec Ideal S .f32 := fun y => delta (w y) (g y) (m y) (v y)

end Cert.Adam

end
-- ==== Proof.AdamArrays.lean ====
/- The arrays the optimiser's calls leave, each as a function of the arrays it finds: block after block, the change and the
   two moments of one weight. -/
module

public import proofs.«01_k».proof.Proof.Gen.Kernel5Ideal.Frame
public import proofs.«01_k».proof.Proof.Adam
public import Idealize.ShloMosaic.Lib.Pipeline.ValueKit

@[expose] public section

set_option maxRecDepth 16384

noncomputable section

namespace Cert.Kernel5Ideal.AdamArrays

open Cert.Kernel5Ideal Cert.Kernel5Ideal.Gen Cert.Adam
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The input projection -/

theorem idx0 : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0])

theorem delta0 (c : Dev nD) :
    (dat0 V c).arrAt 4 cfg0.N = deltaArr (V c main_arg0) (V c main_arg1) (V c main_arg2) (V c main_arg3) := by
  refine (dat0 V c).arrAt_eq_of_covers 4 _ (by decide +kernel) fun t hf y => ?_
  blk_simp
  rw [after0_4]
  frame_out
  have e := idx0 t
  refine delta_congr ?_ ?_ ?_ ?_ <;> blk_ext [iblk0, e.1, e.2.1, e.2.2.1, e.2.2.2.1, e.2.2.2.2.1]

theorem mom0 (c : Dev nD) : (dat0 V c).arrAt 5 cfg0.N = momArr (V c main_arg1) (V c main_arg2) := by
  refine (dat0 V c).arrAt_eq_of_covers 5 _ (by decide +kernel) fun t hf y => ?_
  blk_simp
  rw [after0_5]
  frame_out
  have e := idx0 t
  refine congrArg₂ mom ?_ ?_ <;> blk_ext [iblk0, e.2.1, e.2.2.1, e.2.2.2.2.2.1]

theorem var0 (c : Dev nD) : (dat0 V c).arrAt 6 cfg0.N = varArr (V c main_arg1) (V c main_arg3) := by
  refine (dat0 V c).arrAt_eq_of_covers 6 _ (by decide +kernel) fun t hf y => ?_
  blk_simp
  rw [after0_6]
  frame_out
  have e := idx0 t
  refine congrArg₂ var ?_ ?_ <;> blk_ext [iblk0, e.2.1, e.2.2.2.1, e.2.2.2.2.2.2]

/-! ## The output projection -/

theorem idx1 : ∀ t : Fin cfg1.N, win1_0.index t = ![t.val, 0] ∧ win1_1.index t = ![t.val, 0] ∧ win1_2.index t = ![t.val, 0] ∧ win1_3.index t = ![t.val, 0]
    ∧ win1_4.index t = ![t.val, 0] ∧ win1_5.index t = ![t.val, 0] ∧ win1_6.index t = ![t.val, 0] :=
  (by decide +kernel : ∀ t : Fin grid1.N, win1_0.index t = ![t.val, 0] ∧ win1_1.index t = ![t.val, 0] ∧ win1_2.index t = ![t.val, 0] ∧ win1_3.index t = ![t.val, 0]
    ∧ win1_4.index t = ![t.val, 0] ∧ win1_5.index t = ![t.val, 0] ∧ win1_6.index t = ![t.val, 0])

theorem delta1 (c : Dev nD) :
    (dat1 V c).arrAt 4 cfg1.N = deltaArr (V c main_arg4) (V c main_arg5) (V c main_arg6) (V c main_arg7) := by
  refine (dat1 V c).arrAt_eq_of_covers 4 _ (by decide +kernel) fun t hf y => ?_
  blk_simp
  rw [after1_4]
  frame_out
  have e := idx1 t
  refine delta_congr ?_ ?_ ?_ ?_ <;> blk_ext [iblk1, e.1, e.2.1, e.2.2.1, e.2.2.2.1, e.2.2.2.2.1]

theorem mom1 (c : Dev nD) : (dat1 V c).arrAt 5 cfg1.N = momArr (V c main_arg5) (V c main_arg6) := by
  refine (dat1 V c).arrAt_eq_of_covers 5 _ (by decide +kernel) fun t hf y => ?_
  blk_simp
  rw [after1_5]
  frame_out
  have e := idx1 t
  refine congrArg₂ mom ?_ ?_ <;> blk_ext [iblk1, e.2.1, e.2.2.1, e.2.2.2.2.2.1]

theorem var1 (c : Dev nD) : (dat1 V c).arrAt 6 cfg1.N = varArr (V c main_arg5) (V c main_arg7) := by
  refine (dat1 V c).arrAt_eq_of_covers 6 _ (by decide +kernel) fun t hf y => ?_
  blk_simp
  rw [after1_6]
  frame_out
  have e := idx1 t
  refine congrArg₂ var ?_ ?_ <;> blk_ext [iblk1, e.2.1, e.2.2.2.1, e.2.2.2.2.2.2]

/-! ## The layer's first weight -/

theorem idx2 : ∀ t : Fin cfg2.N, win2_0.index t = ![t.val, 0] ∧ win2_1.index t = ![t.val, 0] ∧ win2_2.index t = ![t.val, 0] ∧ win2_3.index t = ![t.val, 0]
    ∧ win2_4.index t = ![t.val, 0] ∧ win2_5.index t = ![t.val, 0] ∧ win2_6.index t = ![t.val, 0] :=
  (by decide +kernel : ∀ t : Fin grid2.N, win2_0.index t = ![t.val, 0] ∧ win2_1.index t = ![t.val, 0] ∧ win2_2.index t = ![t.val, 0] ∧ win2_3.index t = ![t.val, 0]
    ∧ win2_4.index t = ![t.val, 0] ∧ win2_5.index t = ![t.val, 0] ∧ win2_6.index t = ![t.val, 0])

theorem delta2 (c : Dev nD) :
    (dat2 V c).arrAt 4 cfg2.N = deltaArr (V c main_arg8) (V c main_arg9) (V c main_arg10) (V c main_arg11) := by
  refine (dat2 V c).arrAt_eq_of_covers 4 _ (by decide +kernel) fun t hf y => ?_
  blk_simp
  rw [after2_4]
  frame_out
  have e := idx2 t
  refine delta_congr ?_ ?_ ?_ ?_ <;> blk_ext [iblk2, e.1, e.2.1, e.2.2.1, e.2.2.2.1, e.2.2.2.2.1]

theorem mom2 (c : Dev nD) : (dat2 V c).arrAt 5 cfg2.N = momArr (V c main_arg9) (V c main_arg10) := by
  refine (dat2 V c).arrAt_eq_of_covers 5 _ (by decide +kernel) fun t hf y => ?_
  blk_simp
  rw [after2_5]
  frame_out
  have e := idx2 t
  refine congrArg₂ mom ?_ ?_ <;> blk_ext [iblk2, e.2.1, e.2.2.1, e.2.2.2.2.2.1]

theorem var2 (c : Dev nD) : (dat2 V c).arrAt 6 cfg2.N = varArr (V c main_arg9) (V c main_arg11) := by
  refine (dat2 V c).arrAt_eq_of_covers 6 _ (by decide +kernel) fun t hf y => ?_
  blk_simp
  rw [after2_6]
  frame_out
  have e := idx2 t
  refine congrArg₂ var ?_ ?_ <;> blk_ext [iblk2, e.2.1, e.2.2.2.1, e.2.2.2.2.2.2]

/-! ## The layer's second weight -/

theorem idx3 : ∀ t : Fin cfg3.N, win3_0.index t = ![t.val, 0] ∧ win3_1.index t = ![t.val, 0] ∧ win3_2.index t = ![t.val, 0] ∧ win3_3.index t = ![t.val, 0]
    ∧ win3_4.index t = ![t.val, 0] ∧ win3_5.index t = ![t.val, 0] ∧ win3_6.index t = ![t.val, 0] :=
  (by decide +kernel : ∀ t : Fin grid3.N, win3_0.index t = ![t.val, 0] ∧ win3_1.index t = ![t.val, 0] ∧ win3_2.index t = ![t.val, 0] ∧ win3_3.index t = ![t.val, 0]
    ∧ win3_4.index t = ![t.val, 0] ∧ win3_5.index t = ![t.val, 0] ∧ win3_6.index t = ![t.val, 0])

theorem delta3 (c : Dev nD) :
    (dat3 V c).arrAt 4 cfg3.N = deltaArr (V c main_arg12) (V c main_arg13) (V c main_arg14) (V c main_arg15) := by
  refine (dat3 V c).arrAt_eq_of_covers 4 _ (by decide +kernel) fun t hf y => ?_
  blk_simp
  rw [after3_4]
  frame_out
  have e := idx3 t
  refine delta_congr ?_ ?_ ?_ ?_ <;> blk_ext [iblk3, e.1, e.2.1, e.2.2.1, e.2.2.2.1, e.2.2.2.2.1]

theorem mom3 (c : Dev nD) : (dat3 V c).arrAt 5 cfg3.N = momArr (V c main_arg13) (V c main_arg14) := by
  refine (dat3 V c).arrAt_eq_of_covers 5 _ (by decide +kernel) fun t hf y => ?_
  blk_simp
  rw [after3_5]
  frame_out
  have e := idx3 t
  refine congrArg₂ mom ?_ ?_ <;> blk_ext [iblk3, e.2.1, e.2.2.1, e.2.2.2.2.2.1]

theorem var3 (c : Dev nD) : (dat3 V c).arrAt 6 cfg3.N = varArr (V c main_arg13) (V c main_arg15) := by
  refine (dat3 V c).arrAt_eq_of_covers 6 _ (by decide +kernel) fun t hf y => ?_
  blk_simp
  rw [after3_6]
  frame_out
  have e := idx3 t
  refine congrArg₂ var ?_ ?_ <;> blk_ext [iblk3, e.2.1, e.2.2.2.1, e.2.2.2.2.2.2]

end Cert.Kernel5Ideal.AdamArrays

end
-- ==== Proof.AdamChain.lean ====
/- The results of the optimiser's program from its arguments: no call writes what a later one reads, so each leaves the
   change and the moments of its own weight. -/
module

public import proofs.«01_k».proof.Proof.AdamArrays
public import Idealize.ShloMosaic.Lib.StableHlo.ReadAt

@[expose] public section

set_option maxRecDepth 16384

noncomputable section

namespace Cert.Kernel5Ideal.AdamChain

open Cert.Kernel5Ideal Cert.Kernel5Ideal.Gen Cert.Kernel5Ideal.AdamArrays Cert.Adam
open Idealize.ShloMosaic Idealize.ShloMosaic.TcCoe Idealize.SL.Sem

variable (m : (ℓ : Loc nD τ sig) → Buf (Elt Ideal) ℓ) (ρ : Dev nD → PrngReg) (c : Dev nD)

/-- Argument `b` on device `c`. -/
abbrev arg (b : Ref sig .tc) : Buf (Elt Ideal) ((c : Thread nD τ).loc b) := m ((c : Thread nD τ).loc b)

/-! ## The input projection -/

theorem delta0_eq : V4 m ρ c main_v0_0 = deltaArr (arg m c main_arg0) (arg m c main_arg1) (arg m c main_arg2) (arg m c main_arg3) := by
  have h0 : V0 m ρ c main_arg0 = arg m c main_arg0 := W0_args m ρ c main_arg0 (by decide)
  have h1 : V0 m ρ c main_arg1 = arg m c main_arg1 := W0_args m ρ c main_arg1 (by decide)
  have h2 : V0 m ρ c main_arg2 = arg m c main_arg2 := W0_args m ρ c main_arg2 (by decide)
  have h3 : V0 m ρ c main_arg3 = arg m c main_arg3 := W0_args m ρ c main_arg3 (by decide)
  refine (W4_of m ρ c main_v0_0 (by decide)).trans ((W3_of m ρ c main_v0_0 (by decide)).trans ((W2_of m ρ c main_v0_0 (by decide)).trans (((W1_arr m ρ c 4).trans (delta0 (V0 m ρ) c)).trans ?_)))
  rw [h0, h1, h2, h3]

theorem mom0_eq : V4 m ρ c main_v0_1 = momArr (arg m c main_arg1) (arg m c main_arg2) := by
  have h1 : V0 m ρ c main_arg1 = arg m c main_arg1 := W0_args m ρ c main_arg1 (by decide)
  have h2 : V0 m ρ c main_arg2 = arg m c main_arg2 := W0_args m ρ c main_arg2 (by decide)
  refine (W4_of m ρ c main_v0_1 (by decide)).trans ((W3_of m ρ c main_v0_1 (by decide)).trans ((W2_of m ρ c main_v0_1 (by decide)).trans (((W1_arr m ρ c 5).trans (mom0 (V0 m ρ) c)).trans ?_)))
  rw [h1, h2]

theorem var0_eq : V4 m ρ c main_v0_2 = varArr (arg m c main_arg1) (arg m c main_arg3) := by
  have h1 : V0 m ρ c main_arg1 = arg m c main_arg1 := W0_args m ρ c main_arg1 (by decide)
  have h3 : V0 m ρ c main_arg3 = arg m c main_arg3 := W0_args m ρ c main_arg3 (by decide)
  refine (W4_of m ρ c main_v0_2 (by decide)).trans ((W3_of m ρ c main_v0_2 (by decide)).trans ((W2_of m ρ c main_v0_2 (by decide)).trans (((W1_arr m ρ c 6).trans (var0 (V0 m ρ) c)).trans ?_)))
  rw [h1, h3]

/-! ## The output projection -/

theorem delta1_eq : V4 m ρ c main_v1_0 = deltaArr (arg m c main_arg4) (arg m c main_arg5) (arg m c main_arg6) (arg m c main_arg7) := by
  have h0 : V1 m ρ c main_arg4 = arg m c main_arg4 := W1_args m ρ c main_arg4 (by decide)
  have h1 : V1 m ρ c main_arg5 = arg m c main_arg5 := W1_args m ρ c main_arg5 (by decide)
  have h2 : V1 m ρ c main_arg6 = arg m c main_arg6 := W1_args m ρ c main_arg6 (by decide)
  have h3 : V1 m ρ c main_arg7 = arg m c main_arg7 := W1_args m ρ c main_arg7 (by decide)
  refine (W4_of m ρ c main_v1_0 (by decide)).trans ((W3_of m ρ c main_v1_0 (by decide)).trans (((W2_arr m ρ c 4).trans (delta1 (V1 m ρ) c)).trans ?_))
  rw [h0, h1, h2, h3]

theorem mom1_eq : V4 m ρ c main_v1_1 = momArr (arg m c main_arg5) (arg m c main_arg6) := by
  have h1 : V1 m ρ c main_arg5 = arg m c main_arg5 := W1_args m ρ c main_arg5 (by decide)
  have h2 : V1 m ρ c main_arg6 = arg m c main_arg6 := W1_args m ρ c main_arg6 (by decide)
  refine (W4_of m ρ c main_v1_1 (by decide)).trans ((W3_of m ρ c main_v1_1 (by decide)).trans (((W2_arr m ρ c 5).trans (mom1 (V1 m ρ) c)).trans ?_))
  rw [h1, h2]

theorem var1_eq : V4 m ρ c main_v1_2 = varArr (arg m c main_arg5) (arg m c main_arg7) := by
  have h1 : V1 m ρ c main_arg5 = arg m c main_arg5 := W1_args m ρ c main_arg5 (by decide)
  have h3 : V1 m ρ c main_arg7 = arg m c main_arg7 := W1_args m ρ c main_arg7 (by decide)
  refine (W4_of m ρ c main_v1_2 (by decide)).trans ((W3_of m ρ c main_v1_2 (by decide)).trans (((W2_arr m ρ c 6).trans (var1 (V1 m ρ) c)).trans ?_))
  rw [h1, h3]

/-! ## The layer's first weight -/

theorem delta2_eq : V4 m ρ c main_v2_0 = deltaArr (arg m c main_arg8) (arg m c main_arg9) (arg m c main_arg10) (arg m c main_arg11) := by
  have h0 : V2 m ρ c main_arg8 = arg m c main_arg8 := W2_args m ρ c main_arg8 (by decide)
  have h1 : V2 m ρ c main_arg9 = arg m c main_arg9 := W2_args m ρ c main_arg9 (by decide)
  have h2 : V2 m ρ c main_arg10 = arg m c main_arg10 := W2_args m ρ c main_arg10 (by decide)
  have h3 : V2 m ρ c main_arg11 = arg m c main_arg11 := W2_args m ρ c main_arg11 (by decide)
  refine (W4_of m ρ c main_v2_0 (by decide)).trans (((W3_arr m ρ c 4).trans (delta2 (V2 m ρ) c)).trans ?_)
  rw [h0, h1, h2, h3]

theorem mom2_eq : V4 m ρ c main_v2_1 = momArr (arg m c main_arg9) (arg m c main_arg10) := by
  have h1 : V2 m ρ c main_arg9 = arg m c main_arg9 := W2_args m ρ c main_arg9 (by decide)
  have h2 : V2 m ρ c main_arg10 = arg m c main_arg10 := W2_args m ρ c main_arg10 (by decide)
  refine (W4_of m ρ c main_v2_1 (by decide)).trans (((W3_arr m ρ c 5).trans (mom2 (V2 m ρ) c)).trans ?_)
  rw [h1, h2]

theorem var2_eq : V4 m ρ c main_v2_2 = varArr (arg m c main_arg9) (arg m c main_arg11) := by
  have h1 : V2 m ρ c main_arg9 = arg m c main_arg9 := W2_args m ρ c main_arg9 (by decide)
  have h3 : V2 m ρ c main_arg11 = arg m c main_arg11 := W2_args m ρ c main_arg11 (by decide)
  refine (W4_of m ρ c main_v2_2 (by decide)).trans (((W3_arr m ρ c 6).trans (var2 (V2 m ρ) c)).trans ?_)
  rw [h1, h3]

/-! ## The layer's second weight -/

theorem delta3_eq : V4 m ρ c main_v3_0 = deltaArr (arg m c main_arg12) (arg m c main_arg13) (arg m c main_arg14) (arg m c main_arg15) := by
  have h0 : V3 m ρ c main_arg12 = arg m c main_arg12 := W3_args m ρ c main_arg12 (by decide)
  have h1 : V3 m ρ c main_arg13 = arg m c main_arg13 := W3_args m ρ c main_arg13 (by decide)
  have h2 : V3 m ρ c main_arg14 = arg m c main_arg14 := W3_args m ρ c main_arg14 (by decide)
  have h3 : V3 m ρ c main_arg15 = arg m c main_arg15 := W3_args m ρ c main_arg15 (by decide)
  refine ((W4_arr m ρ c 4).trans (delta3 (V3 m ρ) c)).trans ?_
  rw [h0, h1, h2, h3]

theorem mom3_eq : V4 m ρ c main_v3_1 = momArr (arg m c main_arg13) (arg m c main_arg14) := by
  have h1 : V3 m ρ c main_arg13 = arg m c main_arg13 := W3_args m ρ c main_arg13 (by decide)
  have h2 : V3 m ρ c main_arg14 = arg m c main_arg14 := W3_args m ρ c main_arg14 (by decide)
  refine ((W4_arr m ρ c 5).trans (mom3 (V3 m ρ) c)).trans ?_
  rw [h1, h2]

theorem var3_eq : V4 m ρ c main_v3_2 = varArr (arg m c main_arg13) (arg m c main_arg15) := by
  have h1 : V3 m ρ c main_arg13 = arg m c main_arg13 := W3_args m ρ c main_arg13 (by decide)
  have h3 : V3 m ρ c main_arg15 = arg m c main_arg15 := W3_args m ρ c main_arg15 (by decide)
  refine ((W4_arr m ρ c 6).trans (var3 (V3 m ρ) c)).trans ?_
  rw [h1, h3]

end Cert.Kernel5Ideal.AdamChain

end
-- ==== Proof.AdamRun.lean ====
/- The run of the optimiser's program: every argument is as it was, every counter is zero, and each result is what the last call left of it. -/
module

public import proofs.«01_k».proof.Proof.Gen.Kernel5Ideal.Frame
public import Idealize.ShloMosaic.Lib.Pipeline.ValueKit

@[expose] public section

set_option maxRecDepth 16384

noncomputable section

namespace Cert.Kernel5Ideal.AdamRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The run of the program from any memory. -/
theorem run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_v0_0) = V4 m ρ c main_v0_0
      ∧ r.2.mem ((c.tc : Thread nD τ).loc main_v0_1) = V4 m ρ c main_v0_1
      ∧ r.2.mem ((c.tc : Thread nD τ).loc main_v0_2) = V4 m ρ c main_v0_2
      ∧ r.2.mem ((c.tc : Thread nD τ).loc main_v1_0) = V4 m ρ c main_v1_0
      ∧ r.2.mem ((c.tc : Thread nD τ).loc main_v1_1) = V4 m ρ c main_v1_1
      ∧ r.2.mem ((c.tc : Thread nD τ).loc main_v1_2) = V4 m ρ c main_v1_2
      ∧ r.2.mem ((c.tc : Thread nD τ).loc main_v2_0) = V4 m ρ c main_v2_0
      ∧ r.2.mem ((c.tc : Thread nD τ).loc main_v2_1) = V4 m ρ c main_v2_1
      ∧ r.2.mem ((c.tc : Thread nD τ).loc main_v2_2) = V4 m ρ c main_v2_2
      ∧ r.2.mem ((c.tc : Thread nD τ).loc main_v3_0) = V4 m ρ c main_v3_0
      ∧ r.2.mem ((c.tc : Thread nD τ).loc main_v3_1) = V4 m ρ c main_v3_1
      ∧ r.2.mem ((c.tc : Thread nD τ).loc main_v3_2) = V4 m ρ c main_v3_2)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       h c _ (mem_uc main_v0_0 (by decide)),
       h c _ (mem_uc main_v0_1 (by decide)),
       h c _ (mem_uc main_v0_2 (by decide)),
       h c _ (mem_uc main_v1_0 (by decide)),
       h c _ (mem_uc main_v1_1 (by decide)),
       h c _ (mem_uc main_v1_2 (by decide)),
       h c _ (mem_uc main_v2_0 (by decide)),
       h c _ (mem_uc main_v2_1 (by decide)),
       h c _ (mem_uc main_v2_2 (by decide)),
       h c _ (mem_uc main_v3_0 (by decide)),
       h c _ (mem_uc main_v3_1 (by decide)),
       h c _ (mem_uc main_v3_2 (by decide))⟩), funext fun g => hz g (.inr (no_unscoped g.2))⟩)

end Cert.Kernel5Ideal.AdamRun

end
-- ==== Proof.RefAdam.lean ====
/- The reference's optimiser, array by array: each result is the change or a moment of one weight, in the numbers the kernel
   uses. -/
module

public import proofs.«01_k».proof.Proof.Gen.Reference5Ideal.Read
public import proofs.«01_k».proof.Proof.Adam
public import Idealize.ShloMosaic.Lib.ValueIdx
public import Idealize.ShloMosaic.Lib.IdealHost

@[expose] public section

set_option maxRecDepth 16384

noncomputable section

namespace Cert.Reference5Ideal.Step

open Cert.Reference5Ideal Cert.Reference5Ideal.Gen Cert.Reference5Ideal.Read Cert.Adam
open Idealize.ShloMosaic Idealize.ShloMosaic.TcCoe Idealize.SL.Sem

theorem delta0_eq (w g m v : (⟨S1024x640, .f32⟩ : BufTy).Contents (Elt Ideal)) :
    val_main_v23 (F := Ideal) w g m v = deltaArr w g m v := rfl

theorem mom0_eq (g m : (⟨S1024x640, .f32⟩ : BufTy).Contents (Elt Ideal)) :
    val_main_v4 (F := Ideal) g m = momArr g m := rfl

theorem var0_eq (g v : (⟨S1024x640, .f32⟩ : BufTy).Contents (Elt Ideal)) :
    val_main_v10 (F := Ideal) g v = varArr g v := rfl

theorem delta1_eq (w g m v : (⟨S256x1024, .f32⟩ : BufTy).Contents (Elt Ideal)) :
    val_main_v47 (F := Ideal) w g m v = deltaArr w g m v := rfl

theorem mom1_eq (g m : (⟨S256x1024, .f32⟩ : BufTy).Contents (Elt Ideal)) :
    val_main_v28 (F := Ideal) g m = momArr g m := rfl

theorem var1_eq (g v : (⟨S256x1024, .f32⟩ : BufTy).Contents (Elt Ideal)) :
    val_main_v34 (F := Ideal) g v = varArr g v := rfl

theorem delta2_eq (w g m v : (⟨S1024x2048, .f32⟩ : BufTy).Contents (Elt Ideal)) :
    val_main_v71 (F := Ideal) w g m v = deltaArr w g m v := rfl

theorem mom2_eq (g m : (⟨S1024x2048, .f32⟩ : BufTy).Contents (Elt Ideal)) :
    val_main_v52 (F := Ideal) g m = momArr g m := rfl

theorem var2_eq (g v : (⟨S1024x2048, .f32⟩ : BufTy).Contents (Elt Ideal)) :
    val_main_v58 (F := Ideal) g v = varArr g v := rfl

theorem delta3_eq (w g m v : (⟨S1024x1024, .f32⟩ : BufTy).Contents (Elt Ideal)) :
    val_main_v95 (F := Ideal) w g m v = deltaArr w g m v := rfl

theorem mom3_eq (g m : (⟨S1024x1024, .f32⟩ : BufTy).Contents (Elt Ideal)) :
    val_main_v76 (F := Ideal) g m = momArr g m := rfl

theorem var3_eq (g v : (⟨S1024x1024, .f32⟩ : BufTy).Contents (Elt Ideal)) :
    val_main_v82 (F := Ideal) g v = varArr g v := rfl

end Cert.Reference5Ideal.Step

end
-- ==== Proof.ClaimsAdam.lean ====
/- The claims of the optimiser's program, one theorem each: the three programs run and leave their arguments alone, and the
   idealized kernel computes what the reference computes. -/
module

public import proofs.«01_k».proof.Defs
public import proofs.«01_k».proof.Proof.AdamChain
public import proofs.«01_k».proof.Proof.AdamRun
public import proofs.«01_k».proof.Proof.RefAdam
public import proofs.«01_k».proof.Proof.Gen.Kernel5.Frame
public import proofs.«01_k».proof.Proof.Gen.Reference5Ideal.Run
public import Idealize.ShloMosaic.Lib.Quiescent
public import Idealize.ShloMosaic.Lib.Claim

@[expose] public section

set_option maxRecDepth 16384

noncomputable section

namespace Cert.Proof.ClaimsAdam

open Idealize.ShloMosaic Idealize.ShloMosaic.TcCoe Idealize.SL.Sem Cert.Adam

theorem frame_p : Cert.quiescent_Kernel5 (hKernel5 := Cert.Kernel5.Gen.facts) := fun m ρ _ => Cert.Kernel5.Gen.frame m ρ

theorem frame_pi : Cert.quiescent_Kernel5Ideal (hKernel5Ideal := Cert.Kernel5Ideal.Gen.facts) :=
  fun m ρ _ => Cert.Kernel5Ideal.Gen.frame m ρ

theorem frame_ri : Cert.quiescent_Reference5Ideal (hReference5Ideal := Cert.Reference5Ideal.Gen.facts) := fun m ρ _ =>
  (θ_run Cert.Reference5Ideal.defs _ _).mono (fun r h => ⟨fun c => (h c).2.2.2.2.2.2.2.2.2.2.2.2,
      Idealize.ShloMosaic.sem_eq_zero_of_no_sems (by decide) r.2⟩)
    (Cert.Reference5Ideal.Value.run (F := Ideal) m ρ)

theorem preserves : Cert.preserves_Kernel5_Kernel5Ideal := trivial

open Cert.Kernel5Ideal Cert.Kernel5Ideal.AdamChain in
/-- The kernel computes the reference's function: the change and the two moments of each weight. -/
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => deltaArr (arg m c main_arg0) (arg m c main_arg1) (arg m c main_arg2) (arg m c main_arg3),
    fun c => momArr (arg m c main_arg1) (arg m c main_arg2),
    fun c => varArr (arg m c main_arg1) (arg m c main_arg3),
    fun c => deltaArr (arg m c main_arg4) (arg m c main_arg5) (arg m c main_arg6) (arg m c main_arg7),
    fun c => momArr (arg m c main_arg5) (arg m c main_arg6),
    fun c => varArr (arg m c main_arg5) (arg m c main_arg7),
    fun c => deltaArr (arg m c main_arg8) (arg m c main_arg9) (arg m c main_arg10) (arg m c main_arg11),
    fun c => momArr (arg m c main_arg9) (arg m c main_arg10),
    fun c => varArr (arg m c main_arg9) (arg m c main_arg11),
    fun c => deltaArr (arg m c main_arg12) (arg m c main_arg13) (arg m c main_arg14) (arg m c main_arg15),
    fun c => momArr (arg m c main_arg13) (arg m c main_arg14),
    fun c => varArr (arg m c main_arg13) (arg m c main_arg15), ?_, ?_⟩
  · refine (θ_run Cert.Kernel5Ideal.defs _ _).mono (fun r h c => ?_) (Cert.Kernel5Ideal.AdamRun.run m ρ)
    obtain ⟨a0, a1, a2, a3, a4, a5, a6, a7, a8, a9, a10, a11, a12, a13, a14, a15, k0, k1, k2, k3, k4, k5, k6, k7, k8, k9, k10, k11⟩ := h.1 c
    exact ⟨k0.trans (delta0_eq m ρ c),
      k1.trans (mom0_eq m ρ c),
      k2.trans (var0_eq m ρ c),
      k3.trans (delta1_eq m ρ c),
      k4.trans (mom1_eq m ρ c),
      k5.trans (var1_eq m ρ c),
      k6.trans (delta2_eq m ρ c),
      k7.trans (mom2_eq m ρ c),
      k8.trans (var2_eq m ρ c),
      k9.trans (delta3_eq m ρ c),
      k10.trans (mom3_eq m ρ c),
      k11.trans (var3_eq m ρ c),
      a0, a1, a2, a3, a4, a5, a6, a7, a8, a9, a10, a11, a12, a13, a14, a15⟩
  · refine (θ_run Cert.Reference5Ideal.defs _ _).mono (fun r h c => ?_) (Cert.Reference5Ideal.Value.run (F := Ideal) m' ρ')
    obtain ⟨r0, r1, r2, r3, r4, r5, r6, r7, r8, r9, r10, r11, a⟩ := h c
    obtain ⟨e0, e1, e2, e3, e4, e5, e6, e7, e8, e9, e10, e11, e12, e13, e14, e15⟩ := hagree c
    exact ⟨r0.trans ((Cert.Reference5Ideal.Read.val_main_v23_eq _ _ _ _).trans
        ((Cert.Reference5Ideal.Step.delta0_eq _ _ _ _).trans (by rw [e0, e1, e2, e3]))),
      r1.trans ((Cert.Reference5Ideal.Read.val_main_v4_eq _ _).trans
        ((Cert.Reference5Ideal.Step.mom0_eq _ _).trans (by rw [e1, e2]))),
      r2.trans ((Cert.Reference5Ideal.Read.val_main_v10_eq _ _).trans
        ((Cert.Reference5Ideal.Step.var0_eq _ _).trans (by rw [e1, e3]))),
      r3.trans ((Cert.Reference5Ideal.Read.val_main_v47_eq _ _ _ _).trans
        ((Cert.Reference5Ideal.Step.delta1_eq _ _ _ _).trans (by rw [e4, e5, e6, e7]))),
      r4.trans ((Cert.Reference5Ideal.Read.val_main_v28_eq _ _).trans
        ((Cert.Reference5Ideal.Step.mom1_eq _ _).trans (by rw [e5, e6]))),
      r5.trans ((Cert.Reference5Ideal.Read.val_main_v34_eq _ _).trans
        ((Cert.Reference5Ideal.Step.var1_eq _ _).trans (by rw [e5, e7]))),
      r6.trans ((Cert.Reference5Ideal.Read.val_main_v71_eq _ _ _ _).trans
        ((Cert.Reference5Ideal.Step.delta2_eq _ _ _ _).trans (by rw [e8, e9, e10, e11]))),
      r7.trans ((Cert.Reference5Ideal.Read.val_main_v52_eq _ _).trans
        ((Cert.Reference5Ideal.Step.mom2_eq _ _).trans (by rw [e9, e10]))),
      r8.trans ((Cert.Reference5Ideal.Read.val_main_v58_eq _ _).trans
        ((Cert.Reference5Ideal.Step.var2_eq _ _).trans (by rw [e9, e11]))),
      r9.trans ((Cert.Reference5Ideal.Read.val_main_v95_eq _ _ _ _).trans
        ((Cert.Reference5Ideal.Step.delta3_eq _ _ _ _).trans (by rw [e12, e13, e14, e15]))),
      r10.trans ((Cert.Reference5Ideal.Read.val_main_v76_eq _ _).trans
        ((Cert.Reference5Ideal.Step.mom3_eq _ _).trans (by rw [e13, e14]))),
      r11.trans ((Cert.Reference5Ideal.Read.val_main_v82_eq _ _).trans
        ((Cert.Reference5Ideal.Step.var3_eq _ _).trans (by rw [e13, e15]))), a⟩

end Cert.Proof.ClaimsAdam

end
-- ==== Proof.Bias.lean ====
/- The bias by distance and the gradient of its table, on extended reals: a number chosen by a bit, as a product with the
   bit's number and as a choice; and a product of a number in three parts, of which on a real number only the first counts. -/
module

public import proofs.«01_k».proof.Proof.GateGrad
public import Idealize.ShloMosaic.Lib.Pointwise

@[expose] public section

set_option maxRecDepth 16384

noncomputable section

namespace Cert.Bias

open Cert.GateGrad
open Idealize.ShloMosaic Idealize.ShloMosaic.TcCoe Idealize.SL.Sem
open scoped BigOperators

/-- Whether a pair of places, whose bucket is `q`, falls into bucket `b`. -/
def hit (q : BitVec 32) (b : ℕ) : BitVec 1 := IntOp.cmpi .eq q (BitVec.ofNat 32 b)

/-- A bit as a number. -/
def hot (h : BitVec 1) : EReal := FloatOps.uitofp (F := Ideal) .bf16 h

/-- The number where the bit is set, else zero. -/
def pick (h : BitVec 1) (x : EReal) : EReal := Scalar.select h x 0

theorem mul_hot (h : BitVec 1) (x : EReal) : x * hot h = pick h x := by
  have e : h = 0#1 ∨ h = 1#1 := by
    rcases h with ⟨⟨v, hv⟩⟩
    have : v = 0 ∨ v = 1 := by omega
    rcases this with rfl | rfl
    · exact .inl rfl
    · exact .inr rfl
  rcases e with rfl | rfl
  · have z : hot 0#1 = 0 := by
      show (((0#1 : BitVec 1).toNat : ℝ) : EReal) = 0
      simp
    rw [z, mul_zero]
    rfl
  · have z : hot 1#1 = 1 := by
      show (((1#1 : BitVec 1).toNat : ℝ) : EReal) = 1
      simp
    rw [z, mul_one]
    rfl

theorem sub_self_real {x : EReal} : IsReal x → x - x = 0
  | ⟨a, ha⟩ => by rw [ha, ← EReal.coe_sub, sub_self, EReal.coe_zero]

/-- The sum of the products with a number in three parts, on real numbers. -/
theorem split_sum {N : ℕ} {x : Fin N → EReal} (hx : ∀ k, IsReal (x k)) (o : Fin N → EReal) :
    ((∑ k, x k * o k) + ∑ k, (x k - x k) * o k) + ∑ k, ((x k - x k) - (x k - x k)) * o k = ∑ k, x k * o k := by
  have h1 : ∑ k, (x k - x k) * o k = 0 := Finset.sum_eq_zero fun k _ => by rw [sub_self_real (hx k), zero_mul]
  have h2 : ∑ k, ((x k - x k) - (x k - x k)) * o k = 0 := Finset.sum_eq_zero fun k _ => by
    rw [sub_self_real (hx k), sub_zero, zero_mul]
  rw [h1, h2, add_zero, add_zero]

/-- The bias of head `h` at pair `r`: the entries of the table, each where the pair falls into its bucket, added up. -/
def bias (rel : Fin 32 → Fin 8 → EReal) (q : Fin 32768 → BitVec 32) (h : Fin 8) (r : Fin 32768) : EReal :=
  ∑ b, pick (hit (q r) b.val) (rel b h)

/-- The gradient of the table's entry: the gradients of the pairs that fall into the bucket, added up. -/
def dRel (q : Fin 32768 → BitVec 32) (d : Fin 8 → Fin 32768 → EReal) (b : Fin 32) (h : Fin 8) : EReal :=
  ∑ r, pick (hit (q r) b.val) (d h r)

end Cert.Bias

end
-- ==== Proof.BiasArrays.lean ====
/- What the calls of the bias by distance write into their blocks and the arrays they leave. -/
module

public import proofs.«01_k».proof.Proof.Gen.Kernel6Ideal.Frame
public import proofs.«01_k».proof.Proof.Bias
public import Idealize.ShloMosaic.Lib.Pointwise
public import Idealize.ShloMosaic.Lib.Pipeline.ValueKit

@[expose] public section

set_option maxRecDepth 16384

noncomputable section

namespace Cert.Kernel6Ideal.BiasArrays

open Cert.Kernel6Ideal Cert.Kernel6Ideal.Gen
open Idealize.ShloMosaic Idealize.ShloMosaic.TcCoe Idealize.SL.Sem
open scoped BigOperators
open Idealize.ShloMosaic.Pipeline (Dat)

/-- Rows against the table of buckets, the rows in three parts. -/
def fwd (x : FVec Ideal S8x32 .f32) (o : FVec Ideal S32x32768 .bf16) : FVec Ideal S8x32768 .f32 := fun y =>
  ((∑ k : Fin 32, x (ix2 (y 0) k) * o (ix2 k (y 1))) + ∑ k : Fin 32, (x (ix2 (y 0) k) - x (ix2 (y 0) k)) * o (ix2 k (y 1)))
    + ∑ k : Fin 32, ((x (ix2 (y 0) k) - x (ix2 (y 0) k)) - (x (ix2 (y 0) k) - x (ix2 (y 0) k))) * o (ix2 k (y 1))

/-- Rows against rows of the table of buckets, the first in three parts. -/
def bwd (x : FVec Ideal S8x32768 .f32) (o : FVec Ideal S32x32768 .bf16) : FVec Ideal S8x32 .f32 := fun y =>
  ((∑ k : Fin 32768, x (ix2 (y 0) k) * o (ix2 (y 1) k))
      + ∑ k : Fin 32768, (x (ix2 (y 0) k) - x (ix2 (y 0) k)) * o (ix2 (y 1) k))
    + ∑ k : Fin 32768, ((x (ix2 (y 0) k) - x (ix2 (y 0) k)) - (x (ix2 (y 0) k) - x (ix2 (y 0) k))) * o (ix2 (y 1) k)

theorem k0_apply (x : FVec Ideal S8x32 .f32) (o : FVec Ideal S32x32768 .bf16) (y : S8x32768.Idx) :
    k0_pay1 (F := Ideal) x o y = fwd x o y := by
  idx_vars y
  unfold fwd
  pointwise [k0_pay1]

theorem k1_apply (x : FVec Ideal S8x32768 .f32) (o : FVec Ideal S32x32768 .bf16) (y : S8x32.Idx) :
    k1_pay1 (F := Ideal) x o o o y = bwd x o y := by
  idx_vars y
  unfold bwd
  pointwise [k1_pay1]

variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

theorem idx1 : ∀ t : Fin cfg1.N, win1_0.index t = ![0, 0] ∧ win1_1.index t = ![0, 0] ∧ win1_2.index t = ![0, 0] :=
  (by decide +kernel : ∀ t : Fin grid1.N, win1_0.index t = ![0, 0] ∧ win1_1.index t = ![0, 0] ∧ win1_2.index t = ![0, 0])

theorem blk0_0 (c : Dev nD) (t : Fin cfg0.N) (a : Fin 8) (k : Fin 32) :
    (iblk0 V c 0 t : Vec Ideal S8x32 .f32) (ix2 a k) = V c main_v6 (ix2 a k) := by
  have e := idx0 t
  blk_ext [iblk0, e.1]

theorem blk0_1 (c : Dev nD) (t : Fin cfg0.N) (k : Fin 32) (r : Fin 32768) :
    (iblk0 V c 1 t : Vec Ideal S32x32768 .bf16) (ix2 k r) = V c main_v5 (ix2 k r) := by
  have e := idx0 t
  blk_ext [iblk0, e.2.1]

theorem blk1_0 (c : Dev nD) (t : Fin cfg1.N) (a : Fin 8) (r : Fin 32768) :
    (iblk1 V c 0 t : Vec Ideal S8x32768 .f32) (ix2 a r) = V c main_arg2 (ix2 a r) := by
  have e := idx1 t
  blk_ext [iblk1, e.1]

theorem blk1_1 (c : Dev nD) (t : Fin cfg1.N) (k : Fin 32) (r : Fin 32768) :
    (iblk1 V c 1 t : Vec Ideal S32x32768 .bf16) (ix2 k r) = V c main_v5 (ix2 k r) := by
  have e := idx1 t
  blk_ext [iblk1, e.2.1]

/-- A block that is a whole array. -/
theorem whole {a b : ℕ} (φ : FTy) {x y : FVec Ideal (⟨2, ![a, b]⟩ : Shape) φ} (h : ∀ p q, x (ix2 p q) = y (ix2 p q)) : x = y :=
  funext fun i => by rw [eq_ix2 i]; exact h _ _

theorem arr0 (c : Dev nD) : (dat0 V c).arrAt 2 cfg0.N = fwd (V c main_v6) (V c main_v5) := by
  refine (dat0 V c).arrAt_eq_of_covers 2 _ (by decide +kernel) fun t hf y => ?_
  blk_simp
  rw [after0_2]
  frame_out
  refine (k0_apply _ _ y).trans ?_
  rw [show (iblk0 V c 0 t : Vec Ideal S8x32 .f32) = V c main_v6 from whole .f32 (blk0_0 V c t),
    show (iblk0 V c 1 t : Vec Ideal S32x32768 .bf16) = V c main_v5 from whole .bf16 (blk0_1 V c t)]
  have e := idx0 t
  refine congrArg (fwd (V c main_v6) (V c main_v5)) ?_
  blk_ext [e.2.2]

theorem arr1 (c : Dev nD) : (dat1 V c).arrAt 2 cfg1.N = bwd (V c main_arg2) (V c main_v5) := by
  refine (dat1 V c).arrAt_eq_of_covers 2 _ (by decide +kernel) fun t hf y => ?_
  blk_simp
  rw [after1_2]
  frame_out
  refine (k1_apply _ _ y).trans ?_
  rw [show (iblk1 V c 0 t : Vec Ideal S8x32768 .f32) = V c main_arg2 from whole .f32 (blk1_0 V c t),
    show (iblk1 V c 1 t : Vec Ideal S32x32768 .bf16) = V c main_v5 from whole .bf16 (blk1_1 V c t)]
  have e := idx1 t
  refine congrArg (bwd (V c main_arg2) (V c main_v5)) ?_
  blk_ext [e.2.2]

end Cert.Kernel6Ideal.BiasArrays

end
-- ==== Proof.BiasChain.lean ====
/- The results of the bias's program from its arguments: the bias and the gradient of the table, entry by entry. -/
module

public import proofs.«01_k».proof.Proof.BiasArrays
public import Idealize.ShloMosaic.Lib.StableHlo.ReadAt

@[expose] public section

set_option maxRecDepth 16384

noncomputable section

namespace Cert.Kernel6Ideal.BiasChain

open Cert.Kernel6Ideal Cert.Kernel6Ideal.Gen Cert.Kernel6Ideal.BiasArrays Cert.GateGrad Cert.Bias
open Idealize.ShloMosaic Idealize.ShloMosaic.TcCoe Idealize.SL.Sem
open scoped BigOperators

variable (m : (ℓ : Loc nD τ sig) → Buf (Elt Ideal) ℓ) (ρ : Dev nD → PrngReg) (c : Dev nD)

/-- The table on device `c`. -/
def rel (b : Fin 32) (h : Fin 8) : EReal := m ((c : Thread nD τ).loc main_arg0) (ix2 b h)

/-- The buckets of the pairs on device `c`. -/
def bucket (r : Fin 32768) : BitVec 32 := m ((c : Thread nD τ).loc main_arg1) (ix2 0 r)

/-- The bias's gradient on device `c`. -/
def dBias (h : Fin 8) (r : Fin 32768) : EReal := m ((c : Thread nD τ).loc main_arg2) (ix2 h r)

theorem in_rel (h : Fin 8) (b : Fin 32) : V1 m ρ c main_v6 (ix2 h b) = rel m c b h := by
  show StableHlo.after hostOps0 (W0 m ρ c) (Proc.devRef .tc main_v6) (ix2 h b) = _
  unfold hostOps0
  after_reads_at
  rfl

theorem in_hot (b : Fin 32) (r : Fin 32768) : V1 m ρ c main_v5 (ix2 b r) = hot (hit (bucket m c r) b.val) := by
  show StableHlo.after hostOps0 (W0 m ρ c) (Proc.devRef .tc main_v5) (ix2 b r) = _
  unfold hostOps0
  after_reads_at
  rfl

/-- The bias. -/
theorem bias_eq (hr : ∀ b h, IsReal (rel m c b h)) (h : Fin 8) (r : Fin 32768) :
    W4 m ρ c (Proc.devRef .tc main_v7) (ix2 h r) = bias (rel m c) (bucket m c) h r := by
  refine (congrFun ((W4_of m ρ c main_v7 (by decide)).trans ((W3_of m ρ c main_v7 (by decide)).trans
    ((W2_arr m ρ c 2).trans (arr0 (V1 m ρ) c)))) (ix2 h r)).trans ?_
  have e : ∀ k, V1 m ρ c main_v6 (ix2 h k) = rel m c k h := fun k => in_rel m ρ c h k
  refine (split_sum (x := fun k => V1 m ρ c main_v6 (ix2 h k)) (fun k => (e k) ▸ hr k h)
    (fun k => V1 m ρ c main_v5 (ix2 k r))).trans (Finset.sum_congr rfl fun k _ => ?_)
  exact (congrArg₂ (fun a b : EReal => a * b) (e k) (in_hot m ρ c k r)).trans (mul_hot _ _)

theorem in_grad (h : Fin 8) (r : Fin 32768) : V2 m ρ c main_arg2 (ix2 h r) = dBias m c h r :=
  congrFun (W2_args m ρ c main_arg2 (by decide)) (ix2 h r)

theorem in_hot2 (b : Fin 32) (r : Fin 32768) : V2 m ρ c main_v5 (ix2 b r) = hot (hit (bucket m c r) b.val) :=
  (congrFun (W2_of m ρ c main_v5 (by decide)) (ix2 b r)).trans (in_hot m ρ c b r)

theorem grad_eq (hd : ∀ h r, IsReal (dBias m c h r)) (h : Fin 8) (b : Fin 32) :
    V3 m ρ c main_v8 (ix2 h b) = dRel (bucket m c) (dBias m c) b h := by
  refine (congrFun ((W3_arr m ρ c 2).trans (arr1 (V2 m ρ) c)) (ix2 h b)).trans ?_
  have e : ∀ k, V2 m ρ c main_arg2 (ix2 h k) = dBias m c h k := fun k => in_grad m ρ c h k
  refine (split_sum (x := fun k => V2 m ρ c main_arg2 (ix2 h k)) (fun k => (e k) ▸ hd h k)
    (fun k => V2 m ρ c main_v5 (ix2 b k))).trans (Finset.sum_congr rfl fun k _ => ?_)
  exact (congrArg₂ (fun a b : EReal => a * b) (e k) (in_hot2 m ρ c b k)).trans (mul_hot _ _)

/-- The gradient of the table. -/
theorem dRel_eq (hd : ∀ h r, IsReal (dBias m c h r)) (b : Fin 32) (h : Fin 8) :
    W4 m ρ c (Proc.devRef .tc main_v9) (ix2 b h) = dRel (bucket m c) (dBias m c) b h := by
  refine Eq.trans ?_ (grad_eq m ρ c hd h b)
  show StableHlo.after hostOps2 (W3 m ρ c) (Proc.devRef .tc main_v9) (ix2 b h) = _
  unfold hostOps2
  after_reads_at

end Cert.Kernel6Ideal.BiasChain

end
-- ==== Proof.FiniteBias.lean ====
/- What the bias's precondition says: every entry of the table and of the bias's gradient is a real number. -/
module

public import proofs.«01_k».proof.Proof.Finite
public import proofs.«01_k».proof.Proof.BiasChain
public import proofs.«01_k».proof.Defs

@[expose] public section

set_option maxRecDepth 16384

noncomputable section

namespace Cert.FiniteBias

open Cert.GateGrad Cert.Pre_finite_arguments6
open Idealize.ShloMosaic Idealize.ShloMosaic.TcCoe Idealize.SL.Sem

/-- The shape relations of the precondition's operations. -/
theorem facts : Cert.Pre_finite_arguments6.Facts where
  bcast_S_S32x8 := by decide
  reducesTo_S32x8_S_d0_1 := by decide
  h_S_ := by decide
  bcast_S_S8x32768 := by decide
  reducesTo_S8x32768_S_d0_1 := by decide

/-- The precondition's function being one makes every entry of the table and of the gradient real. -/
theorem all_real [Cert.Pre_finite_arguments6.Facts] (x0 : FVec Ideal S32x8 .f32) (x1 : IVec S1x32768 32)
    (x2 : FVec Ideal S8x32768 .f32) (h : Cert.Pre_finite_arguments6.fn (F := Ideal) x0 x1 x2 = fun _ => 1#1) :
    (∀ i, IsReal (x0 i)) ∧ ∀ i, IsReal (x2 i) := by
  have h0 := congrFun h (Shape.Idx.first Facts.h_S_)
  unfold Cert.Pre_finite_arguments6.fn at h0
  obtain ⟨h0, h1⟩ := IntOp.andi_eq_one.1 h0
  exact ⟨Cert.Finite.isReal_of_all x0 _ _ _ _ h0, Cert.Finite.isReal_of_all x2 _ _ _ _ h1⟩

/-- The precondition makes the entries of the table and of the gradient real. -/
theorem real (m : (ℓ : Loc Cert.Kernel6Ideal.nD Cert.Kernel6Ideal.τ Cert.Kernel6Ideal.sig) → Buf (Elt Ideal) ℓ)
    (h : Cert.Pre_Kernel6Ideal_finite_arguments6 (hPre_finite_arguments6 := facts) m) (c : Dev Cert.Kernel6Ideal.nD) :
    (∀ b h, IsReal (Cert.Kernel6Ideal.BiasChain.rel m c b h)) ∧ ∀ h r, IsReal (Cert.Kernel6Ideal.BiasChain.dBias m c h r) := by
  obtain ⟨h0, h2⟩ := @all_real facts _ _ _ (h c)
  exact ⟨fun _ _ => h0 _, fun _ _ => h2 _⟩

end Cert.FiniteBias

end
-- ==== Proof.BiasRun.lean ====
/- The run of the bias's program: every argument is as it was, every counter is zero, and each result is what the last call left of it. -/
module

public import proofs.«01_k».proof.Proof.Gen.Kernel6Ideal.Frame
public import Idealize.ShloMosaic.Lib.Pipeline.ValueKit

@[expose] public section

set_option maxRecDepth 16384

noncomputable section

namespace Cert.Kernel6Ideal.BiasRun

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- The run of the program from any memory. -/
theorem run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v7) = W4 m ρ c (Proc.devRef .tc main_v7)
      ∧ r.2.mem ((c.tc : Thread nD τ).loc main_v9) = W4 m ρ c (Proc.devRef .tc main_v9))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       h c _ (mem_uc main_v7 (by decide)),
       h c _ (mem_uc main_v9 (by decide))⟩), funext fun g => hz g (.inr (no_unscoped g.2))⟩)

end Cert.Kernel6Ideal.BiasRun

end
-- ==== Proof.RefBias.lean ====
/- The reference's bias by distance and the gradient of its table, entry by entry. -/
module

public import proofs.«01_k».proof.Proof.Gen.Reference6Ideal.Read
public import proofs.«01_k».proof.Proof.Bias
public import proofs.«01_k».proof.Proof.RefForward
public import proofs.«01_k».proof.Proof.RefLoss
public import Idealize.ShloMosaic.Lib.ValueIdx
public import Idealize.ShloMosaic.Lib.IdealHost

@[expose] public section

set_option maxRecDepth 16384

noncomputable section

namespace Cert.Reference6Ideal.Bias

open Cert.Reference6Ideal Cert.Reference6Ideal.Gen Cert.Reference6Ideal.Read Cert.Bias
open Cert.ReferenceIdeal.Forward (ix2_of)
open Cert.Reference4Ideal.Loss (init_sum)
open Idealize.ShloMosaic Idealize.ShloMosaic.TcCoe Idealize.SL.Sem
open scoped BigOperators

variable (x0 : (⟨S32x8, .f32⟩ : BufTy).Contents (Elt Ideal)) (x1 : (⟨S1x32768, .i32⟩ : BufTy).Contents (Elt Ideal))
  (x2 : (⟨S8x32768, .f32⟩ : BufTy).Contents (Elt Ideal))

/-- Whether the pair falls into the bucket. -/
theorem hit_eq (i : S8x32x32768.Idx) : val_main_v8_1 (F := Ideal) x1 i = hit (x1 (ix2 0 (i 2))) (i 1).val := by
  rw [val_main_v8_1_apply, val_main_v5_apply, val_main_v4_apply, val_main_v2_apply, val_main_v3_apply, val_main_v1_apply,
    val_main_v0_apply]
  exact congrArg (fun a => IntOp.cmpi .eq (x1 a) _) (ix2_of rfl rfl)

theorem bias_eq (h : Fin 8) (r : Fin 32768) : val_main_v9 (F := Ideal) x0 x1 (ix2 h r)
    = bias (fun b h => x0 (ix2 b h)) (fun r => x1 (ix2 0 r)) h r := by
  rw [val_main_v9_apply]
  refine init_sum rfl (Finset.sum_congr rfl fun b _ => ?_)
  rw [val_main_v8_0_apply, hit_eq, val_main_call0_v2_apply, val_main_v7_apply, val_main_v6_apply, val_main_call0_v3_apply,
    val_main_call0_v0_apply, val_main_cst_apply]
  exact congrArg₂ (fun a z : EReal => Scalar.select (hit (x1 (ix2 0 r)) b.val) a z) (congrArg x0 (ix2_of rfl rfl)) (Ideal.ofBits_zero .f32)

theorem term_eq (i : S8x32x32768.Idx) : val_main_call1_v1 (F := Ideal) x1 x2 i
    = pick (hit (x1 (ix2 0 (i 2))) (i 1).val) (x2 (ix2 (i 0) (i 2))) := by
  rw [val_main_call1_v1_apply, hit_eq, val_main_v10_apply, val_main_call1_v0_apply, val_main_call1_cst_apply]
  exact congrArg₂ (fun a z : EReal => Scalar.select (hit (x1 (ix2 0 (i 2))) (i 1).val) a z) (congrArg x2 (ix2_of rfl rfl))
    (Ideal.ofBits_zero .f32)

theorem dRel_eq (b : Fin 32) (h : Fin 8) : val_main_v13 (F := Ideal) x1 x2 (ix2 b h)
    = dRel (fun r => x1 (ix2 0 r)) (fun h r => x2 (ix2 h r)) b h := by
  rw [val_main_v13_apply, val_main_v12_apply]
  refine init_sum rfl (Fin.sum_univ_one _ |>.trans ?_)
  rw [val_main_v11_apply, val_main_call1_v2_apply]
  refine init_sum rfl (Finset.sum_congr rfl fun r _ => ?_)
  rw [term_eq]
  rfl

end Cert.Reference6Ideal.Bias

end
-- ==== Proof.ClaimsBias.lean ====
/- The claims of the bias's program, one theorem each: the three programs run and leave their arguments alone, and the
   idealized kernel computes what the reference computes. -/
module

public import proofs.«01_k».proof.Proof.FiniteBias
public import proofs.«01_k».proof.Proof.BiasRun
public import proofs.«01_k».proof.Proof.RefBias
public import proofs.«01_k».proof.Proof.Gen.Kernel6.Frame
public import proofs.«01_k».proof.Proof.Gen.Reference6Ideal.Run
public import Idealize.ShloMosaic.Lib.Quiescent
public import Idealize.ShloMosaic.Lib.Claim

@[expose] public section

set_option maxRecDepth 16384

noncomputable section

namespace Cert.Proof.ClaimsBias

open Idealize.ShloMosaic Idealize.ShloMosaic.TcCoe Idealize.SL.Sem Cert.GateGrad
open Cert.ReferenceIdeal.Forward (ix2_of)

theorem frame_p : Cert.quiescent_Kernel6 (hKernel6 := Cert.Kernel6.Gen.facts) := fun m ρ _ => Cert.Kernel6.Gen.frame m ρ

theorem frame_pi : Cert.quiescent_Kernel6Ideal (hKernel6Ideal := Cert.Kernel6Ideal.Gen.facts) :=
  fun m ρ _ => Cert.Kernel6Ideal.Gen.frame m ρ

theorem frame_pi_pre : Cert.quiescent_Kernel6Ideal_pre_finite_arguments6 (hKernel6Ideal := Cert.Kernel6Ideal.Gen.facts)
    (hPre_finite_arguments6 := Cert.FiniteBias.facts) :=
  fun m ρ _ => Cert.Kernel6Ideal.Gen.frame m ρ

theorem frame_ri : Cert.quiescent_Reference6Ideal (hReference6Ideal := Cert.Reference6Ideal.Gen.facts) := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

theorem frame_ri_pre : Cert.quiescent_Reference6Ideal_pre_finite_arguments6 (hReference6Ideal := Cert.Reference6Ideal.Gen.facts)
    (hPre_finite_arguments6 := Cert.FiniteBias.facts) :=
  fun m ρ _ => frame_ri m ρ trivial

theorem preserves : Cert.preserves_Kernel6_Kernel6Ideal := trivial

open Cert.Kernel6Ideal Cert.Kernel6Ideal.Gen Cert.Kernel6Ideal.BiasChain in
/-- The kernel computes the reference's function: the bias and the gradient of its table. -/
theorem algebraic : Cert.algebraic_Kernel6Ideal_Reference6Ideal_pre_finite_arguments6 (hKernel6Ideal := Cert.Kernel6Ideal.Gen.facts)
    (hReference6Ideal := Cert.Reference6Ideal.Gen.facts) (hPre_finite_arguments6 := Cert.FiniteBias.facts) := by
  intro m ρ m' ρ' hpre hagree
  refine ⟨fun c => W4 m ρ c (Proc.devRef .tc main_v7), fun c => W4 m ρ c (Proc.devRef .tc main_v9), ?_, ?_⟩
  · refine (θ_run Cert.Kernel6Ideal.defs _ _).mono (fun r h c => ?_) (Cert.Kernel6Ideal.BiasRun.run m ρ)
    obtain ⟨a0, a1, a2, r0, r1⟩ := h.1 c
    exact ⟨r0, r1, a0, a1, a2⟩
  · refine (θ_run Cert.Reference6Ideal.defs _ _).mono (fun r h c => ?_) (Cert.Reference6Ideal.Value.run (F := Ideal) m' ρ')
    obtain ⟨r0, r1, a⟩ := h c
    obtain ⟨e0, e1, e2⟩ := hagree c
    obtain ⟨hr, hd⟩ := Cert.FiniteBias.real m hpre c
    refine ⟨r0.trans ((Cert.Reference6Ideal.Read.val_main_v9_eq _ _).trans ?_),
      r1.trans ((Cert.Reference6Ideal.Read.val_main_v13_eq _ _).trans ?_), a⟩
    · rw [e0, e1]
      funext i
      obtain ⟨p, q, rfl⟩ : ∃ p q, i = ix2 p q := ⟨i 0, i 1, ix2_of rfl rfl⟩
      exact (Cert.Reference6Ideal.Bias.bias_eq _ _ p q).trans (bias_eq m ρ c hr p q).symm
    · rw [e1, e2]
      funext i
      obtain ⟨p, q, rfl⟩ : ∃ p q, i = ix2 p q := ⟨i 0, i 1, ix2_of rfl rfl⟩
      exact (Cert.Reference6Ideal.Bias.dRel_eq _ _ p q).trans (dRel_eq m ρ c hd p q).symm

end Cert.Proof.ClaimsBias

end
-- ==== Proof.Parts.lean ====
/- The gradient of the input projection's result from those of its parts: the queries', the keys' and values', and the RWKV
   columns' after the token shift, which mixes each row with the row before it. -/
module

public import proofs.«01_k».proof.Proof.GateGrad
public import Idealize.ShloMosaic.Lib.Pointwise

@[expose] public section

set_option maxRecDepth 16384

noncomputable section

namespace Cert.Parts

open Cert.GateGrad Cert.Ffn
open Idealize.ShloMosaic Idealize.ShloMosaic.TcCoe Idealize.SL.Sem
open scoped BigOperators

/-- The entries of the arguments: the gradients of the queries, of the keys and values, of the shifted RWKV columns, and the
share of the row before in each of those columns. -/
structure Args where
  Q : Fin 2048 → Fin 512 → EReal
  KV : Fin 2048 → Fin 256 → EReal
  S : Fin 2048 → Fin 1792 → EReal
  M : Fin 1792 → EReal

/-- The gradient of one column before the token shift: each row's own share, and the next row's share of it. -/
def back (s : Fin 2048 → EReal) (m : EReal) (t : Fin 2048) : EReal := s t * (1 - m) + up s 1 t * m

/-- Three rows side by side. -/
def cat (q : Fin 512 → EReal) (kv : Fin 256 → EReal) (p : Fin 1792 → EReal) (j : Fin 2560) : EReal :=
  if h : j.val < 512 then q ⟨j.val, h⟩
  else if h' : j.val < 768 then kv ⟨j.val - 512, by omega⟩
  else p ⟨j.val - 768, by omega⟩

/-- The gradient of the projection's result. -/
def dProj (A : Args) (t : Fin 2048) (j : Fin 2560) : EReal :=
  cat (A.Q t) (A.KV t) (fun n => back (fun t => A.S t n) (A.M n) t) j

/-- Three arrays side by side, read at an entry. -/
theorem concatenate_eq {R : ℕ} (x0 : (⟨2, ![R, 512]⟩ : Shape).Idx → EReal) (x1 : (⟨2, ![R, 256]⟩ : Shape).Idx → EReal)
    (x2 : (⟨2, ![R, 1792]⟩ : Shape).Idx → EReal)
    (h : Shape.Concatenates [⟨2, ![R, 512]⟩, ⟨2, ![R, 256]⟩, ⟨2, ![R, 1792]⟩] ⟨2, ![R, 2560]⟩ 1) (r : Fin R) (j : Fin 2560) :
    concatenate (⟨2, ![R, 2560]⟩ : Shape) 1 [⟨⟨2, ![R, 512]⟩, x0⟩, ⟨⟨2, ![R, 256]⟩, x1⟩, ⟨⟨2, ![R, 1792]⟩, x2⟩] h (ix2 r j)
      = cat (fun k => x0 (ix2 r k)) (fun k => x1 (ix2 r k)) (fun k => x2 (ix2 r k)) j := by
  unfold cat
  by_cases h0 : j.val < 512
  · rw [dif_pos h0]
    refine concatenate_apply_piece (t := ⟨2, ![R, 2560]⟩) 1 [⟨⟨2, ![R, 512]⟩, x0⟩, ⟨⟨2, ![R, 256]⟩, x1⟩, ⟨⟨2, ![R, 1792]⟩, x2⟩] h (ix2 r j) 0 (by simp) _ x0 rfl rfl 0 rfl (ix2 r ⟨j.val, h0⟩) ?_ ?_
    · intro b hb
      match b with
      | ⟨0, _⟩ => rfl
      | ⟨1, _⟩ => exact absurd rfl hb
    · show 0 + j.val = j.val
      omega
  · rw [dif_neg h0]
    by_cases h1 : j.val < 768
    · rw [dif_pos h1]
      refine concatenate_apply_piece (t := ⟨2, ![R, 2560]⟩) 1 [⟨⟨2, ![R, 512]⟩, x0⟩, ⟨⟨2, ![R, 256]⟩, x1⟩, ⟨⟨2, ![R, 1792]⟩, x2⟩] h (ix2 r j) 1 (by simp) _ x1 rfl rfl 512 rfl (ix2 r ⟨j.val - 512, by omega⟩) ?_ ?_
      · intro b hb
        match b with
        | ⟨0, _⟩ => rfl
        | ⟨1, _⟩ => exact absurd rfl hb
      · show 512 + (j.val - 512) = j.val
        omega
    · rw [dif_neg h1]
      refine concatenate_apply_piece (t := ⟨2, ![R, 2560]⟩) 1 [⟨⟨2, ![R, 512]⟩, x0⟩, ⟨⟨2, ![R, 256]⟩, x1⟩, ⟨⟨2, ![R, 1792]⟩, x2⟩] h (ix2 r j) 2 (by simp) _ x2 rfl rfl 768 rfl (ix2 r ⟨j.val - 768, by omega⟩) ?_ ?_
      · intro b hb
        match b with
        | ⟨0, _⟩ => rfl
        | ⟨1, _⟩ => exact absurd rfl hb
      · show 768 + (j.val - 768) = j.val
        omega

/-- A row's own share, as the row less the share taken from it. -/
theorem own {x : EReal} (m : EReal) : IsReal x → x + -(x * m) = x * (1 - m)
  | ⟨a, ha⟩ => by
    subst ha
    induction m with
    | bot =>
      rw [show (1 : EReal) - ⊥ = ⊤ from EReal.coe_sub_bot 1]
      rcases lt_trichotomy a 0 with h | rfl | h
      · rw [EReal.coe_mul_bot_of_neg h, EReal.coe_mul_top_of_neg h, EReal.neg_top, EReal.add_bot]
      · rw [EReal.coe_zero, zero_mul, zero_mul, neg_zero, add_zero]
      · rw [EReal.coe_mul_bot_of_pos h, EReal.coe_mul_top_of_pos h, EReal.neg_bot, EReal.coe_add_top]
    | top =>
      rw [EReal.sub_top]
      rcases lt_trichotomy a 0 with h | rfl | h
      · rw [EReal.coe_mul_bot_of_neg h, EReal.coe_mul_top_of_neg h, EReal.neg_bot, EReal.coe_add_top]
      · rw [EReal.coe_zero, zero_mul, zero_mul, neg_zero, add_zero]
      · rw [EReal.coe_mul_bot_of_pos h, EReal.coe_mul_top_of_pos h, EReal.neg_top, EReal.add_bot]
    | coe b =>
      rw [← EReal.coe_one, ← EReal.coe_mul, ← EReal.coe_neg, ← EReal.coe_add, ← EReal.coe_sub, ← EReal.coe_mul]
      exact congrArg _ (by ring)

theorem up_mul (s : Fin 2048 → EReal) (m : EReal) (t : Fin 2048) : up (fun t => s t * m) 1 t = up s 1 t * m := by
  unfold up
  by_cases h : t.val + 1 < 2048
  · rw [dif_pos h, dif_pos h]
  · rw [dif_neg h, dif_neg h, zero_mul]

end Cert.Parts

end
-- ==== Proof.PartsArrays.lean ====
/- What the call of the projection's parts writes into its blocks and the array it leaves. -/
module

public import proofs.«01_k».proof.Proof.Gen.Kernel7Ideal.Frame
public import proofs.«01_k».proof.Proof.Parts
public import Idealize.ShloMosaic.Lib.Pointwise
public import Idealize.ShloMosaic.Lib.WordCmp
public import Idealize.ShloMosaic.Lib.Pipeline.ValueKit

@[expose] public section

set_option maxRecDepth 16384

noncomputable section

namespace Cert.Kernel7Ideal.PartsArrays

open Cert.Kernel7Ideal Cert.Kernel7Ideal.Gen Cert.Parts Cert.Ffn
open Idealize.ShloMosaic Idealize.ShloMosaic.TcCoe Idealize.ShloMosaic.WordCmp Idealize.SL.Sem
open scoped BigOperators
open Idealize.ShloMosaic.Pipeline (Dat)

/-- The next row's entry in a block: the next row of the block, and for the last row the row that follows the block, or zero
after the last block. -/
def nxt (i : grid0.Coords) (x : Vec Ideal S256x1792 .f32) (z : Vec Ideal S1x1792 .f32) (r : Fin 256) (n : Fin 1792) : EReal :=
  Scalar.select (IntOp.cmpi .eq (BitVec.ofNat 32 r.val) 255#32)
    (Scalar.select (IntOp.cmpi .slt (BitVec.ofNat 32 (i 0).val) 7#32) (z (ix2 0 n)) 0)
    (x (ix2 ⟨(r.val + 256 - 255) % 256, Nat.mod_lt _ (by norm_num)⟩ n))

theorem pay_apply (i : grid0.Coords) (x : Vec Ideal S256x1792 .f32) (m z : Vec Ideal S1x1792 .f32) (q : Vec Ideal S256x512 .f32)
    (kv : Vec Ideal S256x256 .f32) (r : Fin 256) (j : Fin 2560) :
    k0_pay1 (F := Ideal) i x m z q kv (ix2 r j) = cat (fun k => q (ix2 r k)) (fun k => kv (ix2 r k))
      (fun n => x (ix2 r n) * (1 - m (ix2 0 n)) + nxt i x z r n * m (ix2 0 n)) j := by
  unfold k0_pay1
  refine (concatenate_eq q kv _ concatenates_S256x512_S256x256_S256x1792_S256x2560_d1 r j).trans (congrArg (fun p => cat (fun k => q (ix2 r k)) (fun k => kv (ix2 r k)) p j) (funext fun n => ?_))
  unfold nxt
  pointwise
  rfl

variable (m : (ℓ : Loc nD τ sig) → Buf (Elt Ideal) ℓ)

/-- The entries of core `c`'s arguments. -/
def args (c : Dev nD) : Args where
  Q t k := m ((c : Thread nD τ).loc main_arg0) (ix2 t k)
  KV t k := m ((c : Thread nD τ).loc main_arg1) (ix2 t k)
  S t n := m ((c : Thread nD τ).loc main_arg2) (ix2 t n)
  M n := m ((c : Thread nD τ).loc main_arg3) (ix2 0 n)

/-- The row of the arrays that row `r` of block `t` is. -/
def row (t : Fin cfg0.N) (r : Fin 256) : Fin 2048 := ⟨t.val * 256 + r.val, Fin.mul_add_lt_of_eq_mul (S := cfg0.N) (by decide +kernel) t r⟩

/-- The block of eight rows that begins with the row after block `t`, or the last one. -/
def after (t : ℕ) : ℕ := if t < 7 then (t + 1) * 32 else 255

theorem after_lt (t : ℕ) : after t * 8 + 0 < 2048 := by
  unfold after; split <;> omega

theorem idx0 : ∀ t : Fin cfg0.N, win0_0.index t = ![t.val, 0] ∧ win0_1.index t = ![t.val, 0] ∧ win0_2.index t = ![t.val, 0]
    ∧ win0_3.index t = ![after t.val, 0] ∧ win0_4.index t = ![0, 0] ∧ win0_5.index t = ![t.val, 0] :=
  (by decide +kernel : ∀ t : Fin grid0.N, win0_0.index t = ![t.val, 0] ∧ win0_1.index t = ![t.val, 0] ∧ win0_2.index t = ![t.val, 0]
    ∧ win0_3.index t = ![after t.val, 0] ∧ win0_4.index t = ![0, 0] ∧ win0_5.index t = ![t.val, 0])

theorem coord0 : ∀ t : Fin cfg0.N, (grid0.coords t 0).val = t.val :=
  (by decide +kernel : ∀ t : Fin grid0.N, (grid0.coords t 0).val = t.val)

theorem blk0 (c : Dev nD) (t : Fin cfg0.N) (r : Fin 256) (k : Fin 512) :
    (iblk m c 0 t : Vec Ideal S256x512 .f32) (ix2 r k) = (args m c).Q (row t r) k := by
  have e := idx0 t
  unfold args row
  blk_ext [iblk, V, e.1]

theorem blk1 (c : Dev nD) (t : Fin cfg0.N) (r : Fin 256) (k : Fin 256) :
    (iblk m c 1 t : Vec Ideal S256x256 .f32) (ix2 r k) = (args m c).KV (row t r) k := by
  have e := idx0 t
  unfold args row
  blk_ext [iblk, V, e.2.1]

theorem blk2 (c : Dev nD) (t : Fin cfg0.N) (r : Fin 256) (n : Fin 1792) :
    (iblk m c 2 t : Vec Ideal S256x1792 .f32) (ix2 r n) = (args m c).S (row t r) n := by
  have e := idx0 t
  unfold args row
  blk_ext [iblk, V, e.2.2.1]

theorem blk3 (c : Dev nD) (t : Fin cfg0.N) (n : Fin 1792) :
    (View.ld (iblk m c 3 t : Vec Ideal S8x1792 .f32) r0_2 : Vec Ideal S1x1792 .f32) (ix2 0 n)
      = (args m c).S ⟨after t.val * 8 + 0, after_lt t.val⟩ n := by
  have e := idx0 t
  unfold args
  rw [View.ld_apply]
  blk_ext [iblk, V, e.2.2.2.1, Rect.idx_unit_val]

theorem blk4 (c : Dev nD) (t : Fin cfg0.N) (n : Fin 1792) :
    (iblk m c 4 t : Vec Ideal S1x1792 .f32) (ix2 0 n) = (args m c).M n := by
  have e := idx0 t
  unfold args
  blk_ext [iblk, V, e.2.2.2.2.1]

/-- The next row's entry in a block is the next row's entry in the array. -/
theorem nxt_eq (c : Dev nD) (t : Fin cfg0.N) (r : Fin 256) (n : Fin 1792) :
    nxt (grid0.coords t) (iblk m c 2 t) (View.ld (iblk m c 3 t : Vec Ideal S8x1792 .f32) r0_2) r n
      = up (fun t => (args m c).S t n) 1 (row t r) := by
  have ht : t.val < 8 := lt_of_lt_of_eq t.isLt N_0
  unfold nxt up
  rw [blk3, blk2, coord0, cmpi_slt_ofNat (a := t.val) (b := 7) (by omega) (by omega), Scalar.select_ofBool,
    cmpi_eq_ofNat (a := r.val) (b := 255) (by omega) (by omega), Scalar.select_ofBool]
  have hr : (row t r).val = t.val * 256 + r.val := rfl
  by_cases h1 : r.val = 255
  · rw [if_pos (by simpa using h1)]
    by_cases h2 : t.val < 7
    · rw [if_pos (by simpa using h2), dif_pos (by omega)]
      refine congrArg (fun a => (args m c).S a n) (Fin.ext ?_)
      show after t.val * 8 + 0 = (row t r).val + 1
      unfold after
      rw [if_pos h2]
      omega
    · rw [if_neg (by simpa using h2), dif_neg (by omega)]
  · rw [if_neg (by simpa using h1), dif_pos (by omega)]
    refine congrArg (fun a => (args m c).S a n) (Fin.ext ?_)
    show t.val * 256 + (r.val + 256 - 255) % 256 = (row t r).val + 1
    omega

/-- The gradient of the projection's result, of one block. -/
theorem blk_out (c : Dev nD) (t : Fin cfg0.N) (y : S256x2560.Idx) :
    k0_pay1 (F := Ideal) (grid0.coords t) (iblk m c 2 t) (iblk m c 4 t) (View.ld (iblk m c 3 t : Vec Ideal S8x1792 .f32) r0_2)
      (iblk m c 0 t) (iblk m c 1 t) y = dProj (args m c) (row t (y 0)) (y 1) := by
  obtain ⟨r, j, rfl⟩ : ∃ r j, y = ix2 r j := ⟨y 0, y 1, eq_ix2 y⟩
  refine (pay_apply _ _ _ _ _ _ r j).trans ?_
  unfold dProj back
  refine congr (congr (congr (congrArg cat (funext fun k => blk0 m c t r k)) (funext fun k => blk1 m c t r k)) (funext fun n => ?_)) rfl
  rw [blk2, blk4, nxt_eq]
  rfl

/-- The array of the result. -/
theorem arr5 (c : Dev nD) : (dats m 0 c).arrAt 5 cfg0.N = fun y : S2048x2560.Idx => dProj (args m c) (y 0) (y 1) := by
  refine (dats m 0 c).arrAt_eq_of_covers 5 _ (by decide +kernel) fun t hf y => ?_
  blk_simp
  rw [after0_5]
  have e := idx0 t
  frame_out
  refine (blk_out m c t y).trans ?_
  show (fun y : S2048x2560.Idx => dProj (args m c) (y 0) (y 1)) (ix2 (row t (y 0)) (y 1)) = _
  refine congrArg (fun y : S2048x2560.Idx => dProj (args m c) (y 0) (y 1)) ?_
  blk_ext [row, e.2.2.2.2.2]

end Cert.Kernel7Ideal.PartsArrays

end
-- ==== Proof.FiniteParts.lean ====
/- What the precondition of the projection's parts says: every entry of the shifted columns' gradient is a real
   number. -/
module

public import proofs.«01_k».proof.Proof.Finite
public import proofs.«01_k».proof.Proof.PartsArrays
public import proofs.«01_k».proof.Defs

@[expose] public section

set_option maxRecDepth 16384

noncomputable section

namespace Cert.FiniteParts

open Cert.GateGrad Cert.Pre_finite_arguments7
open Idealize.ShloMosaic Idealize.ShloMosaic.TcCoe Idealize.SL.Sem

/-- The shape relations of the precondition's operations. -/
theorem facts : Cert.Pre_finite_arguments7.Facts where
  bcast_S_S2048x1792 := by decide
  reducesTo_S2048x1792_S_d0_1 := by decide
  h_S_ := by decide

/-- The precondition's function being one makes every entry of the shifted columns' gradient real. -/
theorem all_real [Cert.Pre_finite_arguments7.Facts] (x0 : FVec Ideal S2048x512 .f32) (x1 : FVec Ideal S2048x256 .f32)
    (x2 : FVec Ideal S2048x1792 .f32) (x3 : FVec Ideal S1x1792 .f32)
    (h : Cert.Pre_finite_arguments7.fn (F := Ideal) x0 x1 x2 x3 = fun _ => 1#1) : ∀ i, IsReal (x2 i) := by
  have h0 := congrFun h (Shape.Idx.first Facts.h_S_)
  unfold Cert.Pre_finite_arguments7.fn at h0
  exact Cert.Finite.isReal_of_all x2 _ _ _ _ h0

/-- The precondition makes the entries of the shifted columns' gradient real. -/
theorem real (m : (ℓ : Loc Cert.Kernel7Ideal.nD Cert.Kernel7Ideal.τ Cert.Kernel7Ideal.sig) → Buf (Elt Ideal) ℓ)
    (h : Cert.Pre_Kernel7Ideal_finite_arguments7 (hPre_finite_arguments7 := facts) m) (c : Dev Cert.Kernel7Ideal.nD) :
    ∀ i, IsReal (m ((c : Thread Cert.Kernel7Ideal.nD Cert.Kernel7Ideal.τ).loc Cert.Kernel7Ideal.main_arg2) i) :=
  @all_real facts _ _ _ _ (h c)

end Cert.FiniteParts

end
-- ==== Proof.RefParts.lean ====
/- The reference's gradient of the projection's result, entry by entry. -/
module

public import proofs.«01_k».proof.Proof.Gen.Reference7Ideal.Read
public import proofs.«01_k».proof.Proof.Parts
public import proofs.«01_k».proof.Proof.RefForward
public import Idealize.ShloMosaic.Lib.ValueIdx
public import Idealize.ShloMosaic.Lib.IdealHost
public import Idealize.ShloMosaic.Lib.KernelVsHost

@[expose] public section

set_option maxRecDepth 16384

noncomputable section

namespace Cert.Reference7Ideal.Parts

open Cert.Reference7Ideal Cert.Reference7Ideal.Gen Cert.Reference7Ideal.Read Cert.Parts Cert.GateGrad Cert.Ffn
open Cert.ReferenceIdeal.Forward (ix2_of)
open Idealize.ShloMosaic Idealize.ShloMosaic.TcCoe Idealize.SL.Sem
open scoped BigOperators

variable (x0 : (⟨S2048x512, .f32⟩ : BufTy).Contents (Elt Ideal)) (x1 : (⟨S2048x256, .f32⟩ : BufTy).Contents (Elt Ideal))
  (x2 : (⟨S2048x1792, .f32⟩ : BufTy).Contents (Elt Ideal)) (x3 : (⟨S1x1792, .f32⟩ : BufTy).Contents (Elt Ideal))

/-- The entries of the reference's arguments. -/
def args : Args where
  Q t k := x0 (ix2 t k)
  KV t k := x1 (ix2 t k)
  S t n := x2 (ix2 t n)
  M n := x3 (ix2 0 n)

/-- A row of zeros put below an array that lacks its first row: the rows moved one up. -/
theorem pad_rows (x : S2047x1792.Idx → EReal) (u : Fin 2048 → EReal) (z : S_.Idx → EReal) (hz : ∀ i, z i = 0)
    (h : S2047x1792.Pads ![0, 0] ![1, 0] ![0, 0] S2048x1792) (hu : 0 < S_.numel) (t : Fin 2048) (n : Fin 1792)
    (hx : ∀ (a : Fin 2047) (b : Fin 2048), b.val = a.val + 1 → x (ix2 a n) = u b) :
    pad S2048x1792 ![0, 0] ![1, 0] ![0, 0] x z h hu (ix2 t n) = up u 1 t := by
  unfold up
  by_cases hq : t.val + 1 < 2048
  · rw [dif_pos hq]
    refine (pad_apply_of_inside _ _ _ x z h hu (ix2 t n) (ix2 ⟨t.val, by omega⟩ n) ?_).trans (hx _ _ rfl)
    intro a
    match a with
    | ⟨0, _⟩ => show t.val = 0 + t.val * 1; omega
    | ⟨1, _⟩ => show n.val = 0 + n.val * 1; omega
  · rw [dif_neg hq]
    refine (pad_apply_of_not_inside _ _ _ x z h hu (ix2 t n) 0 ?_).trans (hz _)
    intro hh
    have h3 : (t.val - 0) / 1 < 2047 := hh.2.2
    rw [Nat.div_one] at h3
    omega

/-- The share that goes to the row before. -/
theorem given_eq (t : Fin 2048) (n : Fin 1792) : val_main_v16 (F := Ideal) x2 x3 (ix2 t n) = x2 (ix2 t n) * x3 (ix2 0 n) := by
  rw [val_main_v16_apply, val_main_v14_apply, val_main_v15_apply]
  exact congrArg₂ (fun a b : EReal => a * b) (congrArg x2 (by idx_ext)) (congrArg x3 (ix2_of rfl rfl))

theorem back_eq (hs : ∀ i, IsReal (x2 i)) (t : Fin 2048) (n : Fin 1792) :
    val_main_v22 (F := Ideal) x2 x3 (ix2 t n) = back (fun t => x2 (ix2 t n)) (x3 (ix2 0 n)) t := by
  rw [val_main_v22_apply, val_main_v18_apply, val_main_v17_apply, val_main_v13_apply, given_eq]
  refine congrArg₂ (fun a b : EReal => a + b) ?_ ?_
  · exact (congrArg (fun a : EReal => a + -(x2 (ix2 t n) * x3 (ix2 0 n))) (congrArg x2 (by idx_ext))).trans (own _ (hs _))
  · refine Eq.trans ?_ (up_mul (fun t => x2 (ix2 t n)) (x3 (ix2 0 n)) t)
    refine pad_rows _ _ _ (fun _ => Ideal.ofBits_zero .f32) _ _ t n fun a b hb => ?_
    rw [val_main_v20_apply]
    refine Eq.trans (congrArg (val_main_v16 (F := Ideal) x2 x3) ?_) (given_eq x2 x3 b n)
    exact ix2_of (by show 1 + a.val = b.val; omega) rfl

/-- The gradient of the projection's result. -/
theorem dProj_eq (hs : ∀ i, IsReal (x2 i)) (t : Fin 2048) (j : Fin 2560) :
    val_main_v24 (F := Ideal) x0 x1 x2 x3 (ix2 t j) = dProj (args x0 x1 x2 x3) t j := by
  rw [val_main_v24_apply]
  refine (concatenate_eq x0 x1 _ concatenates_S2048x512_S2048x256_S2048x1792_S2048x2560_d1 t j).trans ?_
  exact congrArg (fun p => cat (fun k => x0 (ix2 t k)) (fun k => x1 (ix2 t k)) p j) (funext fun n => back_eq x2 x3 hs t n)

end Cert.Reference7Ideal.Parts

end
-- ==== Proof.ClaimsParts.lean ====
/- The claims of the projection's parts, one theorem each: the three programs run and leave their arguments alone, and the
   idealized kernel computes what the reference computes. -/
module

public import proofs.«01_k».proof.Proof.FiniteParts
public import proofs.«01_k».proof.Proof.Gen.Kernel7Ideal.Value
public import proofs.«01_k».proof.Proof.RefParts
public import proofs.«01_k».proof.Proof.Gen.Kernel7.Frame
public import proofs.«01_k».proof.Proof.Gen.Reference7Ideal.Run
public import Idealize.ShloMosaic.Lib.Quiescent
public import Idealize.ShloMosaic.Lib.Claim

@[expose] public section

set_option maxRecDepth 16384

noncomputable section

namespace Cert.Proof.ClaimsParts

open Idealize.ShloMosaic Idealize.ShloMosaic.TcCoe Idealize.SL.Sem Cert.GateGrad
open Cert.ReferenceIdeal.Forward (ix2_of)

theorem frame_p : Cert.quiescent_Kernel7 (hKernel7 := Cert.Kernel7.Gen.facts) := fun m ρ _ => Cert.Kernel7.Gen.frame m ρ

theorem frame_pi : Cert.quiescent_Kernel7Ideal (hKernel7Ideal := Cert.Kernel7Ideal.Gen.facts) :=
  fun m ρ _ => Cert.Kernel7Ideal.Gen.frame m ρ

theorem frame_pi_pre : Cert.quiescent_Kernel7Ideal_pre_finite_arguments7 (hKernel7Ideal := Cert.Kernel7Ideal.Gen.facts)
    (hPre_finite_arguments7 := Cert.FiniteParts.facts) :=
  fun m ρ _ => Cert.Kernel7Ideal.Gen.frame m ρ

theorem frame_ri : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem frame_ri_pre : Cert.quiescent_Reference7Ideal_pre_finite_arguments7 (hReference7Ideal := Cert.Reference7Ideal.Gen.facts)
    (hPre_finite_arguments7 := Cert.FiniteParts.facts) :=
  fun m ρ _ => frame_ri m ρ trivial

theorem preserves : Cert.preserves_Kernel7_Kernel7Ideal := trivial

theorem algebraic : Cert.algebraic_Kernel7Ideal_Reference7Ideal_pre_finite_arguments7 (hKernel7Ideal := Cert.Kernel7Ideal.Gen.facts)
    (hReference7Ideal := Cert.Reference7Ideal.Gen.facts) (hPre_finite_arguments7 := Cert.FiniteParts.facts) := by
  intro m ρ m' ρ' hpre hagree
  refine ⟨fun c => (Cert.Kernel7Ideal.Gen.dats m 0 c).arrAt 5 Cert.Kernel7Ideal.cfg0.N, ?_, ?_⟩
  · exact (θ_run Cert.Kernel7Ideal.defs _ _).mono (fun r h c => h c) (Cert.Kernel7Ideal.Value.run_blocks m ρ)
  · refine (θ_run Cert.Reference7Ideal.defs _ _).mono (fun r h c => ?_) (Cert.Reference7Ideal.Value.run (F := Ideal) m' ρ')
    obtain ⟨r0, a⟩ := h c
    obtain ⟨e0, e1, e2, e3⟩ := hagree c
    have hs := Cert.FiniteParts.real m hpre c
    refine ⟨r0.trans ((Cert.Reference7Ideal.Read.val_main_v24_eq _ _ _ _).trans ?_), a⟩
    refine Eq.trans ?_ (Cert.Kernel7Ideal.PartsArrays.arr5 m c).symm
    rw [e0, e1, e2, e3]
    funext i
    obtain ⟨p, q, rfl⟩ : ∃ p q, i = ix2 p q := ⟨i 0, i 1, ix2_of rfl rfl⟩
    exact Cert.Reference7Ideal.Parts.dProj_eq _ _ _ _ hs p q

end Cert.Proof.ClaimsParts

end
-- ==== Proof.lean ====
/- The whole claim: the seven programs' shape facts, then the claims of each program in their order. -/
module

public import proofs.«01_k».proof.Defs
public import proofs.«01_k».proof.Proof.Claims
public import proofs.«01_k».proof.Proof.ClaimsMid
public import proofs.«01_k».proof.Proof.ClaimsFirst
public import proofs.«01_k».proof.Proof.ClaimsLoss
public import proofs.«01_k».proof.Proof.ClaimsAdam
public import proofs.«01_k».proof.Proof.ClaimsBias
public import proofs.«01_k».proof.Proof.ClaimsParts

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Finite.facts, Cert.FiniteMid.facts, Cert.FiniteFirst.facts, Cert.FiniteLoss.facts, Cert.FiniteBias.facts,
    Cert.FiniteParts.facts,
    Claims.frame_p, Claims.frame_pi, Claims.frame_pi_pre, Claims.frame_ri, Claims.frame_ri_pre,
    ClaimsMid.frame_p, ClaimsMid.frame_pi, ClaimsMid.frame_pi_pre, ClaimsMid.frame_ri, ClaimsMid.frame_ri_pre,
    ClaimsFirst.frame_p, ClaimsFirst.frame_pi, ClaimsFirst.frame_pi_pre, ClaimsFirst.frame_ri, ClaimsFirst.frame_ri_pre,
    ClaimsLoss.frame_p, ClaimsLoss.frame_pi, ClaimsLoss.frame_pi_pre, ClaimsLoss.frame_ri, ClaimsLoss.frame_ri_pre,
    ClaimsAdam.frame_p, ClaimsAdam.frame_pi, ClaimsAdam.frame_ri,
    ClaimsBias.frame_p, ClaimsBias.frame_pi, ClaimsBias.frame_pi_pre, ClaimsBias.frame_ri, ClaimsBias.frame_ri_pre,
    ClaimsParts.frame_p, ClaimsParts.frame_pi, ClaimsParts.frame_pi_pre, ClaimsParts.frame_ri, ClaimsParts.frame_ri_pre,
    Claims.preserves, Claims.algebraic, ClaimsMid.preserves, ClaimsMid.algebraic,
    ClaimsFirst.preserves, ClaimsFirst.algebraic, ClaimsLoss.preserves, ClaimsLoss.algebraic,
    ClaimsAdam.preserves, ClaimsAdam.algebraic,
    ClaimsBias.preserves, ClaimsBias.algebraic,
    ClaimsParts.preserves, ClaimsParts.algebraic⟩

end Cert.Proof

end
